-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6)
      ∧ r.2.mem ((c.tc : Thread Cert.Down.nD Cert.Down.τ).loc Cert.Down.main_arg7) = m ((c.tc : Thread Cert.Down.nD Cert.Down.τ).loc Cert.Down.main_arg7)
      ∧ r.2.mem ((c.tc : Thread Cert.Down.nD Cert.Down.τ).loc Cert.Down.main_arg8) = m ((c.tc : Thread Cert.Down.nD Cert.Down.τ).loc Cert.Down.main_arg8))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
      ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
      ∧ r.2.mem ((c.tc : Thread Cert.DownIdeal.nD Cert.DownIdeal.τ).loc Cert.DownIdeal.main_arg8) = m ((c.tc : Thread Cert.DownIdeal.nD Cert.DownIdeal.τ).loc Cert.DownIdeal.main_arg8))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5)
      ∧ r.2.mem ((c.tc : Thread Cert.DownRefIdeal.nD Cert.DownRefIdeal.τ).loc Cert.DownRefIdeal.main_arg6) = m ((c.tc : Thread Cert.DownRefIdeal.nD Cert.DownRefIdeal.τ).loc Cert.DownRefIdeal.main_arg6)
      ∧ r.2.mem ((c.tc : Thread Cert.DownRefIdeal.nD Cert.DownRefIdeal.τ).loc Cert.DownRefIdeal.main_arg7) = m ((c.tc : Thread Cert.DownRefIdeal.nD Cert.DownRefIdeal.τ).loc Cert.DownRefIdeal.main_arg7)
      ∧ r.2.mem ((c.tc : Thread Cert.DownRefIdeal.nD Cert.DownRefIdeal.τ).loc Cert.DownRefIdeal.main_arg8) = m ((c.tc : Thread Cert.DownRefIdeal.nD Cert.DownRefIdeal.τ).loc Cert.DownRefIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)
      ∧ m' ((c.tc : Thread Cert.DownRefIdeal.nD Cert.DownRefIdeal.τ).loc Cert.DownRefIdeal.main_arg6) = m ((c.tc : Thread Cert.DownIdeal.nD Cert.DownIdeal.τ).loc Cert.DownIdeal.main_arg6)
      ∧ m' ((c.tc : Thread Cert.DownRefIdeal.nD Cert.DownRefIdeal.τ).loc Cert.DownRefIdeal.main_arg7) = m ((c.tc : Thread Cert.DownIdeal.nD Cert.DownIdeal.τ).loc Cert.DownIdeal.main_arg7)
      ∧ m' ((c.tc : Thread Cert.DownRefIdeal.nD Cert.DownRefIdeal.τ).loc Cert.DownRefIdeal.main_arg8) = m ((c.tc : Thread Cert.DownIdeal.nD Cert.DownIdeal.τ).loc Cert.DownIdeal.main_arg8)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)) (v2 : (c : Dev Cert.DownIdeal.nD) → Buf (Elt Ideal) ((c.tc : Thread Cert.DownIdeal.nD Cert.DownIdeal.τ).loc Cert.DownIdeal.main_v0_2)) (v3 : (c : Dev Cert.DownIdeal.nD) → Buf (Elt Ideal) ((c.tc : Thread Cert.DownIdeal.nD Cert.DownIdeal.τ).loc Cert.DownIdeal.main_v0_3)) (v4 : (c : Dev Cert.DownIdeal.nD) → Buf (Elt Ideal) ((c.tc : Thread Cert.DownIdeal.nD Cert.DownIdeal.τ).loc Cert.DownIdeal.main_v0_4)) (v5 : (c : Dev Cert.DownIdeal.nD) → Buf (Elt Ideal) ((c.tc : Thread Cert.DownIdeal.nD Cert.DownIdeal.τ).loc Cert.DownIdeal.main_v0_5)) (v6 : (c : Dev Cert.DownIdeal.nD) → Buf (Elt Ideal) ((c.tc : Thread Cert.DownIdeal.nD Cert.DownIdeal.τ).loc Cert.DownIdeal.main_v0_6)) (v7 : (c : Dev Cert.DownIdeal.nD) → Buf (Elt Ideal) ((c.tc : Thread Cert.DownIdeal.nD Cert.DownIdeal.τ).loc Cert.DownIdeal.main_v0_7)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_v0_2) = v2 c
          ∧ r.2.mem ((c.tc : Thread Cert.DownIdeal.nD Cert.DownIdeal.τ).loc Cert.DownIdeal.main_v0_3) = v3 c
          ∧ r.2.mem ((c.tc : Thread Cert.DownIdeal.nD Cert.DownIdeal.τ).loc Cert.DownIdeal.main_v0_4) = v4 c
          ∧ r.2.mem ((c.tc : Thread Cert.DownIdeal.nD Cert.DownIdeal.τ).loc Cert.DownIdeal.main_v0_5) = v5 c
          ∧ r.2.mem ((c.tc : Thread Cert.DownIdeal.nD Cert.DownIdeal.τ).loc Cert.DownIdeal.main_v0_6) = v6 c
          ∧ r.2.mem ((c.tc : Thread Cert.DownIdeal.nD Cert.DownIdeal.τ).loc Cert.DownIdeal.main_v0_7) = v7 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6)
          ∧ r.2.mem ((c.tc : Thread Cert.DownIdeal.nD Cert.DownIdeal.τ).loc Cert.DownIdeal.main_arg7) = m ((c.tc : Thread Cert.DownIdeal.nD Cert.DownIdeal.τ).loc Cert.DownIdeal.main_arg7)
          ∧ r.2.mem ((c.tc : Thread Cert.DownIdeal.nD Cert.DownIdeal.τ).loc Cert.DownIdeal.main_arg8) = m ((c.tc : Thread Cert.DownIdeal.nD Cert.DownIdeal.τ).loc Cert.DownIdeal.main_arg8))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v124) = v0 c
          ∧ r.2.mem ((c.tc : Thread Cert.DownRefIdeal.nD Cert.DownRefIdeal.τ).loc Cert.DownRefIdeal.main_v119) = v1 c
          ∧ r.2.mem ((c.tc : Thread Cert.DownRefIdeal.nD Cert.DownRefIdeal.τ).loc Cert.DownRefIdeal.main_v120) = v2 c
          ∧ r.2.mem ((c.tc : Thread Cert.DownRefIdeal.nD Cert.DownRefIdeal.τ).loc Cert.DownRefIdeal.main_v123) = v3 c
          ∧ r.2.mem ((c.tc : Thread Cert.DownRefIdeal.nD Cert.DownRefIdeal.τ).loc Cert.DownRefIdeal.main_v127_0) = v4 c
          ∧ r.2.mem ((c.tc : Thread Cert.DownRefIdeal.nD Cert.DownRefIdeal.τ).loc Cert.DownRefIdeal.main_v125) = v5 c
          ∧ r.2.mem ((c.tc : Thread Cert.DownRefIdeal.nD Cert.DownRefIdeal.τ).loc Cert.DownRefIdeal.main_v127_1) = v6 c
          ∧ r.2.mem ((c.tc : Thread Cert.DownRefIdeal.nD Cert.DownRefIdeal.τ).loc Cert.DownRefIdeal.main_v126) = v7 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5)
          ∧ r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6)
          ∧ r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7)
          ∧ r.2.mem ((c.tc : Thread Cert.DownRefIdeal.nD Cert.DownRefIdeal.τ).loc Cert.DownRefIdeal.main_arg8) = m' ((c.tc : Thread Cert.DownRefIdeal.nD Cert.DownRefIdeal.τ).loc Cert.DownRefIdeal.main_arg8))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownRefIdeal : Cert.DownRefIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownRefIdeal (hDownRefIdeal := hDownRefIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownRefIdeal (hDownIdeal := hDownIdeal) (hDownRefIdeal := hDownRefIdeal)
-- ==== Kernel.lean ====
abbrev S9216x2560 : Shape := ⟨2, ![9216, 2560]⟩
abbrev S9216x128 : Shape := ⟨2, ![9216, 128]⟩
abbrev S1x9216 : Shape := ⟨2, ![1, 9216]⟩
abbrev S512x2560 : Shape := ⟨2, ![512, 2560]⟩
abbrev S512x128 : Shape := ⟨2, ![512, 128]⟩
abbrev S1x512 : Shape := ⟨2, ![1, 512]⟩
abbrev S512 : Shape := ⟨1, ![512]⟩
abbrev S512x1 : Shape := ⟨2, ![512, 1]⟩
abbrev S128x512 : Shape := ⟨2, ![128, 512]⟩

abbrev nBuf : Space → Nat
  | .hbm => 4
  | .vmem => 8
  | .smem => 0
  | _ => 0

abbrev bufTy : (tb : Table) → Fin (tcTables nBuf tb) → BufTy
  | .hbm, ⟨0, _⟩ => ⟨S9216x2560, .bf16⟩
  | .hbm, ⟨1, _⟩ => ⟨S9216x2560, .i8⟩
  | .hbm, ⟨2, _⟩ => ⟨S9216x128, .f32⟩
  | .hbm, ⟨3, _⟩ => ⟨S1x9216, .f32⟩
  | .local _ .vmem, ⟨0, _⟩ => ⟨S512x2560, .bf16⟩
  | .local _ .vmem, ⟨1, _⟩ => ⟨S512x2560, .bf16⟩
  | .local _ .vmem, ⟨2, _⟩ => ⟨S512x2560, .i8⟩
  | .local _ .vmem, ⟨3, _⟩ => ⟨S512x2560, .i8⟩
  | .local _ .vmem, ⟨4, _⟩ => ⟨S512x128, .f32⟩
  | .local _ .vmem, ⟨5, _⟩ => ⟨S512x128, .f32⟩
  | .local _ .vmem, ⟨6, _⟩ => ⟨S1x512, .f32⟩
  | .local _ .vmem, ⟨7, _⟩ => ⟨S1x512, .f32⟩
  | _, _ => ⟨S9216x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S9216x2560 : Shape := ⟨2, ![9216, 2560]⟩
abbrev S_ : Shape := ⟨0, ![]⟩
abbrev S9216 : Shape := ⟨1, ![9216]⟩
abbrev S9216x1 : Shape := ⟨2, ![9216, 1]⟩
abbrev S9216x128 : Shape := ⟨2, ![9216, 128]⟩
abbrev S1x9216 : Shape := ⟨2, ![1, 9216]⟩

abbrev nBuf : Space → Nat
  | .hbm => 27
  | .vmem => 2
  | .smem => 0
  | _ => 0

abbrev bufTy : (tb : Table) → Fin (tcTables nBuf tb) → BufTy
  | .hbm, ⟨0, _⟩ => ⟨S9216x2560, .bf16⟩
  | .hbm, ⟨1, _⟩ => ⟨S9216x2560, .f32⟩
  | .hbm, ⟨2, _⟩ => ⟨S9216x2560, .f32⟩
  | .hbm, ⟨3, _⟩ => ⟨S_, .f32⟩
  | .hbm, ⟨4, _⟩ => ⟨S9216, .f32⟩
  | .hbm, ⟨5, _⟩ => ⟨S9216x1, .f32⟩
  | .hbm, ⟨6, _⟩ => ⟨S_, .f32⟩
  | .hbm, ⟨7, _⟩ => ⟨S9216x1, .f32⟩
  | .hbm, ⟨8, _⟩ => ⟨S9216x1, .i1⟩
  | .hbm, ⟨9, _⟩ => ⟨S_, .f32⟩
  | .hbm, ⟨10, _⟩ => ⟨S9216x1, .f32⟩
  | .hbm, ⟨11, _⟩ => ⟨S_, .f32⟩
  | .hbm, ⟨12, _⟩ => ⟨S9216x1, .f32⟩
  | .hbm, ⟨13, _⟩ => ⟨S9216x1, .f32⟩
  | .hbm, ⟨14, _⟩ => ⟨S9216x1, .f32⟩
  | .hbm, ⟨15, _⟩ => ⟨S9216x2560, .f32⟩
  | .hbm, ⟨16, _⟩ => ⟨S9216x2560, .f32⟩
  | .hbm, ⟨17, _⟩ => ⟨S9216x2560, .f32⟩
  | .hbm, ⟨18, _⟩ => ⟨S_, .f32⟩
  | .hbm, ⟨19, _⟩ => ⟨S9216x2560, .f32⟩
  | .hbm, ⟨20, _⟩ => ⟨S9216x2560, .f32⟩
  | .hbm, ⟨21, _⟩ => ⟨S_, .f32⟩
  | .hbm, ⟨22, _⟩ => ⟨S9216x2560, .f32⟩
  | .hbm, ⟨23, _⟩ => ⟨S9216x2560, .f32⟩
  | .hbm, ⟨24, _⟩ => ⟨S9216x128, .f32⟩
  | .hbm, ⟨25, _⟩ => ⟨S1x9216, .f32⟩
  | .hbm, ⟨26, _⟩ => ⟨S9216x2560, .i8⟩
  | .local _ .vmem, ⟨0, _⟩ => ⟨S9216x2560, .f32⟩
  | .local _ .vmem, ⟨1, _⟩ => ⟨S9216x2560, .i8⟩
  | _, _ => ⟨S9216x2560, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S9216x2560 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x2560 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Down.lean ====
abbrev S9216x10240 : Shape := ⟨2, ![9216, 10240]⟩
abbrev S9216x128 : Shape := ⟨2, ![9216, 128]⟩
abbrev S10240x2560 : Shape := ⟨2, ![10240, 2560]⟩
abbrev S10240x1280 : Shape := ⟨2, ![10240, 1280]⟩
abbrev S80x2560 : Shape := ⟨2, ![80, 2560]⟩
abbrev S9216x2560 : Shape := ⟨2, ![9216, 2560]⟩
abbrev S4x9216 : Shape := ⟨2, ![4, 9216]⟩
abbrev S4x2560 : Shape := ⟨2, ![4, 2560]⟩
abbrev S1x9216 : Shape := ⟨2, ![1, 9216]⟩
abbrev S384x1024 : Shape := ⟨2, ![384, 1024]⟩
abbrev S384x128 : Shape := ⟨2, ![384, 128]⟩
abbrev S1024x2560 : Shape := ⟨2, ![1024, 2560]⟩
abbrev S1024x1280 : Shape := ⟨2, ![1024, 1280]⟩
abbrev S8x2560 : Shape := ⟨2, ![8, 2560]⟩
abbrev S384x2560 : Shape := ⟨2, ![384, 2560]⟩
abbrev S4x384 : Shape := ⟨2, ![4, 384]⟩
abbrev S1x384 : Shape := ⟨2, ![1, 384]⟩
abbrev S5x384x2560 : Shape := ⟨3, ![5, 384, 2560]⟩
abbrev S384 : Shape := ⟨1, ![384]⟩
abbrev S384x1 : Shape := ⟨2, ![384, 1]⟩
abbrev S128x384 : Shape := ⟨2, ![128, 384]⟩
abbrev S32x128 : Shape := ⟨2, ![32, 128]⟩
abbrev S128x128 : Shape := ⟨2, ![128, 128]⟩
abbrev S32x128x1 : Shape := ⟨3, ![32, 128, 1]⟩
abbrev S1x128 : Shape := ⟨2, ![1, 128]⟩
abbrev S1x384x2560 : Shape := ⟨3, ![1, 384, 2560]⟩
abbrev S1x384x128 : Shape := ⟨3, ![1, 384, 128]⟩
abbrev S128 : Shape := ⟨1, ![128]⟩

abbrev nBuf : Space → Nat
  | .hbm => 17
  | .vmem => 37
  | .smem => 0
  | _ => 0

abbrev bufTy : (tb : Table) → Fin (tcTables nBuf tb) → BufTy
  | .hbm, ⟨0, _⟩ => ⟨S9216x10240, .f32⟩
  | .hbm, ⟨1, _⟩ => ⟨S9216x10240, .f32⟩
  | .hbm, ⟨2, _⟩ => ⟨S9216x10240, .bf16⟩
  | .hbm, ⟨3, _⟩ => ⟨S9216x10240, .bf16⟩
  | .hbm, ⟨4, _⟩ => ⟨S9216x128, .f32⟩
  | .hbm, ⟨5, _⟩ => ⟨S9216x128, .f32⟩
  | .hbm, ⟨6, _⟩ => ⟨S10240x2560, .bf16⟩
  | .hbm, ⟨7, _⟩ => ⟨S10240x1280, .i8⟩
  | .hbm, ⟨8, _⟩ => ⟨S80x2560, .f32⟩
  | .hbm, ⟨9, _⟩ => ⟨S9216x2560, .bf16⟩
  | .hbm, ⟨10, _⟩ => ⟨S4x9216, .f32⟩
  | .hbm, ⟨11, _⟩ => ⟨S4x2560, .f32⟩
  | .hbm, ⟨12, _⟩ => ⟨S1x9216, .f32⟩
  | .hbm, ⟨13, _⟩ => ⟨S9216x10240, .i8⟩
  | .hbm, ⟨14, _⟩ => ⟨S1x9216, .f32⟩
  | .hbm, ⟨15, _⟩ => ⟨S9216x10240, .i8⟩
  | .hbm, ⟨16, _⟩ => ⟨S1x9216, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .bf16⟩
  | .local _ .vmem, ⟨8, _⟩ => ⟨S384x128, .f32⟩
  | .local _ .vmem, ⟨9, _⟩ => ⟨S384x128, .f32⟩
  | .local _ .vmem, ⟨10, _⟩ => ⟨S384x128, .f32⟩
  | .local _ .vmem, ⟨11, _⟩ => ⟨S384x128, .f32⟩
  | .local _ .vmem, ⟨12, _⟩ => ⟨S1024x2560, .bf16⟩
  | .local _ .vmem, ⟨13, _⟩ => ⟨S1024x2560, .bf16⟩
  | .local _ .vmem, ⟨14, _⟩ => ⟨S1024x1280, .i8⟩
  | .local _ .vmem, ⟨15, _⟩ => ⟨S1024x1280, .i8⟩
  | .local _ .vmem, ⟨16, _⟩ => ⟨S8x2560, .f32⟩
  | .local _ .vmem, ⟨17, _⟩ => ⟨S8x2560, .f32⟩
  | .local _ .vmem, ⟨18, _⟩ => ⟨S384x2560, .bf16⟩
  | .local _ .vmem, ⟨19, _⟩ => ⟨S384x2560, .bf16⟩
  | .local _ .vmem, ⟨20, _⟩ => ⟨S4x384, .f32⟩
  | .local _ .vmem, ⟨21, _⟩ => ⟨S4x384, .f32⟩
  | .local _ .vmem, ⟨22, _⟩ => ⟨S4x2560, .f32⟩
  | .local _ .vmem, ⟨23, _⟩ => ⟨S1x384, .f32⟩
  | .local _ .vmem, ⟨24, _⟩ => ⟨S1x384, .f32⟩
  | .local _ .vmem, ⟨25, _⟩ => ⟨S384x1024, .i8⟩
  | .local _ .vmem, ⟨26, _⟩ => ⟨S384x1024, .i8⟩
  | .local _ .vmem, ⟨27, _⟩ => ⟨S1x384, .f32⟩
  | .local _ .vmem, ⟨28, _⟩ => ⟨S1x384, .f32⟩
  | .local _ .vmem, ⟨29, _⟩ => ⟨S384x1024, .i8⟩
  | .local _ .vmem, ⟨30, _⟩ => ⟨S384x1024, .i8⟩
  | .local _ .vmem, ⟨31, _⟩ => ⟨S1x384, .f32⟩
  | .local _ .vmem, ⟨32, _⟩ => ⟨S1x384, .f32⟩
  | .local _ .vmem, ⟨33, _⟩ => ⟨S1024x2560, .bf16⟩
  | .local _ .vmem, ⟨34, _⟩ => ⟨S384x128, .f32⟩
  | .local _ .vmem, ⟨35, _⟩ => ⟨S384x128, .f32⟩
  | .local _ .vmem, ⟨36, _⟩ => ⟨S5x384x2560, .f32⟩
  | _, _ => ⟨S9216x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![24, 10], ![false, false]⟩

def k0_cond2 (i : grid0.Coords) : BitVec 1 :=
  let arg1 : BitVec 32 := BitVec.ofNat 32 (i 1).val
  let c9_i32 : BitVec 32 := 9#32
  let v3962 : BitVec 1 := Scalar.cmpi .eq arg1 c9_i32
  let v3963 : BitVec 32 := Scalar.extui v3962
  let c0_i32_1488 : BitVec 32 := 0#32
  let v3964 : BitVec 1 := Scalar.cmpi .ne v3963 c0_i32_1488
  v3964

def k0_cond3 (i : grid0.Coords) : BitVec 1 :=
  let arg0 : BitVec 32 := BitVec.ofNat 32 (i 0).val
  let c0_i32_1489 : BitVec 32 := 0#32
  let v3965 : BitVec 1 := Scalar.cmpi .eq arg0 c0_i32_1489
  let v3966 : BitVec 32 := Scalar.extui v3965
  let c0_i32_1490 : BitVec 32 := 0#32
  let v3967 : BitVec 1 := Scalar.cmpi .ne v3966 c0_i32_1490
  v3967

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S384x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1280 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S8x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S384x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S4x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S4x2560 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S384x1024 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S384x1024 .i8 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x384 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]
-- ==== DownRefIdeal.lean ====
abbrev S9216x10240 : Shape := ⟨2, ![9216, 10240]⟩
abbrev S9216x128 : Shape := ⟨2, ![9216, 128]⟩
abbrev S10240x2560 : Shape := ⟨2, ![10240, 2560]⟩
abbrev S10240x1280 : Shape := ⟨2, ![10240, 1280]⟩
abbrev S80x2560 : Shape := ⟨2, ![80, 2560]⟩
abbrev S9216x2560 : Shape := ⟨2, ![9216, 2560]⟩
abbrev S_ : Shape := ⟨0, ![]⟩
abbrev S9216 : Shape := ⟨1, ![9216]⟩
abbrev S9216x1 : Shape := ⟨2, ![9216, 1]⟩
abbrev S80x1280 : Shape := ⟨2, ![80, 1280]⟩
abbrev S80x128x1280 : Shape := ⟨3, ![80, 128, 1280]⟩
abbrev S9216x1280 : Shape := ⟨2, ![9216, 1280]⟩
abbrev S9216x1280x1 : Shape := ⟨3, ![9216, 1280, 1]⟩
abbrev S9216x1280x2 : Shape := ⟨3, ![9216, 1280, 2]⟩
abbrev S1x9216x2560 : Shape := ⟨3, ![1, 9216, 2560]⟩
abbrev S4x9216x2560 : Shape := ⟨3, ![4, 9216, 2560]⟩
abbrev S4x9216 : Shape := ⟨2, ![4, 9216]⟩
abbrev S4x2560 : Shape := ⟨2, ![4, 2560]⟩
abbrev S1x9216 : Shape := ⟨2, ![1, 9216]⟩

abbrev nBuf : Space → Nat
  | .hbm => 165
  | .vmem => 4
  | .smem => 0
  | _ => 0

abbrev hbmTy0_0 (i : Nat) : BufTy := match i % 128 with
  | 0 => ⟨S9216x10240, .f32⟩
  | 1 => ⟨S9216x10240, .f32⟩
  | 2 => ⟨S9216x10240, .bf16⟩
  | 3 => ⟨S9216x10240, .bf16⟩
  | 4 => ⟨S9216x128, .f32⟩
  | 5 => ⟨S9216x128, .f32⟩
  | 6 => ⟨S10240x2560, .bf16⟩
  | 7 => ⟨S10240x1280, .i8⟩
  | 8 => ⟨S80x2560, .f32⟩
  | 9 => ⟨S9216x10240, .bf16⟩
  | 10 => ⟨S9216x2560, .f32⟩
  | 11 => ⟨S_, .f32⟩
  | 12 => ⟨S9216, .f32⟩
  | 13 => ⟨S9216x1, .f32⟩
  | 14 => ⟨S_, .f32⟩
  | 15 => ⟨S9216x1, .f32⟩
  | 16 => ⟨S9216x1, .i1⟩
  | 17 => ⟨S_, .f32⟩
  | 18 => ⟨S9216x1, .f32⟩
  | 19 => ⟨S_, .f32⟩
  | 20 => ⟨S9216x1, .f32⟩
  | 21 => ⟨S9216x1, .f32⟩
  | 22 => ⟨S9216x1, .f32⟩
  | 23 => ⟨S9216x10240, .f32⟩
  | 24 => ⟨S9216x10240, .f32⟩
  | 25 => ⟨S9216x10240, .f32⟩
  | 26 => ⟨S_, .f32⟩
  | 27 => ⟨S9216x10240, .f32⟩
  | 28 => ⟨S9216x10240, .f32⟩
  | 29 => ⟨S_, .f32⟩
  | 30 => ⟨S9216x10240, .f32⟩
  | 31 => ⟨S9216x10240, .f32⟩
  | 32 => ⟨S10240x1280, .i32⟩
  | 33 => ⟨S_, .i32⟩
  | 34 => ⟨S10240x1280, .i32⟩
  | 35 => ⟨S10240x1280, .i32⟩
  | 36 => ⟨S_, .i32⟩
  | 37 => ⟨S10240x1280, .i32⟩
  | 38 => ⟨S10240x1280, .i1⟩
  | 39 => ⟨S_, .i32⟩
  | 40 => ⟨S10240x1280, .i32⟩
  | 41 => ⟨S10240x1280, .i32⟩
  | 42 => ⟨S10240x1280, .i32⟩
  | 43 => ⟨S_, .i32⟩
  | 44 => ⟨S10240x1280, .i32⟩
  | 45 => ⟨S10240x1280, .i32⟩
  | 46 => ⟨S_, .i32⟩
  | 47 => ⟨S10240x1280, .i32⟩
  | 48 => ⟨S10240x1280, .i1⟩
  | 49 => ⟨S_, .i32⟩
  | 50 => ⟨S10240x1280, .i32⟩
  | 51 => ⟨S10240x1280, .i32⟩
  | 52 => ⟨S10240x1280, .i32⟩
  | 53 => ⟨S80x1280, .f32⟩
  | 54 => ⟨S80x128x1280, .f32⟩
  | 55 => ⟨S10240x1280, .f32⟩
  | 56 => ⟨S10240x1280, .bf16⟩
  | 57 => ⟨S80x1280, .f32⟩
  | 58 => ⟨S80x128x1280, .f32⟩
  | 59 => ⟨S10240x1280, .f32⟩
  | 60 => ⟨S10240x1280, .bf16⟩
  | 61 => ⟨S9216x10240, .bf16⟩
  | 62 => ⟨S10240x1280, .bf16⟩
  | 63 => ⟨S10240x1280, .bf16⟩
  | 64 => ⟨S9216x1280, .f32⟩
  | 65 => ⟨S9216x1280, .f32⟩
  | 66 => ⟨S9216x1280, .f32⟩
  | 67 => ⟨S10240x1280, .bf16⟩
  | 68 => ⟨S10240x1280, .bf16⟩
  | 69 => ⟨S9216x1280, .f32⟩
  | 70 => ⟨S9216x1280, .f32⟩
  | 71 => ⟨S9216x1280, .f32⟩
  | 72 => ⟨S9216x1280x1, .f32⟩
  | 73 => ⟨S9216x1280x1, .f32⟩
  | 74 => ⟨S9216x1280x2, .f32⟩
  | 75 => ⟨S9216x2560, .f32⟩
  | 76 => ⟨S9216x2560, .f32⟩
  | 77 => ⟨S9216x2560, .f32⟩
  | 78 => ⟨S_, .f32⟩
  | 79 => ⟨S9216, .f32⟩
  | 80 => ⟨S9216x1, .f32⟩
  | 81 => ⟨S_, .f32⟩
  | 82 => ⟨S9216x1, .f32⟩
  | 83 => ⟨S9216x1, .i1⟩
  | 84 => ⟨S_, .f32⟩
  | 85 => ⟨S9216x1, .f32⟩
  | 86 => ⟨S_, .f32⟩
  | 87 => ⟨S9216x1, .f32⟩
  | 88 => ⟨S9216x1, .f32⟩
  | 89 => ⟨S9216x1, .f32⟩
  | 90 => ⟨S9216x10240, .f32⟩
  | 91 => ⟨S9216x10240, .f32⟩
  | 92 => ⟨S9216x10240, .f32⟩
  | 93 => ⟨S_, .f32⟩
  | 94 => ⟨S9216x10240, .f32⟩
  | 95 => ⟨S9216x10240, .f32⟩
  | 96 => ⟨S_, .f32⟩
  | 97 => ⟨S9216x10240, .f32⟩
  | 98 => ⟨S9216x10240, .f32⟩
  | 99 => ⟨S10240x1280, .i32⟩
  | 100 => ⟨S_, .i32⟩
  | 101 => ⟨S10240x1280, .i32⟩
  | 102 => ⟨S10240x1280, .i32⟩
  | 103 => ⟨S_, .i32⟩
  | 104 => ⟨S10240x1280, .i32⟩
  | 105 => ⟨S10240x1280, .i1⟩
  | 106 => ⟨S_, .i32⟩
  | 107 => ⟨S10240x1280, .i32⟩
  | 108 => ⟨S10240x1280, .i32⟩
  | 109 => ⟨S10240x1280, .i32⟩
  | 110 => ⟨S_, .i32⟩
  | 111 => ⟨S10240x1280, .i32⟩
  | 112 => ⟨S10240x1280, .i32⟩
  | 113 => ⟨S_, .i32⟩
  | 114 => ⟨S10240x1280, .i32⟩
  | 115 => ⟨S10240x1280, .i1⟩
  | 116 => ⟨S_, .i32⟩
  | 117 => ⟨S10240x1280, .i32⟩
  | 118 => ⟨S10240x1280, .i32⟩
  | 119 => ⟨S10240x1280, .i32⟩
  | 120 => ⟨S80x1280, .f32⟩
  | 121 => ⟨S80x128x1280, .f32⟩
  | 122 => ⟨S10240x1280, .f32⟩
  | 123 => ⟨S10240x1280, .bf16⟩
  | 124 => ⟨S80x1280, .f32⟩
  | 125 => ⟨S80x128x1280, .f32⟩
  | 126 => ⟨S10240x1280, .f32⟩
  | 127 => ⟨S10240x1280, .bf16⟩
  | _ => ⟨S9216x10240, .f32⟩

abbrev hbmTy0_1 (i : Nat) : BufTy := match i % 128 with
  | 0 => ⟨S9216x10240, .bf16⟩
  | 1 => ⟨S10240x1280, .bf16⟩
  | 2 => ⟨S10240x1280, .bf16⟩
  | 3 => ⟨S9216x1280, .f32⟩
  | 4 => ⟨S9216x1280, .f32⟩
  | 5 => ⟨S9216x1280, .f32⟩
  | 6 => ⟨S10240x1280, .bf16⟩
  | 7 => ⟨S10240x1280, .bf16⟩
  | 8 => ⟨S9216x1280, .f32⟩
  | 9 => ⟨S9216x1280, .f32⟩
  | 10 => ⟨S9216x1280, .f32⟩
  | 11 => ⟨S9216x1280x1, .f32⟩
  | 12 => ⟨S9216x1280x1, .f32⟩
  | 13 => ⟨S9216x1280x2, .f32⟩
  | 14 => ⟨S9216x2560, .f32⟩
  | 15 => ⟨S1x9216x2560, .f32⟩
  | 16 => ⟨S1x9216x2560, .f32⟩
  | 17 => ⟨S1x9216x2560, .f32⟩
  | 18 => ⟨S1x9216x2560, .f32⟩
  | 19 => ⟨S4x9216x2560, .f32⟩
  | 20 => ⟨S1x9216x2560, .f32⟩
  | 21 => ⟨S4x9216x2560, .f32⟩
  | 22 => ⟨S4x9216x2560, .f32⟩
  | 23 => ⟨S4x9216x2560, .f32⟩
  | 24 => ⟨S_, .f32⟩
  | 25 => ⟨S4x9216, .f32⟩
  | 26 => ⟨S_, .f32⟩
  | 27 => ⟨S4x2560, .f32⟩
  | 28 => ⟨S9216x2560, .f32⟩
  | 29 => ⟨S_, .f32⟩
  | 30 => ⟨S9216, .f32⟩
  | 31 => ⟨S1x9216, .f32⟩
  | 32 => ⟨S9216x2560, .bf16⟩
  | 33 => ⟨S1x9216, .f32⟩
  | 34 => ⟨S1x9216, .f32⟩
  | 35 => ⟨S9216x10240, .i8⟩
  | 36 => ⟨S9216x10240, .i8⟩
  | _ => ⟨S9216x10240, .f32⟩

abbrev hbmTy (i : Nat) : BufTy := match i / 128 with
  | 0 => hbmTy0_0 i
  | 1 => hbmTy0_1 i
  | _ => ⟨S9216x10240, .f32⟩

abbrev bufTy : (tb : Table) → Fin (tcTables nBuf tb) → BufTy
  | .hbm, ⟨i, _⟩ => hbmTy i
  | .local _ .vmem, ⟨0, _⟩ => ⟨S9216x10240, .f32⟩
  | .local _ .vmem, ⟨1, _⟩ => ⟨S9216x10240, .f32⟩
  | .local _ .vmem, ⟨2, _⟩ => ⟨S9216x10240, .i8⟩
  | .local _ .vmem, ⟨3, _⟩ => ⟨S9216x10240, .i8⟩
  | _, _ => ⟨S9216x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_5 : Ref sig .tc := ⟨.hbm, 36, rfl⟩
abbrev main_v20 : Ref sig .tc := ⟨.hbm, 37, rfl⟩
abbrev main_v21 : Ref sig .tc := ⟨.hbm, 38, rfl⟩
abbrev main_c_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_7 : Ref sig .tc := ⟨.hbm, 43, rfl⟩
abbrev main_v25 : Ref sig .tc := ⟨.hbm, 44, rfl⟩
abbrev main_v26 : Ref sig .tc := ⟨.hbm, 45, rfl⟩
abbrev main_c_8 : Ref sig .tc := ⟨.hbm, 46, rfl⟩
abbrev main_v27 : Ref sig .tc := ⟨.hbm, 47, rfl⟩
abbrev main_v28 : Ref sig .tc := ⟨.hbm, 48, rfl⟩
abbrev main_c_9 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_10 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_cst_12 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_cst_15 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_16 : Ref sig .tc := ⟨.hbm, 100, rfl⟩
abbrev main_v73 : Ref sig .tc := ⟨.hbm, 101, rfl⟩
abbrev main_v74 : Ref sig .tc := ⟨.hbm, 102, rfl⟩
abbrev main_c_17 : Ref sig .tc := ⟨.hbm, 103, rfl⟩
abbrev main_v75 : Ref sig .tc := ⟨.hbm, 104, rfl⟩
abbrev main_v76 : Ref sig .tc := ⟨.hbm, 105, rfl⟩
abbrev main_c_18 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_19 : Ref sig .tc := ⟨.hbm, 110, rfl⟩
abbrev main_v80 : Ref sig .tc := ⟨.hbm, 111, rfl⟩
abbrev main_v81 : Ref sig .tc := ⟨.hbm, 112, rfl⟩
abbrev main_c_20 : Ref sig .tc := ⟨.hbm, 113, rfl⟩
abbrev main_v82 : Ref sig .tc := ⟨.hbm, 114, rfl⟩
abbrev main_v83 : Ref sig .tc := ⟨.hbm, 115, rfl⟩
abbrev main_c_21 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_cst_22 : Ref sig .tc := ⟨.hbm, 152, rfl⟩
abbrev main_v119 : Ref sig .tc := ⟨.hbm, 153, rfl⟩
abbrev main_cst_23 : Ref sig .tc := ⟨.hbm, 154, rfl⟩
abbrev main_v120 : Ref sig .tc := ⟨.hbm, 155, rfl⟩
abbrev main_v121 : Ref sig .tc := ⟨.hbm, 156, rfl⟩
abbrev main_cst_24 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127_0 : Ref sig .tc := ⟨.hbm, 163, rfl⟩
abbrev main_v127_1 : Ref sig .tc := ⟨.hbm, 164, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S9216x10240 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x10240 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x10240 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Run.Runs.lean ====
/- The `down` program at exact values: the branch conditions over the grid, where the windows are idle, and the staging and scratch buffers. -/
module

public import proofs.«01_k».proof.Proof.Gen.DownIdeal.Launch
public import proofs.«01_k».proof.Proof.Gen.DownIdeal.Skeleton
public import proofs.«01_k».proof.Proof.Gen.DownIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.DownIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The program up to the region -/

/-- The buffers when the region is entered. -/
abbrev V (c : Dev nD) (b : Ref sig .tc) : Buf (Elt F) ((c : Thread nD τ).loc b) := m ((c : Thread nD τ).loc b)

set_option maxHeartbeats 800000 in
/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-! ## The windows' blocks -/

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input 0's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's buffer holds its block at every point. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's buffer holds its block at every point. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's buffer holds its block at every point. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input 5's buffer holds its block at every point. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input 6's buffer holds its block at every point. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input 7's buffer holds its block at every point. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input 8's buffer holds its block at every point. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1020000 in
/-- The arguments end unchanged, from what a run ends with. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c)))⟩) h

/-! ## The body's branch conditions -/

/-- The condition of the body's branch 0, from the grid coordinates. -/
abbrev cond0_0 (i : grid0.Coords) : Prop := k0_cond1 i = 1#1
/-- It holds at the points ≡ 0 (mod 10) — by arithmetic of the point. -/
theorem hcond0_0 : ∀ t : Fin cfg0.N, cond0_0 (grid0.coords t) ↔ t.val % 10 = 0 :=
  (fun t => by
    have ht : t.val < 240 := Nat.lt_of_lt_of_eq t.isLt N_0
    have e0 : (grid0.coords t 0).val = t.val / 10 % 24 := Pipeline.Grid.coords_val t 0 (by decide) rfl
    have e1 : (grid0.coords t 1).val = t.val / 1 % 10 := Pipeline.Grid.coords_val t 1 (by decide) rfl
    simp only [cond0_0, k0_cond1, e0, e1]
    word_cmp
   : ∀ t : Fin grid0.N, cond0_0 (grid0.coords t) ↔ t.val % 10 = 0)

/-- The condition of the body's branch 1, from the grid coordinates. -/
abbrev cond0_1 (i : grid0.Coords) : Prop := k0_cond2 i = 1#1
/-- It holds at the points ≡ 9 (mod 10) — by arithmetic of the point. -/
theorem hcond0_1 : ∀ t : Fin cfg0.N, cond0_1 (grid0.coords t) ↔ t.val % 10 = 9 :=
  (fun t => by
    have ht : t.val < 240 := Nat.lt_of_lt_of_eq t.isLt N_0
    have e0 : (grid0.coords t 0).val = t.val / 10 % 24 := Pipeline.Grid.coords_val t 0 (by decide) rfl
    have e1 : (grid0.coords t 1).val = t.val / 1 % 10 := Pipeline.Grid.coords_val t 1 (by decide) rfl
    simp only [cond0_1, k0_cond2, e0, e1]
    word_cmp
   : ∀ t : Fin grid0.N, cond0_1 (grid0.coords t) ↔ t.val % 10 = 9)

/-- The condition of the body's branch 2, from the grid coordinates. -/
abbrev cond0_2 (i : grid0.Coords) : Prop := k0_cond3 i = 1#1
/-- It holds at the points before point 10 — by arithmetic of the point. -/
theorem hcond0_2 : ∀ t : Fin cfg0.N, cond0_2 (grid0.coords t) ↔ t.val < 10 :=
  (fun t => by
    have ht : t.val < 240 := Nat.lt_of_lt_of_eq t.isLt N_0
    have e0 : (grid0.coords t 0).val = t.val / 10 % 24 := Pipeline.Grid.coords_val t 0 (by decide) rfl
    have e1 : (grid0.coords t 1).val = t.val / 1 % 10 := Pipeline.Grid.coords_val t 1 (by decide) rfl
    simp only [cond0_2, k0_cond3, e0, e1]
    word_cmp
   : ∀ t : Fin grid0.N, cond0_2 (grid0.coords t) ↔ t.val < 10)

/-! ## Where the windows are idle -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- Window 3 is never idle. -/
theorem liveAt0_3 : ∀ t : Fin cfg0.N, cfg0.idle 3 (grid0.coords t) = false := fun _ => rfl
/-- Window 4 is never idle. -/
theorem liveAt0_4 : ∀ t : Fin cfg0.N, cfg0.idle 4 (grid0.coords t) = false := fun _ => rfl
/-- Window 5 is never idle. -/
theorem liveAt0_5 : ∀ t : Fin cfg0.N, cfg0.idle 5 (grid0.coords t) = false := fun _ => rfl
/-- Window 6 is never idle. -/
theorem liveAt0_6 : ∀ t : Fin cfg0.N, cfg0.idle 6 (grid0.coords t) = false := fun _ => rfl
/-- Window 7 is never idle. -/
theorem liveAt0_7 : ∀ t : Fin cfg0.N, cfg0.idle 7 (grid0.coords t) = false := fun _ => rfl
/-- Window 8 is never idle. -/
theorem liveAt0_8 : ∀ t : Fin cfg0.N, cfg0.idle 8 (grid0.coords t) = false := fun _ => rfl
/-- Window 13 is never idle. -/
theorem liveAt0_13 : ∀ t : Fin cfg0.N, cfg0.idle 13 (grid0.coords t) = false := fun _ => rfl
/-- Window 15 is never idle. -/
theorem liveAt0_15 : ∀ t : Fin cfg0.N, cfg0.idle 15 (grid0.coords t) = false := fun _ => rfl
/-- Case A stores nothing into output 9. -/
theorem idleAt0_9_A : ∀ t : Fin cfg0.N, cond0_0 (grid0.coords t) → ¬cond0_1 (grid0.coords t) → cfg0.idle 9 (grid0.coords t) = true := by decide +kernel
/-- Output 9 is not written back at the points of case A. -/
theorem noFlush0_9_A : ∀ t : Fin cfg0.N, cond0_0 (grid0.coords t) → ¬cond0_1 (grid0.coords t) → (cfg0.win 9).flush t = false := by decide +kernel
/-- Case B stores nothing into output 9. -/
theorem idleAt0_9_B : ∀ t : Fin cfg0.N, ¬cond0_0 (grid0.coords t) → ¬cond0_1 (grid0.coords t) → cfg0.idle 9 (grid0.coords t) = true := by decide +kernel
/-- Output 9 is not written back at the points of case B. -/
theorem noFlush0_9_B : ∀ t : Fin cfg0.N, ¬cond0_0 (grid0.coords t) → ¬cond0_1 (grid0.coords t) → (cfg0.win 9).flush t = false := by decide +kernel
/-- Case C stores into output 9. -/
theorem liveAt0_9_C : ∀ t : Fin cfg0.N, ¬cond0_0 (grid0.coords t) → cond0_1 (grid0.coords t) → cond0_2 (grid0.coords t) → cfg0.idle 9 (grid0.coords t) = false := by decide +kernel
/-- Case D stores into output 9. -/
theorem liveAt0_9_D : ∀ t : Fin cfg0.N, ¬cond0_0 (grid0.coords t) → cond0_1 (grid0.coords t) → ¬cond0_2 (grid0.coords t) → cfg0.idle 9 (grid0.coords t) = false := by decide +kernel
/-- Case A stores nothing into output 10. -/
theorem idleAt0_10_A : ∀ t : Fin cfg0.N, cond0_0 (grid0.coords t) → ¬cond0_1 (grid0.coords t) → cfg0.idle 10 (grid0.coords t) = true := by decide +kernel
/-- Output 10 is not written back at the points of case A. -/
theorem noFlush0_10_A : ∀ t : Fin cfg0.N, cond0_0 (grid0.coords t) → ¬cond0_1 (grid0.coords t) → (cfg0.win 10).flush t = false := by decide +kernel
/-- Case B stores nothing into output 10. -/
theorem idleAt0_10_B : ∀ t : Fin cfg0.N, ¬cond0_0 (grid0.coords t) → ¬cond0_1 (grid0.coords t) → cfg0.idle 10 (grid0.coords t) = true := by decide +kernel
/-- Output 10 is not written back at the points of case B. -/
theorem noFlush0_10_B : ∀ t : Fin cfg0.N, ¬cond0_0 (grid0.coords t) → ¬cond0_1 (grid0.coords t) → (cfg0.win 10).flush t = false := by decide +kernel
/-- Case C stores into output 10. -/
theorem liveAt0_10_C : ∀ t : Fin cfg0.N, ¬cond0_0 (grid0.coords t) → cond0_1 (grid0.coords t) → cond0_2 (grid0.coords t) → cfg0.idle 10 (grid0.coords t) = false := by decide +kernel
/-- Case D stores into output 10. -/
theorem liveAt0_10_D : ∀ t : Fin cfg0.N, ¬cond0_0 (grid0.coords t) → cond0_1 (grid0.coords t) → ¬cond0_2 (grid0.coords t) → cfg0.idle 10 (grid0.coords t) = false := by decide +kernel
/-- Whether output 11's buffer holds nothing stored since entry or since its last write-back, a bit for each position. -/
def freshTab0_11 : ℕ → Bool
  | 0 => true
  | n + 1 => (0x8000000000000000000000000000000000000000000000000000000001ff : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- Case A stores nothing into output 11. -/
theorem idleAt0_11_A : ∀ t : Fin cfg0.N, cond0_0 (grid0.coords t) → ¬cond0_1 (grid0.coords t) → cfg0.idle 11 (grid0.coords t) = true := by decide +kernel
/-- Output 11 is not written back at the points of case A. -/
theorem noFlush0_11_A : ∀ t : Fin cfg0.N, cond0_0 (grid0.coords t) → ¬cond0_1 (grid0.coords t) → (cfg0.win 11).flush t = false := by decide +kernel
/-- Case B stores nothing into output 11. -/
theorem idleAt0_11_B : ∀ t : Fin cfg0.N, ¬cond0_0 (grid0.coords t) → ¬cond0_1 (grid0.coords t) → cfg0.idle 11 (grid0.coords t) = true := by decide +kernel
/-- Output 11 is not written back at the points of case B. -/
theorem noFlush0_11_B : ∀ t : Fin cfg0.N, ¬cond0_0 (grid0.coords t) → ¬cond0_1 (grid0.coords t) → (cfg0.win 11).flush t = false := by decide +kernel
/-- Case C stores into output 11. -/
theorem liveAt0_11_C : ∀ t : Fin cfg0.N, ¬cond0_0 (grid0.coords t) → cond0_1 (grid0.coords t) → cond0_2 (grid0.coords t) → cfg0.idle 11 (grid0.coords t) = false := by decide +kernel
/-- Case D stores into output 11. -/
theorem liveAt0_11_D : ∀ t : Fin cfg0.N, ¬cond0_0 (grid0.coords t) → cond0_1 (grid0.coords t) → ¬cond0_2 (grid0.coords t) → cfg0.idle 11 (grid0.coords t) = false := by decide +kernel
/-- At the points of case D output 11's buffer holds something stored since its last write-back. -/
theorem notFresh0_11_D : ∀ t : Fin cfg0.N, ¬cond0_0 (grid0.coords t) → cond0_1 (grid0.coords t) → ¬cond0_2 (grid0.coords t) → cfg0.fresh 11 t.val = false := by
  intro t; rw [fresh0_11_eq t]; revert t; decide +kernel
/-- Case A stores nothing into output 12. -/
theorem idleAt0_12_A : ∀ t : Fin cfg0.N, cond0_0 (grid0.coords t) → ¬cond0_1 (grid0.coords t) → cfg0.idle 12 (grid0.coords t) = true := by decide +kernel
/-- Output 12 is not written back at the points of case A. -/
theorem noFlush0_12_A : ∀ t : Fin cfg0.N, cond0_0 (grid0.coords t) → ¬cond0_1 (grid0.coords t) → (cfg0.win 12).flush t = false := by decide +kernel
/-- Case B stores nothing into output 12. -/
theorem idleAt0_12_B : ∀ t : Fin cfg0.N, ¬cond0_0 (grid0.coords t) → ¬cond0_1 (grid0.coords t) → cfg0.idle 12 (grid0.coords t) = true := by decide +kernel
/-- Output 12 is not written back at the points of case B. -/
theorem noFlush0_12_B : ∀ t : Fin cfg0.N, ¬cond0_0 (grid0.coords t) → ¬cond0_1 (grid0.coords t) → (cfg0.win 12).flush t = false := by decide +kernel
/-- Case C stores into output 12. -/
theorem liveAt0_12_C : ∀ t : Fin cfg0.N, ¬cond0_0 (grid0.coords t) → cond0_1 (grid0.coords t) → cond0_2 (grid0.coords t) → cfg0.idle 12 (grid0.coords t) = false := by decide +kernel
/-- Case D stores into output 12. -/
theorem liveAt0_12_D : ∀ t : Fin cfg0.N, ¬cond0_0 (grid0.coords t) → cond0_1 (grid0.coords t) → ¬cond0_2 (grid0.coords t) → cfg0.idle 12 (grid0.coords t) = false := by decide +kernel
/-- Whether output 14's buffer holds nothing stored since entry or since its last write-back, a bit for each position. -/
def freshTab0_14 : ℕ → Bool
  | 0 => true
  | n + 1 => (0x802008020080200802008020080200802008020080200802008020080200 : ℕ).testBit n
theorem freshTab0_14_step : ∀ t : Fin cfg0.N,
    freshTab0_14 (t.val + 1) = ((cfg0.win 14).flush t || (cfg0.idle 14 (cfg0.grid.coords t) && freshTab0_14 t.val)) := by decide +kernel
theorem fresh0_14_eq (t : Fin cfg0.N) : cfg0.fresh 14 t.val = freshTab0_14 t.val :=
  Pipeline.Cfg.fresh_tab cfg0 14 freshTab0_14 rfl freshTab0_14_step t.val (Nat.le_of_lt t.isLt)
/-- Case A stores into output 14. -/
theorem liveAt0_14_A : ∀ t : Fin cfg0.N, cond0_0 (grid0.coords t) → ¬cond0_1 (grid0.coords t) → cfg0.idle 14 (grid0.coords t) = false := by decide +kernel
/-- Case B stores nothing into output 14. -/
theorem idleAt0_14_B : ∀ t : Fin cfg0.N, ¬cond0_0 (grid0.coords t) → ¬cond0_1 (grid0.coords t) → cfg0.idle 14 (grid0.coords t) = true := by decide +kernel
/-- Output 14 is not written back at the points of case B. -/
theorem noFlush0_14_B : ∀ t : Fin cfg0.N, ¬cond0_0 (grid0.coords t) → ¬cond0_1 (grid0.coords t) → (cfg0.win 14).flush t = false := by decide +kernel
/-- At the points of case C output 14 is idle: the case stores nothing into it. -/
theorem idleAt0_14_C : ∀ t : Fin cfg0.N, ¬cond0_0 (grid0.coords t) → cond0_1 (grid0.coords t) → cond0_2 (grid0.coords t) → cfg0.idle 14 (grid0.coords t) = true := by decide +kernel
/-- At the points of case C output 14's block is written back, at the contents an earlier point of the same row tile stored. -/
theorem flushAt0_14_C : ∀ t : Fin cfg0.N, ¬cond0_0 (grid0.coords t) → cond0_1 (grid0.coords t) → cond0_2 (grid0.coords t) → (cfg0.win 14).flush t = true := by decide +kernel
/-- At the points of case C output 14's buffer holds something stored since its last write-back. -/
theorem notFresh0_14_C : ∀ t : Fin cfg0.N, ¬cond0_0 (grid0.coords t) → cond0_1 (grid0.coords t) → cond0_2 (grid0.coords t) → cfg0.fresh 14 t.val = false := by
  intro t; rw [fresh0_14_eq t]; revert t; decide +kernel
/-- At the points of case D output 14 is idle: the case stores nothing into it. -/
theorem idleAt0_14_D : ∀ t : Fin cfg0.N, ¬cond0_0 (grid0.coords t) → cond0_1 (grid0.coords t) → ¬cond0_2 (grid0.coords t) → cfg0.idle 14 (grid0.coords t) = true := by decide +kernel
/-- At the points of case D output 14's block is written back, at the contents an earlier point of the same row tile stored. -/
theorem flushAt0_14_D : ∀ t : Fin cfg0.N, ¬cond0_0 (grid0.coords t) → cond0_1 (grid0.coords t) → ¬cond0_2 (grid0.coords t) → (cfg0.win 14).flush t = true := by decide +kernel
/-- At the points of case D output 14's buffer holds something stored since its last write-back. -/
theorem notFresh0_14_D : ∀ t : Fin cfg0.N, ¬cond0_0 (grid0.coords t) → cond0_1 (grid0.coords t) → ¬cond0_2 (grid0.coords t) → cfg0.fresh 14 t.val = false := by
  intro t; rw [fresh0_14_eq t]; revert t; decide +kernel
/-- Whether output 16's buffer holds nothing stored since entry or since its last write-back, a bit for each position. -/
def freshTab0_16 : ℕ → Bool
  | 0 => true
  | n + 1 => (0x802008020080200802008020080200802008020080200802008020080200 : ℕ).testBit n
theorem freshTab0_16_step : ∀ t : Fin cfg0.N,
    freshTab0_16 (t.val + 1) = ((cfg0.win 16).flush t || (cfg0.idle 16 (cfg0.grid.coords t) && freshTab0_16 t.val)) := by decide +kernel
theorem fresh0_16_eq (t : Fin cfg0.N) : cfg0.fresh 16 t.val = freshTab0_16 t.val :=
  Pipeline.Cfg.fresh_tab cfg0 16 freshTab0_16 rfl freshTab0_16_step t.val (Nat.le_of_lt t.isLt)
/-- Case A stores into output 16. -/
theorem liveAt0_16_A : ∀ t : Fin cfg0.N, cond0_0 (grid0.coords t) → ¬cond0_1 (grid0.coords t) → cfg0.idle 16 (grid0.coords t) = false := by decide +kernel
/-- Case B stores nothing into output 16. -/
theorem idleAt0_16_B : ∀ t : Fin cfg0.N, ¬cond0_0 (grid0.coords t) → ¬cond0_1 (grid0.coords t) → cfg0.idle 16 (grid0.coords t) = true := by decide +kernel
/-- Output 16 is not written back at the points of case B. -/
theorem noFlush0_16_B : ∀ t : Fin cfg0.N, ¬cond0_0 (grid0.coords t) → ¬cond0_1 (grid0.coords t) → (cfg0.win 16).flush t = false := by decide +kernel
/-- At the points of case C output 16 is idle: the case stores nothing into it. -/
theorem idleAt0_16_C : ∀ t : Fin cfg0.N, ¬cond0_0 (grid0.coords t) → cond0_1 (grid0.coords t) → cond0_2 (grid0.coords t) → cfg0.idle 16 (grid0.coords t) = true := by decide +kernel
/-- At the points of case C output 16's block is written back, at the contents an earlier point of the same row tile stored. -/
theorem flushAt0_16_C : ∀ t : Fin cfg0.N, ¬cond0_0 (grid0.coords t) → cond0_1 (grid0.coords t) → cond0_2 (grid0.coords t) → (cfg0.win 16).flush t = true := by decide +kernel
/-- At the points of case C output 16's buffer holds something stored since its last write-back. -/
theorem notFresh0_16_C : ∀ t : Fin cfg0.N, ¬cond0_0 (grid0.coords t) → cond0_1 (grid0.coords t) → cond0_2 (grid0.coords t) → cfg0.fresh 16 t.val = false := by
  intro t; rw [fresh0_16_eq t]; revert t; decide +kernel
/-- At the points of case D output 16 is idle: the case stores nothing into it. -/
theorem idleAt0_16_D : ∀ t : Fin cfg0.N, ¬cond0_0 (grid0.coords t) → cond0_1 (grid0.coords t) → ¬cond0_2 (grid0.coords t) → cfg0.idle 16 (grid0.coords t) = true := by decide +kernel
/-- At the points of case D output 16's block is written back, at the contents an earlier point of the same row tile stored. -/
theorem flushAt0_16_D : ∀ t : Fin cfg0.N, ¬cond0_0 (grid0.coords t) → cond0_1 (grid0.coords t) → ¬cond0_2 (grid0.coords t) → (cfg0.win 16).flush t = true := by decide +kernel
/-- At the points of case D output 16's buffer holds something stored since its last write-back. -/
theorem notFresh0_16_D : ∀ t : Fin cfg0.N, ¬cond0_0 (grid0.coords t) → cond0_1 (grid0.coords t) → ¬cond0_2 (grid0.coords t) → cfg0.fresh 16 t.val = false := by
  intro t; rw [fresh0_16_eq t]; revert t; decide +kernel

/-! ## The kernel body on any staging memrefs: a subtype the run finds -/

/-- A buffer of output 9, through which its contents are stated. -/
abbrev VO0_9 : View sig .tc .vmem S384x2560 .bf16 := (Memref.whole cc0_stg9_0 : Memref sig .tc .vmem S384x2560 .bf16).view
/-- A buffer of output 10, through which its contents are stated. -/
abbrev VO0_10 : View sig .tc .vmem S4x384 .f32 := (Memref.whole cc0_stg10_0 : Memref sig .tc .vmem S4x384 .f32).view
/-- A buffer of output 11, through which its contents are stated. -/
abbrev VO0_11 : View sig .tc .vmem S4x2560 .f32 := (Memref.whole cc0_stg11_0 : Memref sig .tc .vmem S4x2560 .f32).view
/-- A buffer of output 12, through which its contents are stated. -/
abbrev VO0_12 : View sig .tc .vmem S1x384 .f32 := (Memref.whole cc0_stg12_0 : Memref sig .tc .vmem S1x384 .f32).view
/-- A buffer of output 13, through which its contents are stated. -/
abbrev VO0_13 : View sig .tc .vmem S384x1024 .i8 := (Memref.whole cc0_stg13_0 : Memref sig .tc .vmem S384x1024 .i8).view
/-- A buffer of output 14, through which its contents are stated. -/
abbrev VO0_14 : View sig .tc .vmem S1x384 .f32 := (Memref.whole cc0_stg14_0 : Memref sig .tc .vmem S1x384 .f32).view
/-- A buffer of output 15, through which its contents are stated. -/
abbrev VO0_15 : View sig .tc .vmem S384x1024 .i8 := (Memref.whole cc0_stg15_0 : Memref sig .tc .vmem S384x1024 .i8).view
/-- A buffer of output 16, through which its contents are stated. -/
abbrev VO0_16 : View sig .tc .vmem S1x384 .f32 := (Memref.whole cc0_stg16_0 : Memref sig .tc .vmem S1x384 .f32).view
/-- Each window's buffer at point `t`. -/
abbrev ms0_0 (t : Fin cfg0.N) : Memref sig .tc .vmem S384x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S384x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S384x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S384x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S384x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S384x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x2560 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1280 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x2560 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S384x2560 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S4x384 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4x2560 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x384 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S384x1024 .i8 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x384 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S384x1024 .i8 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x384 .f32 := win0_16.stage (cfg0.slots t 16)
abbrev hs0_16 (t : Fin cfg0.N) : (ms0_16 t).IsWhole := hstage0_16 ((cfg0.slots t 16).cast nbuf0_16)
/-- The scratch operands: whole scoped buffers of the kernel's own, passed beside the windows. -/
abbrev scM0_0 : Memref sig .tc .vmem S1024x2560 .bf16 := Memref.whole cc0_scratch0
abbrev scM0_1 : Memref sig .tc .vmem S384x128 .f32 := Memref.whole cc0_scratch1
abbrev scM0_2 : Memref sig .tc .vmem S384x128 .f32 := Memref.whole cc0_scratch2
abbrev scM0_3 : Memref sig .tc .vmem S5x384x2560 .f32 := Memref.whole cc0_scratch3
/-- The scratch `a20`, as a view. -/
abbrev VS0_1 : View sig .tc .vmem S384x128 .f32 := scM0_1.view
/-- The scratch `a21`, as a view. -/
abbrev VS0_2 : View sig .tc .vmem S384x128 .f32 := scM0_2.view
/-- The scratch `a22`, as a view. -/
abbrev VS0_3 : View sig .tc .vmem S5x384x2560 .f32 := scM0_3.view

/-- The invariant with the scratch buffers named. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.DownIdeal.Run

end
-- ==== Proof.Run.RunA.lean ====
/- The whole body of `down` run in case A of its branches: what each buffer ends with. -/
module

public import proofs.«01_k».proof.Proof.Run.Runs

@[expose] public section

set_option maxRecDepth 16384

noncomputable section

namespace Cert.DownIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3968000 in
/-- What the body's stores leave in each buffer in case A, as a list of stores, with the proof that the body runs to it
    from the inputs' blocks and the contents the point before left. The lists are the witness that the run finds. -/
noncomputable def kernelRun0_A (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : cond0_0 i) (hc1 : ¬cond0_1 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) :
    Σ' (L9 : List (View.Piece (Elt F) S384x2560 .bf16)), Σ' (L10 : List (View.Piece (Elt F) S4x384 .f32)), Σ' (L11 : List (View.Piece (Elt F) S4x2560 .f32)), Σ' (L12 : List (View.Piece (Elt F) S1x384 .f32)), Σ' (L13 : List (View.Piece (Elt F) S384x1024 .i8)), Σ' (L14 : List (View.Piece (Elt F) S1x384 .f32)), Σ' (L15 : List (View.Piece (Elt F) S384x1024 .i8)), Σ' (L16 : List (View.Piece (Elt F) S1x384 .f32)), Σ' (LS1 : List (View.Piece (Elt F) S384x128 .f32)), Σ' (LS2 : List (View.Piece (Elt F) S384x128 .f32)), Σ' (LS3 : List (View.Piece (Elt F) S5x384x2560 .f32)), { LT0 : List (View.Piece (Elt F) S1024x2560 .bf16) //
      ∀ (xi9 : Vec F S384x2560 .bf16) (xi10 : Vec F S4x384 .f32) (xi11 : Vec F S4x2560 .f32) (xi12 : Vec F S1x384 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare xi9 ∗ owns (c : Thread nD τ) a12 fullShare xi10 ∗ owns (c : Thread nD τ) a13 fullShare xi11 ∗ owns (c : Thread nD τ) a14 fullShare xi12 ∗ (∃ d, owns (c : Thread nD τ) a15 fullShare d) ∗ (∃ d, owns (c : Thread nD τ) a16 fullShare d) ∗ (∃ d, owns (c : Thread nD τ) a17 fullShare d) ∗ (∃ d, owns (c : Thread nD τ) a18 fullShare d) ∗ (∃ d, owns (c : Thread nD τ) a19 fullShare d) ∗ (∃ d, owns (c : Thread nD τ) a20 fullShare d) ∗ (∃ d, owns (c : Thread nD τ) a21 fullShare d) ∗ (∃ d, owns (c : Thread nD τ) a22 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare xi9 ∗ owns (c : Thread nD τ) a12 fullShare xi10 ∗ owns (c : Thread nD τ) a13 fullShare xi11 ∗ owns (c : Thread nD τ) a14 fullShare xi12 ∗ (∃ f, a15.view.loc (c : Thread nD τ) ↦[a15.view.set]{fullShare} a15.view.writes (Elt F) f L13) ∗ (∃ f, a16.view.loc (c : Thread nD τ) ↦[a16.view.set]{fullShare} a16.view.writes (Elt F) f L14) ∗ (∃ f, a17.view.loc (c : Thread nD τ) ↦[a17.view.set]{fullShare} a17.view.writes (Elt F) f L15) ∗ (∃ f, a18.view.loc (c : Thread nD τ) ↦[a18.view.set]{fullShare} a18.view.writes (Elt F) f L16) ∗ (∃ f, a19.view.loc (c : Thread nD τ) ↦[a19.view.set]{fullShare} a19.view.writes (Elt F) f LT0) ∗ (∃ f, a20.view.loc (c : Thread nD τ) ↦[a20.view.set]{fullShare} a20.view.writes (Elt F) f LS1) ∗ (∃ f, a21.view.loc (c : Thread nD τ) ↦[a21.view.set]{fullShare} a21.view.writes (Elt F) f LS2) ∗ (∃ f, a22.view.loc (c : Thread nD τ) ↦[a22.view.set]{fullShare} a22.view.writes (Elt F) f LS3)) -∗ K ⟨⟩))
          ⊢ wp frame (wpE (defs₀ (F := F)) Variants.none c none) E (cc0_down i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22) K } := by
  refine ⟨[], [], [], [], ?_, ?_, ?_, ?_, ?_, ?_, ?_, ?_, fun xi9 xi10 xi11 xi12 E K => ?run⟩
  case run =>
    simp only [cc0_down_eq_skeleton]; unfold cc0_down_skel
    simp only [k0_part128_eq_skeleton, k0_part34_eq_skeleton, k0_part1_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, Hk⟩
    obtain rfl := g2.eq_unread hf0; obtain rfl := g3.eq_unread hf1; obtain rfl := g4.eq_unread hf2; obtain rfl := g5.eq_unread hf3; obtain rfl := g6.eq_unread hf4; obtain rfl := g7.eq_unread hf5; obtain rfl := g8.eq_unread hf6; obtain rfl := g9.eq_unread hf7; obtain rfl := g10.eq_unread hf8; obtain rfl := g11.eq_unread hf9; obtain rfl := g12.eq_unread hf10; obtain rfl := g13.eq_unread hf11; obtain rfl := g14.eq_unread hf12
    sl_exec (disch := first | sl_exact hc0 | sl_exact hc1)
    sl_step
    iapply Hk
    isplitl [H0]
    · iexists _; isplitr; · ipureintro; exact g2.read_unread _
      iexact H0
    isplitl [H1]
    · iexists _; isplitr; · ipureintro; exact g3.read_unread _
      iexact H1
    isplitl [H2]
    · iexists _; isplitr; · ipureintro; exact g4.read_unread _
      iexact H2
    isplitl [H3]
    · iexists _; isplitr; · ipureintro; exact g5.read_unread _
      iexact H3
    isplitl [H4]
    · iexists _; isplitr; · ipureintro; exact g6.read_unread _
      iexact H4
    isplitl [H5]
    · iexists _; isplitr; · ipureintro; exact g7.read_unread _
      iexact H5
    isplitl [H6]
    · iexists _; isplitr; · ipureintro; exact g8.read_unread _
      iexact H6
    isplitl [H7]
    · iexists _; isplitr; · ipureintro; exact g9.read_unread _
      iexact H7
    isplitl [H8]
    · iexists _; isplitr; · ipureintro; exact g10.read_unread _
      iexact H8
    isplitl [H9]
    · iexists _; isplitr; · ipureintro; exact g11.read_unread _
      iexact H9
    isplitl [H10]
    · iexists _; isplitr; · ipureintro; exact g12.read_unread _
      iexact H10
    isplitl [H11]
    · iexists _; isplitr; · ipureintro; exact g13.read_unread _
      iexact H11
    isplitl [H12]
    · iexists _; isplitr; · ipureintro; exact g14.read_unread _
      iexact H12
    isplitl [H13]; · iexists _; iexact H13
    isplitl [H14]; · iexists _; iexact H14
    isplitl [H15]; · iexists _; iexact H15
    isplitl [H16]; · iexists _; iexact H16
    isplitl [HS0]; · iexists _; iexact HS0
    isplitl [HS1]; · iexists _; iexact HS1
    isplitl [HS2]; · iexists _; iexact HS2
    iexists _; iexact HS3

end Cert.DownIdeal.Run

end
-- ==== Proof.Run.OutA.lean ====
/- Case A: what each output and carried scratch buffer ends with. -/
module

public import proofs.«01_k».proof.Proof.Run.RunA
public import Idealize.ShloMosaic.Lib.Claim

@[expose] public section

set_option maxRecDepth 16384

noncomputable section

namespace Cert.DownIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Gen
open Idealize.ShloMosaic.Pipeline (Dat Cfg Window BodyObligation cellOf)

variable {F : FTy → Type} [FloatOps F]

variable (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : cond0_0 i) (hc1 : ¬cond0_1 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32)

/-- Case A stores nothing into output 9 and nothing reads it: a placeholder. -/
def out0_A_9 : Vec F S384x2560 .bf16 :=
  VO0_9.read (Elt F) (VO0_9.writes (Elt F) VO0_9.junk (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).1)

/-- Case A stores nothing into output 10 and nothing reads it: a placeholder. -/
def out0_A_10 : Vec F S4x384 .f32 :=
  VO0_10.read (Elt F) (VO0_10.writes (Elt F) VO0_10.junk (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.1)

/-- Case A stores nothing into output 11: it holds what the point before left. -/
def out0_A_11 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : cond0_0 i) (hc1 : ¬cond0_1 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo11 : Vec F S4x2560 .f32) : Vec F S4x2560 .f32 := xo11

/-- Case A stores nothing into output 12 and nothing reads it: a placeholder. -/
def out0_A_12 : Vec F S1x384 .f32 :=
  VO0_12.read (Elt F) (VO0_12.writes (Elt F) VO0_12.junk (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.1)

/-- Case A's stores cover output 13. -/
theorem cover0_A_13 (y : S384x1024.Idx) :
    ∃ pc ∈ (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.1, y ∈ pc.1.set :=
  View.cover_of_tiledL (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.1 S384x1024.size (by sl_kernel_rfl) y

/-- What case A leaves in output 13. -/
def out0_A_13 : Vec F S384x1024 .i8 :=
  VO0_13.read (Elt F) (VO0_13.writes (Elt F) VO0_13.junk (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.1)

/-- Case A's stores cover output 14. -/
theorem cover0_A_14 (y : S1x384.Idx) :
    ∃ pc ∈ (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.1, y ∈ pc.1.set :=
  View.cover_of_tiledL (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.1 S1x384.size (by sl_kernel_rfl) y

/-- What case A leaves in output 14. -/
def out0_A_14 : Vec F S1x384 .f32 :=
  VO0_14.read (Elt F) (VO0_14.writes (Elt F) VO0_14.junk (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.1)

/-- Case A's stores cover output 15. -/
theorem cover0_A_15 (y : S384x1024.Idx) :
    ∃ pc ∈ (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.1, y ∈ pc.1.set :=
  View.cover_of_tiledL (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.1 S384x1024.size (by sl_kernel_rfl) y

/-- What case A leaves in output 15. -/
def out0_A_15 : Vec F S384x1024 .i8 :=
  VO0_15.read (Elt F) (VO0_15.writes (Elt F) VO0_15.junk (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.1)

/-- Case A's stores cover output 16. -/
theorem cover0_A_16 (y : S1x384.Idx) :
    ∃ pc ∈ (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.1, y ∈ pc.1.set :=
  View.cover_of_tiledL (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.1 S1x384.size (by sl_kernel_rfl) y

/-- What case A leaves in output 16. -/
def out0_A_16 : Vec F S1x384 .f32 :=
  VO0_16.read (Elt F) (VO0_16.writes (Elt F) VO0_16.junk (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.1)

/-- Case A's stores cover scratch `a20`. -/
theorem scover0_A_1 (y : S384x128.Idx) :
    ∃ pc ∈ (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.2.1, y ∈ pc.1.set :=
  View.cover_of_tiledL (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.2.1 S384x128.size (by sl_kernel_rfl) y

/-- What case A leaves in scratch `a20`. -/
def sout0_A_1 : Vec F S384x128 .f32 :=
  VS0_1.read (Elt F) (VS0_1.writes (Elt F) VS0_1.junk (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.2.1)

/-- Case A's stores cover scratch `a21`. -/
theorem scover0_A_2 (y : S384x128.Idx) :
    ∃ pc ∈ (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.2.2.1, y ∈ pc.1.set :=
  View.cover_of_tiledL (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.2.2.1 S384x128.size (by sl_kernel_rfl) y

/-- What case A leaves in scratch `a21`. -/
def sout0_A_2 : Vec F S384x128 .f32 :=
  VS0_2.read (Elt F) (VS0_2.writes (Elt F) VS0_2.junk (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.2.2.1)

/-- Case A's stores cover scratch `a22`. -/
theorem scover0_A_3 (y : S5x384x2560.Idx) :
    ∃ pc ∈ (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.2.2.2.1, y ∈ pc.1.set :=
  View.cover_of_wholeMem (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.2.2.2.1 (by sl_whole_mem) y

/-- What case A leaves in scratch `a22`. -/
def sout0_A_3 : Vec F S5x384x2560 .f32 :=
  VS0_3.read (Elt F) (VS0_3.writes (Elt F) VS0_3.junk (kernelRun0_A c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.2.2.2.1)

end Cert.DownIdeal.Run

end
-- ==== Proof.Run.RunB.lean ====
/- The whole body of `down` run in case B of its branches: what each buffer ends with. -/
module

public import proofs.«01_k».proof.Proof.Run.RunA

@[expose] public section

set_option maxRecDepth 16384

noncomputable section

namespace Cert.DownIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 3884000 in
/-- What the body's stores leave in each buffer in case B, as a list of stores, with the proof that the body runs to it
    from the inputs' blocks and the contents the point before left. The lists are the witness that the run finds. -/
noncomputable def kernelRun0_B (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : ¬cond0_1 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xs1 : Vec F S384x128 .f32) (xs2 : Vec F S384x128 .f32) (xs3 : Vec F S5x384x2560 .f32) :
    Σ' (L9 : List (View.Piece (Elt F) S384x2560 .bf16)), Σ' (L10 : List (View.Piece (Elt F) S4x384 .f32)), Σ' (L11 : List (View.Piece (Elt F) S4x2560 .f32)), Σ' (L12 : List (View.Piece (Elt F) S1x384 .f32)), Σ' (L13 : List (View.Piece (Elt F) S384x1024 .i8)), Σ' (L14 : List (View.Piece (Elt F) S1x384 .f32)), Σ' (L15 : List (View.Piece (Elt F) S384x1024 .i8)), Σ' (L16 : List (View.Piece (Elt F) S1x384 .f32)), Σ' (LS1 : List (View.Piece (Elt F) S384x128 .f32)), Σ' (LS2 : List (View.Piece (Elt F) S384x128 .f32)), Σ' (LS3 : List (View.Piece (Elt F) S5x384x2560 .f32)), { LT0 : List (View.Piece (Elt F) S1024x2560 .bf16) //
      ∀ (xi9 : Vec F S384x2560 .bf16) (xi10 : Vec F S4x384 .f32) (xi11 : Vec F S4x2560 .f32) (xi12 : Vec F S1x384 .f32) (xi14 : Vec F S1x384 .f32) (xi16 : Vec F S1x384 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare xi9 ∗ owns (c : Thread nD τ) a12 fullShare xi10 ∗ owns (c : Thread nD τ) a13 fullShare xi11 ∗ owns (c : Thread nD τ) a14 fullShare xi12 ∗ (∃ d, owns (c : Thread nD τ) a15 fullShare d) ∗ owns (c : Thread nD τ) a16 fullShare xi14 ∗ (∃ d, owns (c : Thread nD τ) a17 fullShare d) ∗ owns (c : Thread nD τ) a18 fullShare xi16 ∗ (∃ d, owns (c : Thread nD τ) a19 fullShare d) ∗ owns (c : Thread nD τ) a20 fullShare xs1 ∗ owns (c : Thread nD τ) a21 fullShare xs2 ∗ owns (c : Thread nD τ) a22 fullShare xs3
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ owns (c : Thread nD τ) a11 fullShare xi9 ∗ owns (c : Thread nD τ) a12 fullShare xi10 ∗ owns (c : Thread nD τ) a13 fullShare xi11 ∗ owns (c : Thread nD τ) a14 fullShare xi12 ∗ (∃ f, a15.view.loc (c : Thread nD τ) ↦[a15.view.set]{fullShare} a15.view.writes (Elt F) f L13) ∗ owns (c : Thread nD τ) a16 fullShare xi14 ∗ (∃ f, a17.view.loc (c : Thread nD τ) ↦[a17.view.set]{fullShare} a17.view.writes (Elt F) f L15) ∗ owns (c : Thread nD τ) a18 fullShare xi16 ∗ (∃ f, a19.view.loc (c : Thread nD τ) ↦[a19.view.set]{fullShare} a19.view.writes (Elt F) f LT0) ∗ owns (c : Thread nD τ) a20 fullShare xs1 ∗ owns (c : Thread nD τ) a21 fullShare xs2 ∗ (∃ f, a22.view.loc (c : Thread nD τ) ↦[a22.view.set]{fullShare} a22.view.writes (Elt F) f LS3)) -∗ K ⟨⟩))
          ⊢ wp frame (wpE (defs₀ (F := F)) Variants.none c none) E (cc0_down i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22) K } := by
  refine ⟨[], [], [], [], ?_, [], ?_, [], [], [], ?_, ?_, fun xi9 xi10 xi11 xi12 xi14 xi16 E K => ?run⟩
  case run =>
    simp only [cc0_down_eq_skeleton]; unfold cc0_down_skel
    simp only [k0_part128_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%d15, %f15, -, H15⟩, ⟨%f16, %hf16, H16⟩, ⟨%ds0, %fs0, -, HS0⟩, ⟨%fs1, %hfs1, HS1⟩, ⟨%fs2, %hfs2, HS2⟩, ⟨%fs3, %hfs3, HS3⟩, Hk⟩
    obtain rfl := g2.eq_unread hf0; obtain rfl := g3.eq_unread hf1; obtain rfl := g4.eq_unread hf2; obtain rfl := g5.eq_unread hf3; obtain rfl := g6.eq_unread hf4; obtain rfl := g7.eq_unread hf5; obtain rfl := g8.eq_unread hf6; obtain rfl := g9.eq_unread hf7; obtain rfl := g10.eq_unread hf8; obtain rfl := g11.eq_unread hf9; obtain rfl := g12.eq_unread hf10; obtain rfl := g13.eq_unread hf11; obtain rfl := g14.eq_unread hf12; obtain rfl := g16.eq_unread hf14; obtain rfl := g18.eq_unread hf16; obtain rfl := g20.eq_unread hfs1; obtain rfl := g21.eq_unread hfs2; obtain rfl := g22.eq_unread hfs3
    sl_exec (disch := first | sl_exact hc0 | sl_exact hc1)
    sl_step
    iapply Hk
    isplitl [H0]
    · iexists _; isplitr; · ipureintro; exact g2.read_unread _
      iexact H0
    isplitl [H1]
    · iexists _; isplitr; · ipureintro; exact g3.read_unread _
      iexact H1
    isplitl [H2]
    · iexists _; isplitr; · ipureintro; exact g4.read_unread _
      iexact H2
    isplitl [H3]
    · iexists _; isplitr; · ipureintro; exact g5.read_unread _
      iexact H3
    isplitl [H4]
    · iexists _; isplitr; · ipureintro; exact g6.read_unread _
      iexact H4
    isplitl [H5]
    · iexists _; isplitr; · ipureintro; exact g7.read_unread _
      iexact H5
    isplitl [H6]
    · iexists _; isplitr; · ipureintro; exact g8.read_unread _
      iexact H6
    isplitl [H7]
    · iexists _; isplitr; · ipureintro; exact g9.read_unread _
      iexact H7
    isplitl [H8]
    · iexists _; isplitr; · ipureintro; exact g10.read_unread _
      iexact H8
    isplitl [H9]
    · iexists _; isplitr; · ipureintro; exact g11.read_unread _
      iexact H9
    isplitl [H10]
    · iexists _; isplitr; · ipureintro; exact g12.read_unread _
      iexact H10
    isplitl [H11]
    · iexists _; isplitr; · ipureintro; exact g13.read_unread _
      iexact H11
    isplitl [H12]
    · iexists _; isplitr; · ipureintro; exact g14.read_unread _
      iexact H12
    isplitl [H13]; · iexists _; iexact H13
    isplitl [H14]
    · iexists _; isplitr; · ipureintro; exact g16.read_unread _
      iexact H14
    isplitl [H15]; · iexists _; iexact H15
    isplitl [H16]
    · iexists _; isplitr; · ipureintro; exact g18.read_unread _
      iexact H16
    isplitl [HS0]; · iexists _; iexact HS0
    isplitl [HS1]
    · iexists _; isplitr; · ipureintro; exact g20.read_unread _
      iexact HS1
    isplitl [HS2]
    · iexists _; isplitr; · ipureintro; exact g21.read_unread _
      iexact HS2
    iexists _; iexact HS3

end Cert.DownIdeal.Run

end
-- ==== Proof.Run.OutB.lean ====
/- Case B: what each output and carried scratch buffer ends with. -/
module

public import proofs.«01_k».proof.Proof.Run.RunB
public import Idealize.ShloMosaic.Lib.Claim

@[expose] public section

set_option maxRecDepth 16384

noncomputable section

namespace Cert.DownIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Gen
open Idealize.ShloMosaic.Pipeline (Dat Cfg Window BodyObligation cellOf)

variable {F : FTy → Type} [FloatOps F]

variable (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : ¬cond0_1 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xs1 : Vec F S384x128 .f32) (xs2 : Vec F S384x128 .f32) (xs3 : Vec F S5x384x2560 .f32)

/-- Case B stores nothing into output 9 and nothing reads it: a placeholder. -/
def out0_B_9 : Vec F S384x2560 .bf16 :=
  VO0_9.read (Elt F) (VO0_9.writes (Elt F) VO0_9.junk (kernelRun0_B c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).1)

/-- Case B stores nothing into output 10 and nothing reads it: a placeholder. -/
def out0_B_10 : Vec F S4x384 .f32 :=
  VO0_10.read (Elt F) (VO0_10.writes (Elt F) VO0_10.junk (kernelRun0_B c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.1)

/-- Case B stores nothing into output 11: it holds what the point before left. -/
def out0_B_11 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : ¬cond0_1 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xs1 : Vec F S384x128 .f32) (xs2 : Vec F S384x128 .f32) (xs3 : Vec F S5x384x2560 .f32) (xo11 : Vec F S4x2560 .f32) : Vec F S4x2560 .f32 := xo11

/-- Case B stores nothing into output 12 and nothing reads it: a placeholder. -/
def out0_B_12 : Vec F S1x384 .f32 :=
  VO0_12.read (Elt F) (VO0_12.writes (Elt F) VO0_12.junk (kernelRun0_B c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.2.2.1)

/-- Case B's stores cover output 13. -/
theorem cover0_B_13 (y : S384x1024.Idx) :
    ∃ pc ∈ (kernelRun0_B c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.2.2.2.1, y ∈ pc.1.set :=
  View.cover_of_tiledL (kernelRun0_B c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.2.2.2.1 S384x1024.size (by sl_kernel_rfl) y

/-- What case B leaves in output 13. -/
def out0_B_13 : Vec F S384x1024 .i8 :=
  VO0_13.read (Elt F) (VO0_13.writes (Elt F) VO0_13.junk (kernelRun0_B c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.2.2.2.1)

/-- Case B stores nothing into output 14: it holds what the point before left. -/
def out0_B_14 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : ¬cond0_1 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xs1 : Vec F S384x128 .f32) (xs2 : Vec F S384x128 .f32) (xs3 : Vec F S5x384x2560 .f32) (xo14 : Vec F S1x384 .f32) : Vec F S1x384 .f32 := xo14

/-- Case B's stores cover output 15. -/
theorem cover0_B_15 (y : S384x1024.Idx) :
    ∃ pc ∈ (kernelRun0_B c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.2.2.2.2.2.1, y ∈ pc.1.set :=
  View.cover_of_tiledL (kernelRun0_B c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.2.2.2.2.2.1 S384x1024.size (by sl_kernel_rfl) y

/-- What case B leaves in output 15. -/
def out0_B_15 : Vec F S384x1024 .i8 :=
  VO0_15.read (Elt F) (VO0_15.writes (Elt F) VO0_15.junk (kernelRun0_B c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.2.2.2.2.2.1)

/-- Case B stores nothing into output 16: it holds what the point before left. -/
def out0_B_16 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : ¬cond0_1 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xs1 : Vec F S384x128 .f32) (xs2 : Vec F S384x128 .f32) (xs3 : Vec F S5x384x2560 .f32) (xo16 : Vec F S1x384 .f32) : Vec F S1x384 .f32 := xo16

/-- Case B stores nothing into scratch `a20`: it holds what the point before left. -/
def sout0_B_1 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : ¬cond0_1 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xs1 : Vec F S384x128 .f32) (xs2 : Vec F S384x128 .f32) (xs3 : Vec F S5x384x2560 .f32) : Vec F S384x128 .f32 := xs1

/-- Case B stores nothing into scratch `a21`: it holds what the point before left. -/
def sout0_B_2 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : ¬cond0_1 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xs1 : Vec F S384x128 .f32) (xs2 : Vec F S384x128 .f32) (xs3 : Vec F S5x384x2560 .f32) : Vec F S384x128 .f32 := xs2

/-- Case B's stores cover scratch `a22`. -/
theorem scover0_B_3 (y : S5x384x2560.Idx) :
    ∃ pc ∈ (kernelRun0_B c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.2.2.2.2.2.2.2.2.2.1, y ∈ pc.1.set :=
  View.cover_of_tiledL (kernelRun0_B c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.2.2.2.2.2.2.2.2.2.1 S1x384x2560.size (by sl_kernel_rfl) y

/-- What case B leaves in scratch `a22`. -/
def sout0_B_3 : Vec F S5x384x2560 .f32 :=
  VS0_3.read (Elt F) (VS0_3.writes (Elt F) VS0_3.junk (kernelRun0_B c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.2.2.2.2.2.2.2.2.2.1)

end Cert.DownIdeal.Run

end
-- ==== Proof.Run.RunC.lean ====
/- The whole body of `down` run in case C of its branches: what each buffer ends with. -/
module

public import proofs.«01_k».proof.Proof.Run.RunB

@[expose] public section

set_option maxRecDepth 16384

noncomputable section

namespace Cert.DownIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 6076000 in
/-- What the body's stores leave in each buffer in case C, as a list of stores, with the proof that the body runs to it
    from the inputs' blocks and the contents the point before left. The lists are the witness that the run finds. -/
noncomputable def kernelRun0_C (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : cond0_2 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo14 : Vec F S1x384 .f32) (xo16 : Vec F S1x384 .f32) (xs1 : Vec F S384x128 .f32) (xs2 : Vec F S384x128 .f32) (xs3 : Vec F S5x384x2560 .f32) :
    Σ' (L9 : List (View.Piece (Elt F) S384x2560 .bf16)), Σ' (L10 : List (View.Piece (Elt F) S4x384 .f32)), Σ' (L11 : List (View.Piece (Elt F) S4x2560 .f32)), Σ' (L12 : List (View.Piece (Elt F) S1x384 .f32)), Σ' (L13 : List (View.Piece (Elt F) S384x1024 .i8)), Σ' (L14 : List (View.Piece (Elt F) S1x384 .f32)), Σ' (L15 : List (View.Piece (Elt F) S384x1024 .i8)), Σ' (L16 : List (View.Piece (Elt F) S1x384 .f32)), Σ' (LS1 : List (View.Piece (Elt F) S384x128 .f32)), Σ' (LS2 : List (View.Piece (Elt F) S384x128 .f32)), Σ' (LS3 : List (View.Piece (Elt F) S5x384x2560 .f32)), { LT0 : List (View.Piece (Elt F) S1024x2560 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ owns (c : Thread nD τ) a16 fullShare xo14 ∗ (∃ d, owns (c : Thread nD τ) a17 fullShare d) ∗ owns (c : Thread nD τ) a18 fullShare xo16 ∗ (∃ d, owns (c : Thread nD τ) a19 fullShare d) ∗ owns (c : Thread nD τ) a20 fullShare xs1 ∗ owns (c : Thread nD τ) a21 fullShare xs2 ∗ owns (c : Thread nD τ) a22 fullShare xs3
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ (∃ f, a11.view.loc (c : Thread nD τ) ↦[a11.view.set]{fullShare} a11.view.writes (Elt F) f L9) ∗ (∃ f, a12.view.loc (c : Thread nD τ) ↦[a12.view.set]{fullShare} a12.view.writes (Elt F) f L10) ∗ (∃ f, a13.view.loc (c : Thread nD τ) ↦[a13.view.set]{fullShare} a13.view.writes (Elt F) f L11) ∗ (∃ f, a14.view.loc (c : Thread nD τ) ↦[a14.view.set]{fullShare} a14.view.writes (Elt F) f L12) ∗ (∃ f, a15.view.loc (c : Thread nD τ) ↦[a15.view.set]{fullShare} a15.view.writes (Elt F) f L13) ∗ owns (c : Thread nD τ) a16 fullShare xo14 ∗ (∃ f, a17.view.loc (c : Thread nD τ) ↦[a17.view.set]{fullShare} a17.view.writes (Elt F) f L15) ∗ owns (c : Thread nD τ) a18 fullShare xo16 ∗ (∃ f, a19.view.loc (c : Thread nD τ) ↦[a19.view.set]{fullShare} a19.view.writes (Elt F) f LT0) ∗ owns (c : Thread nD τ) a20 fullShare xs1 ∗ owns (c : Thread nD τ) a21 fullShare xs2 ∗ (∃ f, a22.view.loc (c : Thread nD τ) ↦[a22.view.set]{fullShare} a22.view.writes (Elt F) f LS3)) -∗ K ⟨⟩))
          ⊢ wp frame (wpE (defs₀ (F := F)) Variants.none c none) E (cc0_down i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22) K } := by
  refine ⟨?_, ?_, ?_, ?_, ?_, [], ?_, [], [], [], ?_, ?_, fun E K => ?run⟩
  case run =>
    simp only [cc0_down_eq_skeleton]; unfold cc0_down_skel
    simp only [k0_part128_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%d15, %f15, -, H15⟩, ⟨%f16, %hf16, H16⟩, ⟨%ds0, %fs0, -, HS0⟩, ⟨%fs1, %hfs1, HS1⟩, ⟨%fs2, %hfs2, HS2⟩, ⟨%fs3, %hfs3, HS3⟩, Hk⟩
    obtain rfl := g2.eq_unread hf0; obtain rfl := g3.eq_unread hf1; obtain rfl := g4.eq_unread hf2; obtain rfl := g5.eq_unread hf3; obtain rfl := g6.eq_unread hf4; obtain rfl := g7.eq_unread hf5; obtain rfl := g8.eq_unread hf6; obtain rfl := g9.eq_unread hf7; obtain rfl := g10.eq_unread hf8; obtain rfl := g16.eq_unread hf14; obtain rfl := g18.eq_unread hf16; obtain rfl := g20.eq_unread hfs1; obtain rfl := g21.eq_unread hfs2; obtain rfl := g22.eq_unread hfs3
    sl_exec (disch := first | sl_exact hc0 | sl_exact hc1 | sl_exact hc2)
    sl_step
    iapply Hk
    isplitl [H0]
    · iexists _; isplitr; · ipureintro; exact g2.read_unread _
      iexact H0
    isplitl [H1]
    · iexists _; isplitr; · ipureintro; exact g3.read_unread _
      iexact H1
    isplitl [H2]
    · iexists _; isplitr; · ipureintro; exact g4.read_unread _
      iexact H2
    isplitl [H3]
    · iexists _; isplitr; · ipureintro; exact g5.read_unread _
      iexact H3
    isplitl [H4]
    · iexists _; isplitr; · ipureintro; exact g6.read_unread _
      iexact H4
    isplitl [H5]
    · iexists _; isplitr; · ipureintro; exact g7.read_unread _
      iexact H5
    isplitl [H6]
    · iexists _; isplitr; · ipureintro; exact g8.read_unread _
      iexact H6
    isplitl [H7]
    · iexists _; isplitr; · ipureintro; exact g9.read_unread _
      iexact H7
    isplitl [H8]
    · iexists _; isplitr; · ipureintro; exact g10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists _; isplitr; · ipureintro; exact g16.read_unread _
      iexact H14
    isplitl [H15]; · iexists _; iexact H15
    isplitl [H16]
    · iexists _; isplitr; · ipureintro; exact g18.read_unread _
      iexact H16
    isplitl [HS0]; · iexists _; iexact HS0
    isplitl [HS1]
    · iexists _; isplitr; · ipureintro; exact g20.read_unread _
      iexact HS1
    isplitl [HS2]
    · iexists _; isplitr; · ipureintro; exact g21.read_unread _
      iexact HS2
    iexists _; iexact HS3

end Cert.DownIdeal.Run

end
-- ==== Proof.Run.OutC.lean ====
/- Case C: what each output and carried scratch buffer ends with. -/
module

public import proofs.«01_k».proof.Proof.Run.RunC
public import Idealize.ShloMosaic.Lib.Claim

@[expose] public section

set_option maxRecDepth 16384

noncomputable section

namespace Cert.DownIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Gen
open Idealize.ShloMosaic.Pipeline (Dat Cfg Window BodyObligation cellOf)

variable {F : FTy → Type} [FloatOps F]

variable (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : cond0_2 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo14 : Vec F S1x384 .f32) (xo16 : Vec F S1x384 .f32) (xs1 : Vec F S384x128 .f32) (xs2 : Vec F S384x128 .f32) (xs3 : Vec F S5x384x2560 .f32)

/-- Case C's stores cover output 9. -/
theorem cover0_C_9 (y : S384x2560.Idx) :
    ∃ pc ∈ (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).1, y ∈ pc.1.set :=
  View.cover_of_tiledL (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).1 S384x128.size (by sl_kernel_rfl) y

/-- What case C leaves in output 9. -/
def out0_C_9 : Vec F S384x2560 .bf16 :=
  VO0_9.read (Elt F) (VO0_9.writes (Elt F) VO0_9.junk (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).1)

/-- Case C's stores cover output 10. -/
theorem cover0_C_10 (y : S4x384.Idx) :
    ∃ pc ∈ (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.1, y ∈ pc.1.set :=
  View.cover_of_tiledL (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.1 S1x384.size (by sl_kernel_rfl) y

/-- What case C leaves in output 10. -/
def out0_C_10 : Vec F S4x384 .f32 :=
  VO0_10.read (Elt F) (VO0_10.writes (Elt F) VO0_10.junk (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.1)

/-- Case C's stores cover output 11. -/
theorem cover0_C_11 (y : S4x2560.Idx) :
    ∃ pc ∈ (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.1, y ∈ pc.1.set :=
  View.cover_of_tiledBy (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.1 ![1, 128] (by sl_kernel_rfl) y

/-- What case C leaves in output 11. -/
def out0_C_11 : Vec F S4x2560 .f32 :=
  VO0_11.read (Elt F) (VO0_11.writes (Elt F) VO0_11.junk (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.1)

/-- Case C's stores cover output 12. -/
theorem cover0_C_12 (y : S1x384.Idx) :
    ∃ pc ∈ (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.1, y ∈ pc.1.set :=
  View.cover_of_tiledL (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.1 S1x384.size (by sl_kernel_rfl) y

/-- What case C leaves in output 12. -/
def out0_C_12 : Vec F S1x384 .f32 :=
  VO0_12.read (Elt F) (VO0_12.writes (Elt F) VO0_12.junk (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.1)

/-- Case C's stores cover output 13. -/
theorem cover0_C_13 (y : S384x1024.Idx) :
    ∃ pc ∈ (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.2.1, y ∈ pc.1.set :=
  View.cover_of_tiledL (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.2.1 S384x1024.size (by sl_kernel_rfl) y

/-- What case C leaves in output 13. -/
def out0_C_13 : Vec F S384x1024 .i8 :=
  VO0_13.read (Elt F) (VO0_13.writes (Elt F) VO0_13.junk (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.2.1)

/-- Case C stores nothing into output 14: it holds what the point before left. -/
def out0_C_14 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : cond0_2 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo14 : Vec F S1x384 .f32) (xo16 : Vec F S1x384 .f32) (xs1 : Vec F S384x128 .f32) (xs2 : Vec F S384x128 .f32) (xs3 : Vec F S5x384x2560 .f32) : Vec F S1x384 .f32 := xo14

/-- Case C's stores cover output 15. -/
theorem cover0_C_15 (y : S384x1024.Idx) :
    ∃ pc ∈ (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.2.2.2.1, y ∈ pc.1.set :=
  View.cover_of_tiledL (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.2.2.2.1 S384x1024.size (by sl_kernel_rfl) y

/-- What case C leaves in output 15. -/
def out0_C_15 : Vec F S384x1024 .i8 :=
  VO0_15.read (Elt F) (VO0_15.writes (Elt F) VO0_15.junk (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.2.2.2.1)

/-- Case C stores nothing into output 16: it holds what the point before left. -/
def out0_C_16 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : cond0_2 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo14 : Vec F S1x384 .f32) (xo16 : Vec F S1x384 .f32) (xs1 : Vec F S384x128 .f32) (xs2 : Vec F S384x128 .f32) (xs3 : Vec F S5x384x2560 .f32) : Vec F S1x384 .f32 := xo16

/-- Case C stores nothing into scratch `a20`: it holds what the point before left. -/
def sout0_C_1 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : cond0_2 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo14 : Vec F S1x384 .f32) (xo16 : Vec F S1x384 .f32) (xs1 : Vec F S384x128 .f32) (xs2 : Vec F S384x128 .f32) (xs3 : Vec F S5x384x2560 .f32) : Vec F S384x128 .f32 := xs1

/-- Case C stores nothing into scratch `a21`: it holds what the point before left. -/
def sout0_C_2 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : cond0_2 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo14 : Vec F S1x384 .f32) (xo16 : Vec F S1x384 .f32) (xs1 : Vec F S384x128 .f32) (xs2 : Vec F S384x128 .f32) (xs3 : Vec F S5x384x2560 .f32) : Vec F S384x128 .f32 := xs2

/-- Case C's stores cover scratch `a22`. -/
theorem scover0_C_3 (y : S5x384x2560.Idx) :
    ∃ pc ∈ (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.2.2.2.2.2.2.2.1, y ∈ pc.1.set :=
  View.cover_of_tiledL (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.2.2.2.2.2.2.2.1 S1x384x2560.size (by sl_kernel_rfl) y

/-- What case C leaves in scratch `a22`. -/
def sout0_C_3 : Vec F S5x384x2560 .f32 :=
  VS0_3.read (Elt F) (VS0_3.writes (Elt F) VS0_3.junk (kernelRun0_C c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.2.2.2.2.2.2.2.1)

end Cert.DownIdeal.Run

end
-- ==== Proof.Run.RunD.lean ====
/- The whole body of `down` run in case D of its branches: what each buffer ends with. -/
module

public import proofs.«01_k».proof.Proof.Run.RunC

@[expose] public section

set_option maxRecDepth 16384

noncomputable section

namespace Cert.DownIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 6068000 in
/-- What the body's stores leave in each buffer in case D, as a list of stores, with the proof that the body runs to it
    from the inputs' blocks and the contents the point before left. The lists are the witness that the run finds. -/
noncomputable def kernelRun0_D (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : ¬cond0_2 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo11 : Vec F S4x2560 .f32) (xo14 : Vec F S1x384 .f32) (xo16 : Vec F S1x384 .f32) (xs1 : Vec F S384x128 .f32) (xs2 : Vec F S384x128 .f32) (xs3 : Vec F S5x384x2560 .f32) :
    Σ' (L9 : List (View.Piece (Elt F) S384x2560 .bf16)), Σ' (L10 : List (View.Piece (Elt F) S4x384 .f32)), Σ' (L11 : List (View.Piece (Elt F) S4x2560 .f32)), Σ' (L12 : List (View.Piece (Elt F) S1x384 .f32)), Σ' (L13 : List (View.Piece (Elt F) S384x1024 .i8)), Σ' (L14 : List (View.Piece (Elt F) S1x384 .f32)), Σ' (L15 : List (View.Piece (Elt F) S384x1024 .i8)), Σ' (L16 : List (View.Piece (Elt F) S1x384 .f32)), Σ' (LS1 : List (View.Piece (Elt F) S384x128 .f32)), Σ' (LS2 : List (View.Piece (Elt F) S384x128 .f32)), Σ' (LS3 : List (View.Piece (Elt F) S5x384x2560 .f32)), { LT0 : List (View.Piece (Elt F) S1024x2560 .bf16) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ (∃ d, owns (c : Thread nD τ) a11 fullShare d) ∗ (∃ d, owns (c : Thread nD τ) a12 fullShare d) ∗ owns (c : Thread nD τ) a13 fullShare xo11 ∗ (∃ d, owns (c : Thread nD τ) a14 fullShare d) ∗ (∃ d, owns (c : Thread nD τ) a15 fullShare d) ∗ owns (c : Thread nD τ) a16 fullShare xo14 ∗ (∃ d, owns (c : Thread nD τ) a17 fullShare d) ∗ owns (c : Thread nD τ) a18 fullShare xo16 ∗ (∃ d, owns (c : Thread nD τ) a19 fullShare d) ∗ owns (c : Thread nD τ) a20 fullShare xs1 ∗ owns (c : Thread nD τ) a21 fullShare xs2 ∗ owns (c : Thread nD τ) a22 fullShare xs3
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare x8 ∗ (∃ f, a11.view.loc (c : Thread nD τ) ↦[a11.view.set]{fullShare} a11.view.writes (Elt F) f L9) ∗ (∃ f, a12.view.loc (c : Thread nD τ) ↦[a12.view.set]{fullShare} a12.view.writes (Elt F) f L10) ∗ (∃ f, a13.view.loc (c : Thread nD τ) ↦[a13.view.set]{fullShare} a13.view.writes (Elt F) f L11) ∗ (∃ f, a14.view.loc (c : Thread nD τ) ↦[a14.view.set]{fullShare} a14.view.writes (Elt F) f L12) ∗ (∃ f, a15.view.loc (c : Thread nD τ) ↦[a15.view.set]{fullShare} a15.view.writes (Elt F) f L13) ∗ owns (c : Thread nD τ) a16 fullShare xo14 ∗ (∃ f, a17.view.loc (c : Thread nD τ) ↦[a17.view.set]{fullShare} a17.view.writes (Elt F) f L15) ∗ owns (c : Thread nD τ) a18 fullShare xo16 ∗ (∃ f, a19.view.loc (c : Thread nD τ) ↦[a19.view.set]{fullShare} a19.view.writes (Elt F) f LT0) ∗ owns (c : Thread nD τ) a20 fullShare xs1 ∗ owns (c : Thread nD τ) a21 fullShare xs2 ∗ (∃ f, a22.view.loc (c : Thread nD τ) ↦[a22.view.set]{fullShare} a22.view.writes (Elt F) f LS3)) -∗ K ⟨⟩))
          ⊢ wp frame (wpE (defs₀ (F := F)) Variants.none c none) E (cc0_down i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22) K } := by
  refine ⟨?_, ?_, ?_, ?_, ?_, [], ?_, [], [], [], ?_, ?_, fun E K => ?run⟩
  case run =>
    simp only [cc0_down_eq_skeleton]; unfold cc0_down_skel
    simp only [k0_part128_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%d12, %f12, -, H12⟩, ⟨%d13, %f13, -, H13⟩, ⟨%f14, %hf14, H14⟩, ⟨%d15, %f15, -, H15⟩, ⟨%f16, %hf16, H16⟩, ⟨%ds0, %fs0, -, HS0⟩, ⟨%fs1, %hfs1, HS1⟩, ⟨%fs2, %hfs2, HS2⟩, ⟨%fs3, %hfs3, HS3⟩, Hk⟩
    obtain rfl := g2.eq_unread hf0; obtain rfl := g3.eq_unread hf1; obtain rfl := g4.eq_unread hf2; obtain rfl := g5.eq_unread hf3; obtain rfl := g6.eq_unread hf4; obtain rfl := g7.eq_unread hf5; obtain rfl := g8.eq_unread hf6; obtain rfl := g9.eq_unread hf7; obtain rfl := g10.eq_unread hf8; obtain rfl := g13.eq_unread hf11; obtain rfl := g16.eq_unread hf14; obtain rfl := g18.eq_unread hf16; obtain rfl := g20.eq_unread hfs1; obtain rfl := g21.eq_unread hfs2; obtain rfl := g22.eq_unread hfs3
    sl_exec (disch := first | sl_exact hc0 | sl_exact hc1 | sl_exact hc2)
    sl_step
    iapply Hk
    isplitl [H0]
    · iexists _; isplitr; · ipureintro; exact g2.read_unread _
      iexact H0
    isplitl [H1]
    · iexists _; isplitr; · ipureintro; exact g3.read_unread _
      iexact H1
    isplitl [H2]
    · iexists _; isplitr; · ipureintro; exact g4.read_unread _
      iexact H2
    isplitl [H3]
    · iexists _; isplitr; · ipureintro; exact g5.read_unread _
      iexact H3
    isplitl [H4]
    · iexists _; isplitr; · ipureintro; exact g6.read_unread _
      iexact H4
    isplitl [H5]
    · iexists _; isplitr; · ipureintro; exact g7.read_unread _
      iexact H5
    isplitl [H6]
    · iexists _; isplitr; · ipureintro; exact g8.read_unread _
      iexact H6
    isplitl [H7]
    · iexists _; isplitr; · ipureintro; exact g9.read_unread _
      iexact H7
    isplitl [H8]
    · iexists _; isplitr; · ipureintro; exact g10.read_unread _
      iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]
    · iexists _; isplitr; · ipureintro; exact g16.read_unread _
      iexact H14
    isplitl [H15]; · iexists _; iexact H15
    isplitl [H16]
    · iexists _; isplitr; · ipureintro; exact g18.read_unread _
      iexact H16
    isplitl [HS0]; · iexists _; iexact HS0
    isplitl [HS1]
    · iexists _; isplitr; · ipureintro; exact g20.read_unread _
      iexact HS1
    isplitl [HS2]
    · iexists _; isplitr; · ipureintro; exact g21.read_unread _
      iexact HS2
    iexists _; iexact HS3

end Cert.DownIdeal.Run

end
-- ==== Proof.Run.OutD.lean ====
/- Case D: what each output and carried scratch buffer ends with. -/
module

public import proofs.«01_k».proof.Proof.Run.RunD
public import Idealize.ShloMosaic.Lib.Claim

@[expose] public section

set_option maxRecDepth 16384

noncomputable section

namespace Cert.DownIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Gen
open Idealize.ShloMosaic.Pipeline (Dat Cfg Window BodyObligation cellOf)

variable {F : FTy → Type} [FloatOps F]

variable (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : ¬cond0_2 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo11 : Vec F S4x2560 .f32) (xo14 : Vec F S1x384 .f32) (xo16 : Vec F S1x384 .f32) (xs1 : Vec F S384x128 .f32) (xs2 : Vec F S384x128 .f32) (xs3 : Vec F S5x384x2560 .f32)

/-- Case D's stores cover output 9. -/
theorem cover0_D_9 (y : S384x2560.Idx) :
    ∃ pc ∈ (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).1, y ∈ pc.1.set :=
  View.cover_of_tiledL (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).1 S384x128.size (by sl_kernel_rfl) y

/-- What case D leaves in output 9. -/
def out0_D_9 : Vec F S384x2560 .bf16 :=
  VO0_9.read (Elt F) (VO0_9.writes (Elt F) VO0_9.junk (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).1)

/-- Case D's stores cover output 10. -/
theorem cover0_D_10 (y : S4x384.Idx) :
    ∃ pc ∈ (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.1, y ∈ pc.1.set :=
  View.cover_of_tiledL (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.1 S1x384.size (by sl_kernel_rfl) y

/-- What case D leaves in output 10. -/
def out0_D_10 : Vec F S4x384 .f32 :=
  VO0_10.read (Elt F) (VO0_10.writes (Elt F) VO0_10.junk (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.1)

/-- Case D's stores cover output 11. -/
theorem cover0_D_11 (y : S4x2560.Idx) :
    ∃ pc ∈ (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.1, y ∈ pc.1.set :=
  View.cover_of_tiledL (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.1 S1x128.size (by sl_kernel_rfl) y

/-- What case D leaves in output 11. -/
def out0_D_11 : Vec F S4x2560 .f32 :=
  VO0_11.read (Elt F) (VO0_11.writes (Elt F) VO0_11.junk (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.1)

/-- Case D's stores cover output 12. -/
theorem cover0_D_12 (y : S1x384.Idx) :
    ∃ pc ∈ (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.1, y ∈ pc.1.set :=
  View.cover_of_tiledL (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.1 S1x384.size (by sl_kernel_rfl) y

/-- What case D leaves in output 12. -/
def out0_D_12 : Vec F S1x384 .f32 :=
  VO0_12.read (Elt F) (VO0_12.writes (Elt F) VO0_12.junk (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.1)

/-- Case D's stores cover output 13. -/
theorem cover0_D_13 (y : S384x1024.Idx) :
    ∃ pc ∈ (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.2.1, y ∈ pc.1.set :=
  View.cover_of_tiledL (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.2.1 S384x1024.size (by sl_kernel_rfl) y

/-- What case D leaves in output 13. -/
def out0_D_13 : Vec F S384x1024 .i8 :=
  VO0_13.read (Elt F) (VO0_13.writes (Elt F) VO0_13.junk (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.2.1)

/-- Case D stores nothing into output 14: it holds what the point before left. -/
def out0_D_14 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : ¬cond0_2 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo11 : Vec F S4x2560 .f32) (xo14 : Vec F S1x384 .f32) (xo16 : Vec F S1x384 .f32) (xs1 : Vec F S384x128 .f32) (xs2 : Vec F S384x128 .f32) (xs3 : Vec F S5x384x2560 .f32) : Vec F S1x384 .f32 := xo14

/-- Case D's stores cover output 15. -/
theorem cover0_D_15 (y : S384x1024.Idx) :
    ∃ pc ∈ (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.2.2.2.1, y ∈ pc.1.set :=
  View.cover_of_tiledL (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.2.2.2.1 S384x1024.size (by sl_kernel_rfl) y

/-- What case D leaves in output 15. -/
def out0_D_15 : Vec F S384x1024 .i8 :=
  VO0_15.read (Elt F) (VO0_15.writes (Elt F) VO0_15.junk (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.2.2.2.1)

/-- Case D stores nothing into output 16: it holds what the point before left. -/
def out0_D_16 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : ¬cond0_2 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo11 : Vec F S4x2560 .f32) (xo14 : Vec F S1x384 .f32) (xo16 : Vec F S1x384 .f32) (xs1 : Vec F S384x128 .f32) (xs2 : Vec F S384x128 .f32) (xs3 : Vec F S5x384x2560 .f32) : Vec F S1x384 .f32 := xo16

/-- Case D stores nothing into scratch `a20`: it holds what the point before left. -/
def sout0_D_1 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : ¬cond0_2 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo11 : Vec F S4x2560 .f32) (xo14 : Vec F S1x384 .f32) (xo16 : Vec F S1x384 .f32) (xs1 : Vec F S384x128 .f32) (xs2 : Vec F S384x128 .f32) (xs3 : Vec F S5x384x2560 .f32) : Vec F S384x128 .f32 := xs1

/-- Case D stores nothing into scratch `a21`: it holds what the point before left. -/
def sout0_D_2 (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : ¬cond0_2 i)
    (x0 : Vec F S384x1024 .f32) (x1 : Vec F S384x1024 .f32) (x2 : Vec F S384x1024 .bf16) (x3 : Vec F S384x1024 .bf16) (x4 : Vec F S384x128 .f32) (x5 : Vec F S384x128 .f32) (x6 : Vec F S1024x2560 .bf16) (x7 : Vec F S1024x1280 .i8) (x8 : Vec F S8x2560 .f32) (xo11 : Vec F S4x2560 .f32) (xo14 : Vec F S1x384 .f32) (xo16 : Vec F S1x384 .f32) (xs1 : Vec F S384x128 .f32) (xs2 : Vec F S384x128 .f32) (xs3 : Vec F S5x384x2560 .f32) : Vec F S384x128 .f32 := xs2

/-- Case D's stores cover scratch `a22`. -/
theorem scover0_D_3 (y : S5x384x2560.Idx) :
    ∃ pc ∈ (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.2.2.2.2.2.2.2.1, y ∈ pc.1.set :=
  View.cover_of_tiledL (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.2.2.2.2.2.2.2.1 S1x384x2560.size (by sl_kernel_rfl) y

/-- What case D leaves in scratch `a22`. -/
def sout0_D_3 : Vec F S5x384x2560 .f32 :=
  VS0_3.read (Elt F) (VS0_3.writes (Elt F) VS0_3.junk (kernelRun0_D c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.2.2.2.2.2.2.2.1)

/-! ## What the outputs hold after each point -/

end Cert.DownIdeal.Run

end
-- ==== Proof.Run.Points.lean ====
/- What the outputs and carried scratch hold after each grid point, and the proof data. -/
module

public import proofs.«01_k».proof.Proof.Run.OutA
public import proofs.«01_k».proof.Proof.Run.OutB
public import proofs.«01_k».proof.Proof.Run.OutC
public import proofs.«01_k».proof.Proof.Run.OutD

public import Idealize.ShloMosaic.Lib.Claim

@[expose] public section

set_option maxRecDepth 16384

noncomputable section

namespace Cert.DownIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Gen
open Idealize.ShloMosaic.Pipeline (Dat Cfg Window BodyObligation cellOf)

/-- A whole buffer is one. -/
theorem wh {κ : Kind} (b : Ref sig κ) : (Memref.whole b).IsWhole := Memref.isWhole_whole b
/-- The point before is a point. -/
theorem pl {n N : ℕ} (h : n < N) : n - 1 < N := Nat.lt_of_le_of_lt (Nat.sub_le _ _) h

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What the outputs' buffers and the scratch hold after the point at position `n`: the outputs in order, then the scratch.
    The case the point is in, run over what the point before left. -/
def outsAt0 (c : Dev nD) : (n : ℕ) → n < cfg0.N → Vec F S384x2560 .bf16 × Vec F S4x384 .f32 × Vec F S4x2560 .f32 × Vec F S1x384 .f32 × Vec F S384x1024 .i8 × Vec F S1x384 .f32 × Vec F S384x1024 .i8 × Vec F S1x384 .f32 × Vec F S384x128 .f32 × Vec F S384x128 .f32 × Vec F S5x384x2560 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (wh _) scM0_1 (wh _) scM0_2 (wh _) scM0_3 (wh _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (wh _) scM0_1 (wh _) scM0_2 (wh _) scM0_3 (wh _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (wh _) scM0_1 (wh _) scM0_2 (wh _) scM0_3 (wh _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) ((VO0_9.read (Elt F) VO0_9.junk, VO0_10.read (Elt F) VO0_10.junk, VO0_11.read (Elt F) VO0_11.junk, VO0_12.read (Elt F) VO0_12.junk, VO0_13.read (Elt F) VO0_13.junk, VO0_14.read (Elt F) VO0_14.junk, VO0_15.read (Elt F) VO0_15.junk, VO0_16.read (Elt F) VO0_16.junk, VS0_1.read (Elt F) VS0_1.junk, VS0_2.read (Elt F) VS0_2.junk, VS0_3.read (Elt F) VS0_3.junk) : Vec F S384x2560 .bf16 × Vec F S4x384 .f32 × Vec F S4x2560 .f32 × Vec F S1x384 .f32 × Vec F S384x1024 .i8 × Vec F S1x384 .f32 × Vec F S384x1024 .i8 × Vec F S1x384 .f32 × Vec F S384x128 .f32 × Vec F S384x128 .f32 × Vec F S5x384x2560 .f32).2.2.1, out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (wh _) scM0_1 (wh _) scM0_2 (wh _) scM0_3 (wh _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (wh _) scM0_1 (wh _) scM0_2 (wh _) scM0_3 (wh _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_14 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (wh _) scM0_1 (wh _) scM0_2 (wh _) scM0_3 (wh _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_15 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (wh _) scM0_1 (wh _) scM0_2 (wh _) scM0_3 (wh _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (wh _) scM0_1 (wh _) scM0_2 (wh _) scM0_3 (wh _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (wh _) scM0_1 (wh _) scM0_2 (wh _) scM0_3 (wh _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (wh _) scM0_1 (wh _) scM0_2 (wh _) scM0_3 (wh _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) scM0_0 (wh _) scM0_1 (wh _) scM0_2 (wh _) scM0_3 (wh _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 10 = 0 then
      if h1 : (n + 1) % 10 = 9 then
        False.elim (by have hN : n + 1 < 240 := lt_of_lt_of_eq hn (show cfg0.N = 240 from N_0); omega)
      else
        (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1, out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      if h1 : (n + 1) % 10 = 9 then
        if h2 : (n + 1) < 10 then
          (out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2)
        else
          (out0_D_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_D_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_D_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_D_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_D_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_D_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_D_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_D_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.2.2.1 (outsAt0 c n (Nat.lt_of_succ_lt hn)).2.2.2.2.2.2.2.1 (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2)
      else
        (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2 (outsAt0 c n (Nat.lt_of_succ_lt hn)).2.2.1, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_14 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2 (outsAt0 c n (Nat.lt_of_succ_lt hn)).2.2.2.2.2.1, out0_B_15 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2 (outsAt0 c n (Nat.lt_of_succ_lt hn)).2.2.2.2.2.2.2.1, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2, sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (wh _) scM0_1 (wh _) scM0_2 (wh _) scM0_3 (wh _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.2.2.2.2.2.2.1 (outsAt0 c n (Nat.lt_of_succ_lt hn)).2.2.2.2.2.2.2.2.2.1 (outsAt0 c n (Nat.lt_of_succ_lt hn)).2.2.2.2.2.2.2.2.2.2)

/-- `outsAt0` at a point of case A: that case's contents, over what the point before left. -/
theorem outsAt0_A (c : Dev nD) (t : Fin cfg0.N) (h0 : t.val % 10 = 0) (h1 : ¬t.val % 10 = 9) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.1, out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 10 = 0) (h1 : ¬t.val % 10 = 9) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2 (outsAt0 m c (t.val - 1) (pl t.isLt)).2.2.1, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2 (outsAt0 m c (t.val - 1) (pl t.isLt)).2.2.2.2.2.1, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2 (outsAt0 m c (t.val - 1) (pl t.isLt)).2.2.2.2.2.2.2.1, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 10 = 0) (h1 : t.val % 10 = 9) (h2 : t.val < 10) :
    outsAt0 m c t.val t.isLt = (out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_C_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_C_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- `outsAt0` at a point of case D: that case's contents, over what the point before left. -/
theorem outsAt0_D (c : Dev nD) (t : Fin cfg0.N) (h0 : ¬t.val % 10 = 0) (h1 : t.val % 10 = 9) (h2 : ¬t.val < 10) :
    outsAt0 m c t.val t.isLt = (out0_D_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.1 (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_D_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.1 (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_D_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.1 (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_D_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.1 (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_D_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.1 (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_D_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.1 (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_D_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.1 (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, out0_D_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.1 (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.1 (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.1 (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2, sout0_D_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (wh _) scM0_1 (wh _) scM0_2 (wh _) scM0_3 (wh _) (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (pl t.isLt)).2.2.1 (outsAt0 m c (t.val - 1) (pl t.isLt)).2.2.2.2.2.1 (outsAt0 m c (t.val - 1) (pl t.isLt)).2.2.2.2.2.2.2.1 (outsAt0 m c (t.val - 1) (pl t.isLt)).2.2.2.2.2.2.2.2.1 (outsAt0 m c (t.val - 1) (pl t.isLt)).2.2.2.2.2.2.2.2.2.1 (outsAt0 m c (t.val - 1) (pl t.isLt)).2.2.2.2.2.2.2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- The invariant before position `n`: before the first point every scratch holds anything; afterwards each holds what the
    point before left in it. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2.2.2.2.2.1) ∗ owns (c : Thread nD τ) scM0_2 fullShare ((outsAt0 m c n hn).2.2.2.2.2.2.2.2.2.1) ∗ owns (c : Thread nD τ) scM0_3 fullShare ((outsAt0 m c n hn).2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.2.2.2.2.1) ∗ owns (c : Thread nD τ) scM0_2 fullShare ((outsAt0 m c n hn).2.2.2.2.2.2.2.2.2.1) ∗ owns (c : Thread nD τ) scM0_3 fullShare ((outsAt0 m c n hn).2.2.2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.2.2.2.2.1) ∗ owns (c : Thread nD τ) scM0_2 fullShare ((outsAt0 m c (n - 1) (by omega)).2.2.2.2.2.2.2.2.2.1) ∗ owns (c : Thread nD τ) scM0_3 fullShare ((outsAt0 m c (n - 1) (by omega)).2.2.2.2.2.2.2.2.2.2)) ∗ (∃ r, prngReg c r)) := by
  cases n with
  | zero => exact absurd rfl hz
  | succ n => rfl

/-! ## The pipeline's proof data -/

/-- The proof data: after point `t` each input's buffer holds its block, each output's what `outsAt0` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
    | ⟨13, _⟩ => (outsAt0 m c t.val t.isLt).2.2.2.2.1
    | ⟨14, _⟩ => (outsAt0 m c t.val t.isLt).2.2.2.2.2.1
    | ⟨15, _⟩ => (outsAt0 m c t.val t.isLt).2.2.2.2.2.2.1
    | ⟨16, _⟩ => (outsAt0 m c t.val t.isLt).2.2.2.2.2.2.2.1
    | ⟨_ + 17, h⟩ => absurd h (Nat.not_lt.2 (Nat.le_add_left _ _))
  Φ t := PhiS m c t.val (Nat.le_of_lt_succ t.isLt)
  q _ := fullShare
  owed _ := 0

/-- The arrays are the contents at entry. -/
theorem A_eq (c : Dev nD) (w : Fin cfg0.W) : (dats m 0 c).A w = V m c (Pipeline.arrRef spec0 w) := by
  dsimp only [dats]

/-- The invariant at a point's start, at its number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]
theorem after0_13 (c : Dev nD) (t : Fin cfg0.N) : (dats m 0 c).after 13 t = (outsAt0 m c t.val t.isLt).2.2.2.2.1 := by dsimp only [dats]
theorem after0_14 (c : Dev nD) (t : Fin cfg0.N) : (dats m 0 c).after 14 t = (outsAt0 m c t.val t.isLt).2.2.2.2.2.1 := by dsimp only [dats]
theorem after0_15 (c : Dev nD) (t : Fin cfg0.N) : (dats m 0 c).after 15 t = (outsAt0 m c t.val t.isLt).2.2.2.2.2.2.1 := by dsimp only [dats]
theorem after0_16 (c : Dev nD) (t : Fin cfg0.N) : (dats m 0 c).after 16 t = (outsAt0 m c t.val t.isLt).2.2.2.2.2.2.2.1 := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- Output 11's contents stay through the points that store nothing into it. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 240 := lt_of_lt_of_eq t.isLt (show cfg0.N = 240 from N_0)
  rw [after0_11, after0_11]
  by_cases h0 : t.val % 10 = 0
  · by_cases h1 : t.val % 10 = 9
    · exfalso; omega
    · rw [outsAt0_A m c t h0 h1]
      dsimp only
      unfold out0_A_11
      rfl
  · by_cases h1 : t.val % 10 = 9
    · by_cases h2 : t.val < 10
      · rw [liveAt0_11_C t (fun h => h0 ((hcond0_0 t).mp h)) ((hcond0_1 t).mpr h1) ((hcond0_2 t).mpr h2)] at hi
        exact absurd hi Bool.false_ne_true
      · rw [liveAt0_11_D t (fun h => h0 ((hcond0_0 t).mp h)) ((hcond0_1 t).mpr h1) (fun h => h2 ((hcond0_2 t).mp h))] at hi
        exact absurd hi Bool.false_ne_true
    · rw [outsAt0_B m c t h0 h1]
      dsimp only
      unfold out0_B_11
      rfl

/-- Output 14's contents stay through the points that store nothing into it. -/
theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 240 := lt_of_lt_of_eq t.isLt (show cfg0.N = 240 from N_0)
  rw [after0_14, after0_14]
  by_cases h0 : t.val % 10 = 0
  · by_cases h1 : t.val % 10 = 9
    · exfalso; omega
    · rw [liveAt0_14_A t ((hcond0_0 t).mpr h0) (fun h => h1 ((hcond0_1 t).mp h))] at hi
      exact absurd hi Bool.false_ne_true
  · by_cases h1 : t.val % 10 = 9
    · by_cases h2 : t.val < 10
      · rw [outsAt0_C m c t h0 h1 h2]
        dsimp only
        unfold out0_C_14
        rfl
      · rw [outsAt0_D m c t h0 h1 h2]
        dsimp only
        unfold out0_D_14
        rfl
    · rw [outsAt0_B m c t h0 h1]
      dsimp only
      unfold out0_B_14
      rfl

/-- Output 16's contents stay through the points that store nothing into it. -/
theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t _ hi _
  have hN : t.val < 240 := lt_of_lt_of_eq t.isLt (show cfg0.N = 240 from N_0)
  rw [after0_16, after0_16]
  by_cases h0 : t.val % 10 = 0
  · by_cases h1 : t.val % 10 = 9
    · exfalso; omega
    · rw [liveAt0_16_A t ((hcond0_0 t).mpr h0) (fun h => h1 ((hcond0_1 t).mp h))] at hi
      exact absurd hi Bool.false_ne_true
  · by_cases h1 : t.val % 10 = 9
    · by_cases h2 : t.val < 10
      · rw [outsAt0_C m c t h0 h1 h2]
        dsimp only
        unfold out0_C_16
        rfl
      · rw [outsAt0_D m c t h0 h1 h2]
        dsimp only
        unfold out0_D_16
        rfl
    · rw [outsAt0_B m c t h0 h1]
      dsimp only
      unfold out0_B_16
      rfl
/-- At a point of case C output 14's buffer holds what the point before left. -/
theorem before0_14_C (c : Dev nD) (t : Fin cfg0.N) (h0 : ¬t.val % 10 = 0) (h1 : t.val % 10 = 9) (h2 : t.val < 10) (d) :
    (dats m 0 c).before 14 t d = (outsAt0 m c (t.val - 1) (pl t.isLt)).2.2.2.2.2.1 := by
  rw [Dat.before_out_traj _ 14 rfl (fun _ _ => rfl) (hcarry0_14 m c) t.val t rfl d,
    if_neg (by rw [notFresh0_14_C t (fun h => h0 ((hcond0_0 t).mp h)) ((hcond0_1 t).mpr h1) ((hcond0_2 t).mpr h2)]; exact Bool.false_ne_true)]
  dsimp only [dats]
/-- At a point of case C output 16's buffer holds what the point before left. -/
theorem before0_16_C (c : Dev nD) (t : Fin cfg0.N) (h0 : ¬t.val % 10 = 0) (h1 : t.val % 10 = 9) (h2 : t.val < 10) (d) :
    (dats m 0 c).before 16 t d = (outsAt0 m c (t.val - 1) (pl t.isLt)).2.2.2.2.2.2.2.1 := by
  rw [Dat.before_out_traj _ 16 rfl (fun _ _ => rfl) (hcarry0_16 m c) t.val t rfl d,
    if_neg (by rw [notFresh0_16_C t (fun h => h0 ((hcond0_0 t).mp h)) ((hcond0_1 t).mpr h1) ((hcond0_2 t).mpr h2)]; exact Bool.false_ne_true)]
  dsimp only [dats]
/-- At a point of case D output 11's buffer holds what the point before left. -/
theorem before0_11_D (c : Dev nD) (t : Fin cfg0.N) (h0 : ¬t.val % 10 = 0) (h1 : t.val % 10 = 9) (h2 : ¬t.val < 10) (d) :
    (dats m 0 c).before 11 t d = (outsAt0 m c (t.val - 1) (pl t.isLt)).2.2.1 := by
  rw [Dat.before_out_traj _ 11 rfl (fun _ _ => rfl) (hcarry0_11 m c) t.val t rfl d,
    if_neg (by rw [notFresh0_11_D t (fun h => h0 ((hcond0_0 t).mp h)) ((hcond0_1 t).mpr h1) (fun h => h2 ((hcond0_2 t).mp h))]; exact Bool.false_ne_true)]
  dsimp only [dats]
/-- At a point of case D output 14's buffer holds what the point before left. -/
theorem before0_14_D (c : Dev nD) (t : Fin cfg0.N) (h0 : ¬t.val % 10 = 0) (h1 : t.val % 10 = 9) (h2 : ¬t.val < 10) (d) :
    (dats m 0 c).before 14 t d = (outsAt0 m c (t.val - 1) (pl t.isLt)).2.2.2.2.2.1 := by
  rw [Dat.before_out_traj _ 14 rfl (fun _ _ => rfl) (hcarry0_14 m c) t.val t rfl d,
    if_neg (by rw [notFresh0_14_D t (fun h => h0 ((hcond0_0 t).mp h)) ((hcond0_1 t).mpr h1) (fun h => h2 ((hcond0_2 t).mp h))]; exact Bool.false_ne_true)]
  dsimp only [dats]
/-- At a point of case D output 16's buffer holds what the point before left. -/
theorem before0_16_D (c : Dev nD) (t : Fin cfg0.N) (h0 : ¬t.val % 10 = 0) (h1 : t.val % 10 = 9) (h2 : ¬t.val < 10) (d) :
    (dats m 0 c).before 16 t d = (outsAt0 m c (t.val - 1) (pl t.isLt)).2.2.2.2.2.2.2.1 := by
  rw [Dat.before_out_traj _ 16 rfl (fun _ _ => rfl) (hcarry0_16 m c) t.val t rfl d,
    if_neg (by rw [notFresh0_16_D t (fun h => h0 ((hcond0_0 t).mp h)) ((hcond0_1 t).mpr h1) (fun h => h2 ((hcond0_2 t).mp h))]; exact Bool.false_ne_true)]
  dsimp only [dats]

end Cert.DownIdeal.Run

end
-- ==== Proof.Run.Body.lean ====
/- The body at a generic point, the launch and the frame. -/
module

public import proofs.«01_k».proof.Proof.Run.Points
public import Idealize.ShloMosaic.Lib.Claim

@[expose] public section

set_option maxRecDepth 16384

noncomputable section

namespace Cert.DownIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DownIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 32000000 in
/-- The body at any point: the point is in one of the four cases, the case's run applies, and what it leaves is what the proof data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 240 := lt_of_lt_of_eq t.isLt (show cfg0.N = 240 from N_0)
  by_cases h0 : t.val % 10 = 0
  · by_cases h1 : t.val % 10 = 9
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [Dat.leavesExact_idle (dats m 0 c) 10 t (idleAt0_10_A t ((hcond0_0 t).mpr h0) (fun h => h1 ((hcond0_1 t).mp h))) (noFlush0_10_A t ((hcond0_0 t).mpr h0) (fun h => h1 ((hcond0_1 t).mp h)))]
      rw [Dat.leavesExact_idle (dats m 0 c) 11 t (idleAt0_11_A t ((hcond0_0 t).mpr h0) (fun h => h1 ((hcond0_1 t).mp h))) (noFlush0_11_A t ((hcond0_0 t).mpr h0) (fun h => h1 ((hcond0_1 t).mp h)))]
      rw [Dat.leavesExact_idle (dats m 0 c) 12 t (idleAt0_12_A t ((hcond0_0 t).mpr h0) (fun h => h1 ((hcond0_1 t).mp h))) (noFlush0_12_A t ((hcond0_0 t).mpr h0) (fun h => h1 ((hcond0_1 t).mp h)))]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14_A t ((hcond0_0 t).mpr h0) (fun h => h1 ((hcond0_1 t).mp h))], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16_A t ((hcond0_0 t).mpr h0) (fun h => h1 ((hcond0_1 t).mp h))], after0_16]
      by_cases hz : t.val = 0
      · rw [PhiS_castSucc m c t, PhiS_zero m c _ _ hz, PhiA0_eq]
        rw [outsAt0_A m c t h0 h1]
        unfold out0_A_13 out0_A_14 out0_A_15 out0_A_16 sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2.2.2.2.2.2.2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        iintro ⟨H0, H1, H2, H3, H4, H5, H6, H7, H8, H9, H10, H11, H12, ⟨%e13, H13⟩, ⟨%e14, H14⟩, ⟨%e15, H15⟩, ⟨%e16, H16⟩, ⟨%fT0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [H12]; · iexists _; iexact H12
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_13 out0_A_14 out0_A_15 out0_A_16 sout0_A_1 sout0_A_2 sout0_A_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t)).2.2.2.2.2.2.2.2.2.2.2.2 _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexists _; iexact HS1
        isplitl [HS2]; · iexists _; iexact HS2
        isplitl [HS3]; · iexists _; iexact HS3
        iintro ⟨H0, H1, H2, H3, H4, H5, H6, H7, H8, H9, H10, H11, H12, ⟨%e13, H13⟩, ⟨%e14, H14⟩, ⟨%e15, H15⟩, ⟨%e16, H16⟩, ⟨%fT0, HS0⟩, ⟨%es1, HS1⟩, ⟨%es2, HS2⟩, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _)
            isplitl [HS2]
            · unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _)
            unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [H12]; · iexists _; iexact H12
        isplitl [H13]
        · unfold owns; iexists _; isplitr
          swap; · iexact H13
          ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _)
        isplitl [H14]
        · unfold owns; iexists _; isplitr
          swap; · iexact H14
          ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _)
        isplitl [H15]
        · unfold owns; iexists _; isplitr
          swap; · iexact H15
          ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _)
        unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _)
  · by_cases h1 : t.val % 10 = 9
    · by_cases h2 : t.val < 10
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1) ((hcond0_2 t).mpr h2)], after0_9]
        rw [show (dats m 0 c).leavesExact 10 t = owns (c : Thread nD τ) (ms0_10 t) fullShare ((dats m 0 c).after 10 t) from by
      unfold Dat.leavesExact; rw [liveAt0_10_C t (fun h => h0 ((hcond0_0 t).mp h)) ((hcond0_1 t).mpr h1) ((hcond0_2 t).mpr h2)], after0_10]
        rw [show (dats m 0 c).leavesExact 11 t = owns (c : Thread nD τ) (ms0_11 t) fullShare ((dats m 0 c).after 11 t) from by
      unfold Dat.leavesExact; rw [liveAt0_11_C t (fun h => h0 ((hcond0_0 t).mp h)) ((hcond0_1 t).mpr h1) ((hcond0_2 t).mpr h2)], after0_11]
        rw [show (dats m 0 c).leavesExact 12 t = owns (c : Thread nD τ) (ms0_12 t) fullShare ((dats m 0 c).after 12 t) from by
      unfold Dat.leavesExact; rw [liveAt0_12_C t (fun h => h0 ((hcond0_0 t).mp h)) ((hcond0_1 t).mpr h1) ((hcond0_2 t).mpr h2)], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [idleAt0_14_C t (fun h => h0 ((hcond0_0 t).mp h)) ((hcond0_1 t).mpr h1) ((hcond0_2 t).mpr h2), flushAt0_14_C t (fun h => h0 ((hcond0_0 t).mp h)) ((hcond0_1 t).mpr h1) ((hcond0_2 t).mpr h2)], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [idleAt0_16_C t (fun h => h0 ((hcond0_0 t).mp h)) ((hcond0_1 t).mpr h1) ((hcond0_2 t).mpr h2), flushAt0_16_C t (fun h => h0 ((hcond0_0 t).mp h)) ((hcond0_1 t).mpr h1) ((hcond0_2 t).mpr h2)], after0_16]
        by_cases hz : t.val = 0
        · exfalso; have hN : t.val < 240 := lt_of_lt_of_eq t.isLt (show cfg0.N = 240 from N_0); omega
        · rw [PhiS_castSucc m c t, PhiS_pos m c _ _ hz]
          rw [outsAt0_C m c t h0 h1 h2]
          simp only [before0_14_C m c t h0 h1 h2, before0_16_C m c t h0 h1 h2]
          unfold out0_C_9 out0_C_10 out0_C_11 out0_C_12 out0_C_13 out0_C_14 out0_C_15 out0_C_16 sout0_C_1 sout0_C_2 sout0_C_3; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) ((hcond0_2 t).mpr h2) (iblk m c 0 t) (iblk m c 1 t) (iblk m c 2 t) (iblk m c 3 t) (iblk m c 4 t) (iblk m c 5 t) (iblk m c 6 t) (iblk m c 7 t) (iblk m c 8 t) _ _ _ _ _).2.2.2.2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexists _; iexact H11
          isplitl [H12]; · iexists _; iexact H12
          isplitl [H13]; · iexists _; iexact H13
          isplitl [H14]; · iexact H14
          isplitl [H15]; · iexists _; iexact H15
          isplitl [H16]; · iexact H16
          isplitl [HS0]; · iexact HS0
          isplitl [HS1]; · iexact HS1
          isplitl [HS2]; · iexact HS2
          isplitl [HS3]; · iexact HS3
          iintro ⟨H0, H1, H2, H3, H4, H5, H6, H7, H8, ⟨%e9, H9⟩, ⟨%e10, H10⟩, ⟨%e11, H11⟩, ⟨%e12, H12⟩, ⟨%e13, H13⟩, H14, ⟨%e15, H15⟩, H16, ⟨%fT0, HS0⟩, HS1, HS2, ⟨%es3, HS3⟩⟩
          isplitl [HS0 HS1 HS2 HS3 Hg]
          · isplitl [HS0 HS1 HS2 HS3]
            · isplitl [HS0]
              · iexists _; unfold owns; iexists _; isplitr
                swap; · iexact HS0
                ipureintro; rfl
              isplitl [HS1]
              · iexact HS1
              isplitl [HS2]
              · iexact HS2
              unfold owns; iexists _; isplitr
              swap; · iexact HS3
              ipureintro; exact View.read_writes_of_cover _ _ _ _ _ (scover0_C_3 c _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_C_9 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_C_10 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_C_11 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_C_12 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H14]; · iexact H14
          isplitl [H15]
          · unfold owns; iexists _; isplitr
            swap; · iexact H15
            ipureintro; exact View.read_writes_of_cover _ _ _ _ _ (cover0_C_15 c _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact H16
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9_D t (fun h => h0 ((hcond0_0 t).mp h)) ((hcond0_1 t).mpr h1) (fun h => h2 ((hcond0_2 t).mp h))], after0_9]
        rw [show (dats m 0 c).leavesExact 10 t = owns (c : Thread nD τ) (ms0_10 t) fullShare ((dats m 0 c).after 10 t) from by
      unfold Dat.leavesExact; rw [liveAt0_10_D t (fun h => h0 ((hcond0_0 t).mp h)) ((hcond0_1 t).mpr h1) (fun h => h2 ((hcond0_2 t).mp h))], after0_10]
        rw [show (dats m 0 c).leavesExact 11 t = owns (c : Thread nD τ) (ms0_11 t) fullShare ((dats m 0 c).after 11 t) from by
      unfold Dat.leavesExact; rw [liveAt0_11_D t (fun h => h0 ((hcond0_0 t).mp h)) ((hcond0_1 t).mpr h1) (fun h => h2 ((hcond0_2 t).mp h))], after0_11]
        rw [show (dats m 0 c).leavesExact 12 t = owns (c : Thread nD τ) (ms0_12 t) fullShare ((dats m 0 c).after 12 t) from by
      unfold Dat.leavesExact; rw [liveAt0_12_D t (fun h => h0 ((hcond0_0 t).mp h)) ((hcond0_1 t).mpr h1) (fun h => h2 ((hcond0_2 t).mp h))], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [idleAt0_14_D t (fun h => h0 ((hcond0_0 t).mp h)) ((hcond0_1 t).mpr h1) (fun h => h2 ((hcond0_2 t).mp h)), flushAt0_14_D t (fun h => h0 ((hcond0_0 t).mp h)) ((hcond0_1 t).mpr h1) (fun h => h2 ((hcond0_2 t).mp h))], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [idleAt0_16_D t (fun h => h0 ((hcond0_0 t).mp h)) ((hcond0_1 t).mpr h1) (fun h => h2 ((hcond0_2 t).mp h)), flushAt0_16_D t (fun h => h0 ((hcond0_0 t).mp h)) ((hcond0_1 t).mpr h1) (fun h => h2 ((hcond0_2 t).mp h))], after0_16]
        by_cases hz : t.val = 0
        · exfalso; have hN : t.val < 240 := lt_of_lt_of_eq t.isLt (show cfg0.N = 240 from N_0); omega
        · rw [PhiS_castSucc m c t, PhiS_pos m c _ _ hz]
          rw [outsAt0_D m c t h0 h1 h2]
          simp only [before0_11_D m c t h0 h1 h2, before0_14_D m c t h0 h1 h2, before0_16_D m c t h0 h1 h2]
          unfold out0_D_9 out0_D_10 out0_D_11 out0_D_12 out0_D_13 out0_D_14 out0_D_15 out0_D_16 sout0_D_1 sout0_D_2 sout0_D_3; (try dsimp only)
          iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
          iapply ((kernelRun0_D c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) _ _ _ _ _ _).2.2.2.2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexists _; iexact H9
          isplitl [H10]; · iexists _; iexact H10
          isplitl [H11]; · iexact H11
          isplitl [H12]; · iexists _; iexact H12
          isplitl [H13]; · iexists _; iexact H13
          isplitl [H14]; · iexact H14
          isplitl [H15]; · iexists _; iexact H15
          isplitl [H16]; · iexact H16
          isplitl [HS0]; · iexact HS0
          isplitl [HS1]; · iexact HS1
          isplitl [HS2]; · iexact HS2
          isplitl [HS3]; · iexact HS3
          iintro ⟨H0, H1, H2, H3, H4, H5, H6, H7, H8, ⟨%e9, H9⟩, ⟨%e10, H10⟩, ⟨%e11, H11⟩, ⟨%e12, H12⟩, ⟨%e13, H13⟩, H14, ⟨%e15, H15⟩, H16, ⟨%fT0, HS0⟩, HS1, HS2, ⟨%es3, HS3⟩⟩
          isplitl [HS0 HS1 HS2 HS3 Hg]
          · isplitl [HS0 HS1 HS2 HS3]
            · isplitl [HS0]
              · iexists _; unfold owns; iexists _; isplitr
                swap; · iexact HS0
                ipureintro; rfl
              isplitl [HS1]
              · iexact HS1
              isplitl [HS2]
              · iexact HS2
              unfold owns; iexists _; isplitr
              swap; · iexact HS3
              ipureintro; exact View.read_writes_of_cover _ _ _ _ _ (scover0_D_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]
          · unfold owns; iexists _; isplitr
            swap; · iexact H9
            ipureintro; exact View.read_writes_of_cover _ _ _ _ _ (cover0_D_9 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H10]
          · unfold owns; iexists _; isplitr
            swap; · iexact H10
            ipureintro; exact View.read_writes_of_cover _ _ _ _ _ (cover0_D_10 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H11]
          · unfold owns; iexists _; isplitr
            swap; · iexact H11
            ipureintro; exact View.read_writes_of_cover _ _ _ _ _ (cover0_D_11 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H12]
          · unfold owns; iexists _; isplitr
            swap; · iexact H12
            ipureintro; exact View.read_writes_of_cover _ _ _ _ _ (cover0_D_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H13]
          · unfold owns; iexists _; isplitr
            swap; · iexact H13
            ipureintro; exact View.read_writes_of_cover _ _ _ _ _ (cover0_D_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H14]; · iexact H14
          isplitl [H15]
          · unfold owns; iexists _; isplitr
            swap; · iexact H15
            ipureintro; exact View.read_writes_of_cover _ _ _ _ _ (cover0_D_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
          iexact H16
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [Dat.leavesExact_idle (dats m 0 c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
      rw [Dat.leavesExact_idle (dats m 0 c) 12 t (idleAt0_12_B t (fun h => h0 ((hcond0_0 t).mp h)) (fun h => h1 ((hcond0_1 t).mp h))) (noFlush0_12_B t (fun h => h0 ((hcond0_0 t).mp h)) (fun h => h1 ((hcond0_1 t).mp h)))]
      rw [show (dats m 0 c).leavesExact 13 t = owns (c : Thread nD τ) (ms0_13 t) fullShare ((dats m 0 c).after 13 t) from by
      unfold Dat.leavesExact; rw [liveAt0_13 t], after0_13]
      rw [Dat.leavesExact_idle (dats m 0 c) 14 t (idleAt0_14_B t (fun h => h0 ((hcond0_0 t).mp h)) (fun h => h1 ((hcond0_1 t).mp h))) (noFlush0_14_B t (fun h => h0 ((hcond0_0 t).mp h)) (fun h => h1 ((hcond0_1 t).mp h)))]
      rw [show (dats m 0 c).leavesExact 15 t = owns (c : Thread nD τ) (ms0_15 t) fullShare ((dats m 0 c).after 15 t) from by
      unfold Dat.leavesExact; rw [liveAt0_15 t], after0_15]
      rw [Dat.leavesExact_idle (dats m 0 c) 16 t (idleAt0_16_B t (fun h => h0 ((hcond0_0 t).mp h)) (fun h => h1 ((hcond0_1 t).mp h))) (noFlush0_16_B t (fun h => h0 ((hcond0_0 t).mp h)) (fun h => h1 ((hcond0_1 t).mp h)))]
      by_cases hz : t.val = 0
      · exfalso; have hN : t.val < 240 := lt_of_lt_of_eq t.isLt (show cfg0.N = 240 from N_0); omega
      · rw [PhiS_castSucc m c t, PhiS_pos m c _ _ hz]
        rw [outsAt0_B m c t h0 h1]
        unfold out0_B_13 out0_B_15 sout0_B_1 sout0_B_2 sout0_B_3; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun0_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) _ _ _).2.2.2.2.2.2.2.2.2.2.2.2 _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [H14]; · iexact H14
        isplitl [H15]; · iexists _; iexact H15
        isplitl [H16]; · iexact H16
        isplitl [HS0]; · iexact HS0
        isplitl [HS1]; · iexact HS1
        isplitl [HS2]; · iexact HS2
        isplitl [HS3]; · iexact HS3
        iintro ⟨H0, H1, H2, H3, H4, H5, H6, H7, H8, H9, H10, H11, H12, ⟨%e13, H13⟩, H14, ⟨%e15, H15⟩, H16, ⟨%fT0, HS0⟩, HS1, HS2, ⟨%es3, HS3⟩⟩
        isplitl [HS0 HS1 HS2 HS3 Hg]
        · isplitl [HS0 HS1 HS2 HS3]
          · isplitl [HS0]
            · iexists _; unfold owns; iexists _; isplitr
              swap; · iexact HS0
              ipureintro; rfl
            isplitl [HS1]
            · iexact HS1
            isplitl [HS2]
            · iexact HS2
            unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexists _; iexact H9
        isplitl [H10]; · iexists _; iexact H10
        isplitl [H11]; · iexists _; iexact H11
        isplitl [H12]; · iexists _; iexact H12
        isplitl [H13]
        · unfold owns; iexists _; isplitr
          swap; · iexact H13
          ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _)
        isplitl [H14]; · iexists _; iexact H14
        isplitl [H15]
        · unfold owns; iexists _; isplitr
          swap; · iexact H15
          ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _)
        iexists _; iexact H16

/-- The body at the point's buffers. -/
theorem defs₀_row (t : Fin cfg0.N) :
    defs₀ (F := F) .tc cfg0.body (cfg0.bodyArgs t (cfg0.slots t)) = bodyAt0 t := by
  unfold defs₀; rw [Defs.onTc_tc]

/-- The body's triple at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the first point the invariant gives the launch's resources back. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexact HS0
    isplitl [HS1]
    · iexists _; iexact HS1
    isplitl [HS2]
    · iexists _; iexact HS2
    iexists _; iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 240 := N_0; omega)

/-! ## The run and the frame -/

set_option backward.isDefEq.respectTransparency.types false in
/-- Every run ends with the arrays the proof data give and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends, from any memory with zero counters, with the arrays the proof data give and every other buffer as it was. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- The argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.DownIdeal.Run

end
-- ==== Proof.DFrame.lean ====
module

public import proofs.«01_k».proof.Defs
public import proofs.«01_k».proof.Proof.Gen.Down
public import proofs.«01_k».proof.Proof.Gen.DownIdeal
public import proofs.«01_k».proof.Proof.Run.Body

/-! The frame of the main call, at the machine's formats: its text is the idealized program's. -/

@[expose] public section

set_option maxRecDepth 65536

noncomputable section

namespace Cert.DFrame

open Idealize.ShloMosaic Idealize.SL.Sem

set_option maxHeartbeats 0 in
/-- The two programs' bodies are the same. -/
theorem bodies : @Cert.Down.defs₀ Bits _ Cert.Down.Gen.facts = @Cert.DownIdeal.defs₀ Bits _ Cert.DownIdeal.Gen.facts := by
  unfold Cert.Down.defs₀ Cert.DownIdeal.defs₀
  refine congrArg Defs.onTc ?_
  funext l a
  obtain ⟨n, hn⟩ := l
  match n, hn, a with
  | 0, _, (t, s) => rfl

set_option maxHeartbeats 0 in
theorem frame : @Cert.quiescent_Down Cert.Down.Gen.facts := fun m g _ => by
  have h := Cert.DownIdeal.Run.frame (F := Bits) m g
  have e : @Cert.DownIdeal.defs Bits _ Cert.DownIdeal.Gen.facts = Pipeline.defs Cert.DownIdeal.pcfgs (@Cert.Down.defs₀ Bits _ Cert.Down.Gen.facts) :=
    congrArg (Pipeline.defs Cert.DownIdeal.pcfgs) bodies.symm
  rw [e] at h
  exact h

end Cert.DFrame

end
-- ==== Proof.Math.lean ====
module

public import Idealize.ShloMosaic.Lib.Pipeline.ValueKit
public import Idealize.ShloMosaic.Lib.Pointwise

/-! The quantiser over the extended reals: the scale of a row, the code of one element, and the row maximum taken in
    groups of 128 lanes. -/

@[expose] public section

set_option maxRecDepth 16384

noncomputable section

namespace Cert.M

open Idealize.ShloMosaic

/-- The value a maximum starts from. -/
abbrev NEG : EReal := Ideal.ofBits .f32 4286578688#32

/-- The largest absolute value of a row. -/
def rowMax {n : ℕ} (f : Fin n → EReal) : EReal :=
  Finset.fold max NEG (fun k => FloatOps.absf (F := Ideal) (φ := .f32) (f k)) Finset.univ

/-- A row's scale from its largest absolute value. -/
def scaleOf (a : EReal) : EReal := if a = 0 then 1 else Ideal.div a (Ideal.ofBits .f32 1123942400#32)

/-- The rounded and clipped quotient, before the conversion to 8 bits. -/
def codeOf (v s : EReal) : EReal :=
  min (((127#32).toInt : ℝ) : EReal) (max (((4294967169#32).toInt : ℝ) : EReal) (Ideal.liftRound Ideal.roundHalfEven (Ideal.div v s)))

/-- A maximum over `g * 128` places is the maximum over the 128 lanes of the maximum over the `g` groups. -/
theorem fold_max_lanes (g : ℕ) (b : EReal) (f : Fin (g * 128) → EReal) (h : Fin 128 → EReal)
    (hh : ∀ (l : Fin 128) (c : EReal), h l ≤ c ↔ ∀ j : Fin g, f ⟨j.val * 128 + l.val, by have := j.isLt; have := l.isLt; omega⟩ ≤ c) :
    Finset.fold max b h Finset.univ = Finset.fold max b f Finset.univ := by
  refine eq_of_forall_ge_iff fun c => ?_
  rw [Finset.fold_max_le, Finset.fold_max_le]
  refine and_congr_right fun _ => ?_
  constructor
  · intro H k _
    have hk := k.isLt
    have := (hh ⟨k.val % 128, Nat.mod_lt _ (by decide)⟩ c).1 (H _ (Finset.mem_univ _)) ⟨k.val / 128, by omega⟩
    have e : (⟨k.val / 128 * 128 + k.val % 128, by omega⟩ : Fin (g * 128)) = k := Fin.ext (by show k.val / 128 * 128 + k.val % 128 = k.val; omega)
    simpa only [e] using this
  · intro H l _
    exact (hh l c).2 fun j => H _ (Finset.mem_univ _)

/-- A host maximum over the second axis of a matrix, read at a row. -/
theorem hostMax_at {n k : ℕ} (h : (⟨2, ![n, k]⟩ : Shape).ReducesTo [1] (⟨1, ![n]⟩ : Shape))
    (x : FVec Ideal (⟨2, ![n, k]⟩ : Shape) .f32) (init : FVec Ideal (⟨0, ![]⟩ : Shape) .f32) (hu : 0 < (⟨0, ![]⟩ : Shape).numel)
    (r : Fin n) :
    Host.reduce (FloatOps.maximumf (F := Ideal) (φ := .f32)) x init h hu (ix1 r)
      = Finset.fold max (init (Shape.Idx.first hu)) (fun l => x (ix2 r l)) Finset.univ := by
  rw [Host.reduce_eq_fold, h.fold_fiber_r2_a1]
  rfl

/-- The row maxima of absolute values as host code composes them, read at a row. -/
theorem hostRowMax_at {n k : ℕ} (h : (⟨2, ![n, k]⟩ : Shape).ReducesTo [1] (⟨1, ![n]⟩ : Shape))
    (x : FVec Ideal (⟨2, ![n, k]⟩ : Shape) .f32) (hu : 0 < (⟨0, ![]⟩ : Shape).numel) (r : Fin n) :
    Host.reduce (FloatOps.maximumf (F := Ideal) (φ := .f32)) (Host.absf x) (constant (⟨0, ![]⟩ : Shape) .f32 0xFF800000#32) h hu (ix1 r)
      = rowMax fun l => x (ix2 r l) := by
  rw [hostMax_at]
  rfl

/-- A column broadcast over the columns of a matrix, read at an index. -/
theorem bcCol_at {α : Type} {n k : ℕ} (h : (⟨2, ![n, 1]⟩ : Shape).BroadcastsInDim (⟨2, ![n, k]⟩ : Shape) ![0, 1])
    (B : (⟨2, ![n, 1]⟩ : Shape).Idx → α) (r : Fin n) (l : Fin k) :
    broadcastInDim (⟨2, ![n, k]⟩ : Shape) ![0, 1] h B (ix2 r l) = B (ix2 r 0) := by
  refine broadcastInDim_apply _ h B _ (ix2 r 0) fun a => ?_
  have := r.isLt
  fin_cases a
  · show r.val = if n = 1 then 0 else r.val
    split <;> omega
  · rfl

/-- A vector made a column, read at a row. -/
theorem bcVec_at {α : Type} {n : ℕ} (h0 : (⟨1, ![n]⟩ : Shape).BroadcastsInDim (⟨2, ![n, 1]⟩ : Shape) ![0])
    (A : (⟨1, ![n]⟩ : Shape).Idx → α) (r : Fin n) :
    broadcastInDim (⟨2, ![n, 1]⟩ : Shape) ![0] h0 A (ix2 r 0) = A (ix1 r) := by
  refine broadcastInDim_apply _ h0 A _ (ix1 r) fun a => ?_
  have := r.isLt
  fin_cases a
  show r.val = if n = 1 then 0 else r.val
  split <;> omega

/-- A column of row scales as host code composes it from the row maxima, read at a row. -/
theorem hostScale_at {n : ℕ} (h0 : (⟨1, ![n]⟩ : Shape).BroadcastsInDim (⟨2, ![n, 1]⟩ : Shape) ![0])
    (h1 : (⟨0, ![]⟩ : Shape).BroadcastsInDim (⟨2, ![n, 1]⟩ : Shape) ![])
    (A : FVec Ideal (⟨1, ![n]⟩ : Shape) .f32) (r : Fin n) :
    select (cmpf .oeq (broadcastInDim (⟨2, ![n, 1]⟩ : Shape) ![0] h0 A)
        (broadcastInDim (⟨2, ![n, 1]⟩ : Shape) ![] h1 (constant (⟨0, ![]⟩ : Shape) .f32 0x00000000#32)))
      (broadcastInDim (⟨2, ![n, 1]⟩ : Shape) ![] h1 (constant (⟨0, ![]⟩ : Shape) .f32 0x3F800000#32))
      (Host.divf (broadcastInDim (⟨2, ![n, 1]⟩ : Shape) ![0] h0 A)
        (broadcastInDim (⟨2, ![n, 1]⟩ : Shape) ![] h1 (constant (⟨0, ![]⟩ : Shape) .f32 0x42FE0000#32))) (ix2 r 0)
      = scaleOf (A (ix1 r)) := by
  rw [← bcVec_at h0 A r]
  generalize broadcastInDim (⟨2, ![n, 1]⟩ : Shape) ![0] h0 A = B
  pointwise
  rfl

theorem lit127 : Ideal.ofBits .f32 0x42FE0000#32 = (((127#32).toInt : ℝ) : EReal) := by
  have h : ((127#32).toInt) = 127 := by decide
  rw [h]
  simp [Ideal.ofBits, Ideal.ieee, -EReal.coe_mul]; norm_num

theorem litm127 : Ideal.ofBits .f32 0xC2FE0000#32 = (((4294967169#32).toInt : ℝ) : EReal) := by
  have h : ((4294967169#32).toInt) = -127 := by decide
  rw [h]
  simp [Ideal.ofBits, Ideal.ieee, -EReal.coe_mul]; norm_num

/-- The codes, not yet converted, as host code composes them from the values and the column of scales. -/
theorem hostCodes_at {n k : ℕ} (h : (⟨2, ![n, 1]⟩ : Shape).BroadcastsInDim (⟨2, ![n, k]⟩ : Shape) ![0, 1])
    (h1 : (⟨0, ![]⟩ : Shape).BroadcastsInDim (⟨2, ![n, k]⟩ : Shape) ![])
    (x : FVec Ideal (⟨2, ![n, k]⟩ : Shape) .f32) (B : FVec Ideal (⟨2, ![n, 1]⟩ : Shape) .f32) (r : Fin n) (l : Fin k) :
    minimumf (maximumf (Host.roundeven (Host.divf x (broadcastInDim (⟨2, ![n, k]⟩ : Shape) ![0, 1] h B)))
        (broadcastInDim (⟨2, ![n, k]⟩ : Shape) ![] h1 (constant (⟨0, ![]⟩ : Shape) .f32 0xC2FE0000#32)))
      (broadcastInDim (⟨2, ![n, k]⟩ : Shape) ![] h1 (constant (⟨0, ![]⟩ : Shape) .f32 0x42FE0000#32)) (ix2 r l)
      = codeOf (x (ix2 r l)) (B (ix2 r 0)) := by
  rw [← bcCol_at h B r l]
  generalize broadcastInDim (⟨2, ![n, k]⟩ : Shape) ![0, 1] h B = C
  unfold codeOf
  rw [← lit127, ← litm127, max_comm, min_comm]
  pointwise

/-- A column laid out as a row, read at a column. -/
theorem colRow_at {α : Type} {n : ℕ} (h : (⟨2, ![n, 1]⟩ : Shape).ShapeCasts (⟨2, ![1, n]⟩ : Shape))
    (B : (⟨2, ![n, 1]⟩ : Shape).Idx → α) (r : Fin n) :
    shapeCast (⟨2, ![1, n]⟩ : Shape) B h (ix2 0 r) = B (ix2 r 0) := by
  refine shapeCast_apply B h _ (ix2 r 0) ?_
  rw [Shape.rowMajor_val_two, Shape.rowMajor_val_two]
  show r.val * 1 + 0 = 0 * n + r.val
  omega

end Cert.M
end
-- ==== Proof.DMath.lean ====
module

public import Idealize.ShloMosaic.Lib.Pipeline.ValueKit
public import Idealize.ShloMosaic.Lib.Pointwise
public import Idealize.ShloMosaic.Lib.StackMember
public import proofs.«01_k».proof.Proof.Math

/-! The down projection over the extended reals: its results as functions of the arrays, and the host operations of
    its reference read at an index, at sizes that stay variables. -/

@[expose] public section

set_option maxRecDepth 16384

noncomputable section

namespace Cert.M

open Idealize.ShloMosaic

/-- A signed 4-bit code: the low half of a byte at an even column, the high half at an odd one. -/
def nibZ (q : BitVec 8) (c : ℕ) : ℤ := if c % 2 = 0 then (q.extractLsb' 0 4).toInt else (q.extractLsb' 4 4).toInt

theorem lit0 : Ideal.ofBits .f32 0x00000000#32 = 0 := by simp [Ideal.ofBits, Ideal.ieee]

/-- A host sum over the second axis of a matrix, read at a row. -/
theorem hostSum2_at {n k : ℕ} (h : (⟨2, ![n, k]⟩ : Shape).ReducesTo [1] (⟨1, ![n]⟩ : Shape))
    (x : FVec Ideal (⟨2, ![n, k]⟩ : Shape) .f32) (hu : 0 < (⟨0, ![]⟩ : Shape).numel) (r : Fin n) :
    Host.reduceAdd x (constant (⟨0, ![]⟩ : Shape) .f32 0x00000000#32) h hu (ix1 r) = ∑ l, x (ix2 r l) := by
  rw [Host.reduceAdd_apply, Ideal.hostReduceAdd_def, Ideal.hostReduceAdd_r2_a1]
  refine (congrArg (· + _) lit0).trans ((zero_add _).trans ?_)
  rfl

/-- A host sum over the last axis of a stack of matrices. -/
theorem hostSum32_at {g n k : ℕ} (h : (⟨3, ![g, n, k]⟩ : Shape).ReducesTo [2] (⟨2, ![g, n]⟩ : Shape))
    (x : FVec Ideal (⟨3, ![g, n, k]⟩ : Shape) .f32) (hu : 0 < (⟨0, ![]⟩ : Shape).numel) (v : Fin g) (r : Fin n) :
    Host.reduceAdd x (constant (⟨0, ![]⟩ : Shape) .f32 0x00000000#32) h hu (ix2 v r) = ∑ l, x (ix3 v r l) := by
  rw [Host.reduceAdd_apply, Ideal.hostReduceAdd_def, Ideal.hostReduceAdd_r3_a2]
  refine (congrArg (· + _) lit0).trans ((zero_add _).trans ?_)
  rfl

/-- A host sum over the middle axis of a stack of matrices. -/
theorem hostSum31_at {g n k : ℕ} (h : (⟨3, ![g, n, k]⟩ : Shape).ReducesTo [1] (⟨2, ![g, k]⟩ : Shape))
    (x : FVec Ideal (⟨3, ![g, n, k]⟩ : Shape) .f32) (hu : 0 < (⟨0, ![]⟩ : Shape).numel) (v : Fin g) (l : Fin k) :
    Host.reduceAdd x (constant (⟨0, ![]⟩ : Shape) .f32 0x00000000#32) h hu (ix2 v l) = ∑ r, x (ix3 v r l) := by
  rw [Host.reduceAdd_apply, Ideal.hostReduceAdd_def, Ideal.hostReduceAdd_r3_a1]
  refine (congrArg (· + _) lit0).trans ((zero_add _).trans ?_)
  rfl

theorem nib_lo : ∀ q : BitVec 8, (Scalar.select (IntOp.cmpi CmpIPredicate.sge (IntOp.andi (BitVec.setWidth 32 q) 15#32) 8#32)
      (IntOp.subi (IntOp.andi (BitVec.setWidth 32 q) 15#32) 16#32) (IntOp.andi (BitVec.setWidth 32 q) 15#32)).toInt
    = (q.extractLsb' 0 4).toInt := by decide +kernel

theorem nib_hi : ∀ q : BitVec 8, (Scalar.select (IntOp.cmpi CmpIPredicate.sge (IntOp.shrsi ArithUnit.host (BitVec.setWidth 32 q) 4#32) 8#32)
      (IntOp.subi (IntOp.shrsi ArithUnit.host (BitVec.setWidth 32 q) 4#32) 16#32) (IntOp.shrsi ArithUnit.host (BitVec.setWidth 32 q) 4#32)).toInt
    = (q.extractLsb' 4 4).toInt := by decide +kernel

/-- The signed low codes as host code composes them. -/
theorem hostLo_at {n k : ℕ} (h : (⟨0, ![]⟩ : Shape).BroadcastsInDim (⟨2, ![n, k]⟩ : Shape) ![])
    (Q : IVec (⟨2, ![n, k]⟩ : Shape) 8) (hw : 8 < 32) (i : (⟨2, ![n, k]⟩ : Shape).Idx) :
    (sitofp .bf16 (select (cmpi .sge (andi (extui 32 Q hw) (broadcastInDim (⟨2, ![n, k]⟩ : Shape) ![] h (constantI (⟨0, ![]⟩ : Shape) 32 15#32)))
          (broadcastInDim (⟨2, ![n, k]⟩ : Shape) ![] h (constantI (⟨0, ![]⟩ : Shape) 32 8#32)))
        (subi (andi (extui 32 Q hw) (broadcastInDim (⟨2, ![n, k]⟩ : Shape) ![] h (constantI (⟨0, ![]⟩ : Shape) 32 15#32)))
          (broadcastInDim (⟨2, ![n, k]⟩ : Shape) ![] h (constantI (⟨0, ![]⟩ : Shape) 32 16#32)))
        (andi (extui 32 Q hw) (broadcastInDim (⟨2, ![n, k]⟩ : Shape) ![] h (constantI (⟨0, ![]⟩ : Shape) 32 15#32)))) : FVec Ideal (⟨2, ![n, k]⟩ : Shape) .bf16) i
      = (((nibZ (Q i) 0 : ℤ) : ℝ) : EReal) := by
  have e := nib_lo (Q i)
  unfold nibZ
  rw [if_pos rfl, ← e]
  pointwise
  rfl

/-- The signed high codes as host code composes them. -/
theorem hostHi_at {n k : ℕ} (h : (⟨0, ![]⟩ : Shape).BroadcastsInDim (⟨2, ![n, k]⟩ : Shape) ![])
    (Q : IVec (⟨2, ![n, k]⟩ : Shape) 8) (hw : 8 < 32) (i : (⟨2, ![n, k]⟩ : Shape).Idx) :
    (sitofp .bf16 (select (cmpi .sge (Host.shrsi (extui 32 Q hw) (broadcastInDim (⟨2, ![n, k]⟩ : Shape) ![] h (constantI (⟨0, ![]⟩ : Shape) 32 4#32)))
          (broadcastInDim (⟨2, ![n, k]⟩ : Shape) ![] h (constantI (⟨0, ![]⟩ : Shape) 32 8#32)))
        (subi (Host.shrsi (extui 32 Q hw) (broadcastInDim (⟨2, ![n, k]⟩ : Shape) ![] h (constantI (⟨0, ![]⟩ : Shape) 32 4#32)))
          (broadcastInDim (⟨2, ![n, k]⟩ : Shape) ![] h (constantI (⟨0, ![]⟩ : Shape) 32 16#32)))
        (Host.shrsi (extui 32 Q hw) (broadcastInDim (⟨2, ![n, k]⟩ : Shape) ![] h (constantI (⟨0, ![]⟩ : Shape) 32 4#32)))) : FVec Ideal (⟨2, ![n, k]⟩ : Shape) .bf16) i
      = (((nibZ (Q i) 1 : ℤ) : ℝ) : EReal) := by
  have e := nib_hi (Q i)
  unfold nibZ
  rw [if_neg (by decide), ← e]
  pointwise
  rfl

/-- Group scales of every second column, repeated down the rows of each group. -/
theorem hostRep_at {g n n2 K : ℕ} (p : ℕ) (hK : K = g * 128)
    (hs : (⟨2, ![g, n2]⟩ : Shape).SlicesBy (![0, p] : Fin 2 → Nat) ![1, 2] (⟨2, ![g, n]⟩ : Shape))
    (hb : (⟨2, ![g, n]⟩ : Shape).BroadcastsInDim (⟨3, ![g, 128, n]⟩ : Shape) ![0, 2])
    (hc : (⟨3, ![g, 128, n]⟩ : Shape).ShapeCasts (⟨2, ![K, n]⟩ : Shape))
    (S : FVec Ideal (⟨2, ![g, n2]⟩ : Shape) .f32) (hw) (k : Fin K) (b : Fin n) (c : Fin n2) (hcb : c.val = 2 * b.val + p) :
    (truncf .bf16 (shapeCast (⟨2, ![K, n]⟩ : Shape) (broadcastInDim (⟨3, ![g, 128, n]⟩ : Shape) ![0, 2] hb
        (Host.slice (⟨2, ![g, n]⟩ : Shape) ![0, p] ![1, 2] S hs)) hc) hw : FVec Ideal (⟨2, ![K, n]⟩ : Shape) .bf16) (ix2 k b)
      = S (ix2 ⟨k.val / 128, by have := k.isLt; omega⟩ c) := by
  have hk := k.isLt
  show shapeCast (⟨2, ![K, n]⟩ : Shape) (broadcastInDim (⟨3, ![g, 128, n]⟩ : Shape) ![0, 2] hb
        (Host.slice (⟨2, ![g, n]⟩ : Shape) ![0, p] ![1, 2] S hs)) hc (ix2 k b) = _
  rw [shapeCast_apply _ hc _ (ix3 ⟨k.val / 128, by omega⟩ ⟨k.val % 128, Nat.mod_lt _ (by decide)⟩ b)
    (by rw [Shape.rowMajor_val_two, Shape.rowMajor_val_three]
        show (k.val / 128 * 128 + k.val % 128) * n + b.val = k.val * n + b.val
        rw [Nat.div_add_mod' k.val 128])]
  rw [broadcastInDim_apply _ hb _ _ (ix2 ⟨k.val / 128, by omega⟩ b) (by
    intro a
    have := b.isLt
    fin_cases a
    · show k.val / 128 = if g = 1 then 0 else k.val / 128
      split <;> omega
    · show b.val = if n = 1 then 0 else b.val
      split <;> omega)]
  rw [Host.slice_apply]
  refine congrArg S ?_
  funext a
  fin_cases a
  · apply Fin.ext; show 0 + 1 * (k.val / 128) = k.val / 128; omega
  · apply Fin.ext; show p + 2 * b.val = c.val; omega

/-- Two matrices interleaved column by column. -/
theorem hostPair_at {n h h2 : ℕ}
    (hb : (⟨2, ![n, h]⟩ : Shape).BroadcastsInDim (⟨3, ![n, h, 1]⟩ : Shape) ![0, 1])
    (hc : Shape.Concatenates [(⟨3, ![n, h, 1]⟩ : Shape), (⟨3, ![n, h, 1]⟩ : Shape)] (⟨3, ![n, h, 2]⟩ : Shape) 2)
    (hs : (⟨3, ![n, h, 2]⟩ : Shape).ShapeCasts (⟨2, ![n, h2]⟩ : Shape)) (h2e : h2 = h * 2)
    (A B : FVec Ideal (⟨2, ![n, h]⟩ : Shape) .f32) (r : Fin n) (c : Fin h2) :
    shapeCast (⟨2, ![n, h2]⟩ : Shape) (concatenate (⟨3, ![n, h, 2]⟩ : Shape) 2
        [⟨(⟨3, ![n, h, 1]⟩ : Shape), broadcastInDim (⟨3, ![n, h, 1]⟩ : Shape) ![0, 1] hb A⟩,
         ⟨(⟨3, ![n, h, 1]⟩ : Shape), broadcastInDim (⟨3, ![n, h, 1]⟩ : Shape) ![0, 1] hb B⟩] hc) hs (ix2 r c)
      = if c.val % 2 = 0 then A (ix2 r ⟨c.val / 2, by have := c.isLt; omega⟩) else B (ix2 r ⟨c.val / 2, by have := c.isLt; omega⟩) := by
  have hcl := c.isLt
  have hbc : ∀ X : FVec Ideal (⟨2, ![n, h]⟩ : Shape) .f32, ∀ b : Fin h, broadcastInDim (⟨3, ![n, h, 1]⟩ : Shape) ![0, 1] hb X (ix3 r b 0) = X (ix2 r b) := by
    intro X b
    refine broadcastInDim_apply _ hb X _ (ix2 r b) fun a => ?_
    have := r.isLt
    have := b.isLt
    fin_cases a
    · show r.val = if n = 1 then 0 else r.val
      split <;> omega
    · show b.val = if h = 1 then 0 else b.val
      split <;> omega
  rw [shapeCast_apply _ hs _ (ix3 r ⟨c.val / 2, by omega⟩ ⟨c.val % 2, Nat.mod_lt _ (by decide)⟩)
    (by rw [Shape.rowMajor_val_two, Shape.rowMajor_val_three]
        show (r.val * h + c.val / 2) * 2 + c.val % 2 = r.val * h2 + c.val
        have e : r.val * h2 = r.val * h * 2 := by rw [Nat.mul_assoc, h2e]
        omega)]
  rw [concatenate_pair_apply]
  split
  · rename_i h0
    have h0' : c.val % 2 < 1 := h0
    rw [if_pos (by omega), ← hbc A]
    refine congrArg _ ?_
    funext a; fin_cases a
    · rfl
    · rfl
    · apply Fin.ext; show c.val % 2 = 0; omega
  · rename_i h0
    have h0' : ¬ c.val % 2 < 1 := h0
    rw [if_neg (by omega), ← hbc B]
    refine congrArg _ ?_
    funext a; fin_cases a
    · rfl
    · rfl
    · apply Fin.ext; show c.val % 2 - 1 = 0; omega

/-- A stack of four matrices minus one matrix, squared. -/
theorem hostErr_at {n k : ℕ}
    (hb : (⟨2, ![n, k]⟩ : Shape).BroadcastsInDim (⟨3, ![1, n, k]⟩ : Shape) ![1, 2])
    (hb' : (⟨3, ![1, n, k]⟩ : Shape).BroadcastsInDim (⟨3, ![4, n, k]⟩ : Shape) ![0, 1, 2])
    (hc : Shape.Concatenates [(⟨3, ![1, n, k]⟩ : Shape), (⟨3, ![1, n, k]⟩ : Shape), (⟨3, ![1, n, k]⟩ : Shape), (⟨3, ![1, n, k]⟩ : Shape)] (⟨3, ![4, n, k]⟩ : Shape) 0)
    (A B C D Y : FVec Ideal (⟨2, ![n, k]⟩ : Shape) .f32) (v : Fin 4) (r : Fin n) (c : Fin k) :
    mulf (subf (concatenate (⟨3, ![4, n, k]⟩ : Shape) 0
        [⟨(⟨3, ![1, n, k]⟩ : Shape), broadcastInDim (⟨3, ![1, n, k]⟩ : Shape) ![1, 2] hb A⟩,
         ⟨(⟨3, ![1, n, k]⟩ : Shape), broadcastInDim (⟨3, ![1, n, k]⟩ : Shape) ![1, 2] hb B⟩,
         ⟨(⟨3, ![1, n, k]⟩ : Shape), broadcastInDim (⟨3, ![1, n, k]⟩ : Shape) ![1, 2] hb C⟩,
         ⟨(⟨3, ![1, n, k]⟩ : Shape), broadcastInDim (⟨3, ![1, n, k]⟩ : Shape) ![1, 2] hb D⟩] hc)
        (broadcastInDim (⟨3, ![4, n, k]⟩ : Shape) ![0, 1, 2] hb' (broadcastInDim (⟨3, ![1, n, k]⟩ : Shape) ![1, 2] hb Y)))
      (subf (concatenate (⟨3, ![4, n, k]⟩ : Shape) 0
        [⟨(⟨3, ![1, n, k]⟩ : Shape), broadcastInDim (⟨3, ![1, n, k]⟩ : Shape) ![1, 2] hb A⟩,
         ⟨(⟨3, ![1, n, k]⟩ : Shape), broadcastInDim (⟨3, ![1, n, k]⟩ : Shape) ![1, 2] hb B⟩,
         ⟨(⟨3, ![1, n, k]⟩ : Shape), broadcastInDim (⟨3, ![1, n, k]⟩ : Shape) ![1, 2] hb C⟩,
         ⟨(⟨3, ![1, n, k]⟩ : Shape), broadcastInDim (⟨3, ![1, n, k]⟩ : Shape) ![1, 2] hb D⟩] hc)
        (broadcastInDim (⟨3, ![4, n, k]⟩ : Shape) ![0, 1, 2] hb' (broadcastInDim (⟨3, ![1, n, k]⟩ : Shape) ![1, 2] hb Y))) (ix3 v r c)
      = (![A, B, C, D] v (ix2 r c) - Y (ix2 r c)) * (![A, B, C, D] v (ix2 r c) - Y (ix2 r c)) := by
  have hr := r.isLt
  have hcl := c.isLt
  have hbc : ∀ X : FVec Ideal (⟨2, ![n, k]⟩ : Shape) .f32, broadcastInDim (⟨3, ![1, n, k]⟩ : Shape) ![1, 2] hb X (ix3 0 r c) = X (ix2 r c) := by
    intro X
    refine broadcastInDim_apply _ hb X _ (ix2 r c) fun a => ?_
    fin_cases a
    · show r.val = if n = 1 then 0 else r.val
      split <;> omega
    · show c.val = if k = 1 then 0 else c.val
      split <;> omega
  have hy : broadcastInDim (⟨3, ![4, n, k]⟩ : Shape) ![0, 1, 2] hb' (broadcastInDim (⟨3, ![1, n, k]⟩ : Shape) ![1, 2] hb Y) (ix3 v r c) = Y (ix2 r c) := by
    rw [broadcastInDim_apply _ hb' _ _ (ix3 0 r c) fun a => ?_, hbc]
    fin_cases a
    · rfl
    · show r.val = if n = 1 then 0 else r.val
      split <;> omega
    · show c.val = if k = 1 then 0 else c.val
      split <;> omega
  have hx : concatenate (⟨3, ![4, n, k]⟩ : Shape) 0
        [⟨(⟨3, ![1, n, k]⟩ : Shape), broadcastInDim (⟨3, ![1, n, k]⟩ : Shape) ![1, 2] hb A⟩,
         ⟨(⟨3, ![1, n, k]⟩ : Shape), broadcastInDim (⟨3, ![1, n, k]⟩ : Shape) ![1, 2] hb B⟩,
         ⟨(⟨3, ![1, n, k]⟩ : Shape), broadcastInDim (⟨3, ![1, n, k]⟩ : Shape) ![1, 2] hb C⟩,
         ⟨(⟨3, ![1, n, k]⟩ : Shape), broadcastInDim (⟨3, ![1, n, k]⟩ : Shape) ![1, 2] hb D⟩] hc (ix3 v r c) = ![A, B, C, D] v (ix2 r c) := by
    have ha := hbc A
    have hb1 := hbc B
    have hc1 := hbc C
    have hd := hbc D
    generalize broadcastInDim (⟨3, ![1, n, k]⟩ : Shape) ![1, 2] hb A = A' at ha ⊢
    generalize broadcastInDim (⟨3, ![1, n, k]⟩ : Shape) ![1, 2] hb B = B' at hb1 ⊢
    generalize broadcastInDim (⟨3, ![1, n, k]⟩ : Shape) ![1, 2] hb C = C' at hc1 ⊢
    generalize broadcastInDim (⟨3, ![1, n, k]⟩ : Shape) ![1, 2] hb D = D' at hd ⊢
    fin_cases v
    · refine Eq.trans ?_ ha
      pointwise
      refine congrArg A' ?_
      funext a; fin_cases a <;> rfl
    · refine Eq.trans ?_ hb1
      pointwise
      refine congrArg B' ?_
      funext a; fin_cases a <;> rfl
    · refine Eq.trans ?_ hc1
      pointwise
      refine congrArg C' ?_
      funext a; fin_cases a <;> rfl
    · refine Eq.trans ?_ hd
      pointwise
      refine congrArg D' ?_
      funext a; fin_cases a <;> rfl
  show (concatenate _ _ _ _ _ - _) * (concatenate _ _ _ _ _ - _) = _
  rw [hx, hy]

end Cert.M
end
-- ==== Proof.Tile.lean ====
module

public import proofs.«01_k».proof.Proof.Gen.DownIdeal.Skeleton
public import proofs.«01_k».proof.Proof.DMath
public import Idealize.ShloMosaic.Lib.BitcastFour
public import Idealize.ShloMosaic.Lib.Pipeline.ReadBack

/-! One 128 × 128 tile of the unpacked weight block: packed bytes are gathered along lanes, shifted, masked, and scaled. -/

@[expose] public section

set_option maxRecDepth 16384

noncomputable section

namespace Idealize.ShloMosaic.View

/-- One more piece that is a block of `G`. -/
theorem PiecesOf.cons {Val : EltTy → Type} {s : Shape} {e : EltTy} {G : s.Idx → Val e} {r : Rect s} {f : r.shape.Idx → Val e} {L : List (Piece Val s e)}
    (h : ∀ x : r.shape.Idx, f x = G (r.emb x)) (hL : PiecesOf G L) : PiecesOf G (⟨r, f⟩ :: L) := ⟨h, hL⟩

end Idealize.ShloMosaic.View

namespace Cert.DownIdeal.Tile

open Idealize.ShloMosaic Idealize.ShloMosaic.TcCoe
open Cert.DownIdeal Cert.DownIdeal.Gen
open Cert.M

/-- The lane each unpacked lane is gathered from. -/
def gsel (v27 : IVec S32x128 32) : IVec S32x128 32 :=
  shapeCast S32x128 (shapeCast S32x128x1 (select (cmpi .slt v27 (broadcast S32x128 0#32)) (addi v27 (broadcast S32x128 128#32)) v27)
    shapeCasts_S32x128_S32x128x1) shapeCasts_S32x128x1_S32x128

/-- How far each lane is shifted. -/
def shift : IVec S32x128 32 := k0_pay364 2#32 k0_pay360 k0_pay361 k0_pay362 k0_pay363

/-- The shifted and masked bytes of a tile. -/
def tileBytes (v27 : IVec S32x128 32) (q : IVec S128x128 8) : IVec S128x128 8 :=
  bitcast S128x128 8 (andi (shli (dynamicGather 1 (bitcast S32x128 32 q bitcasts_S128x128_w8_S32x128_w32) (gsel v27)) shift)
    (broadcast S32x128 4042322160#32)) bitcasts_S32x128_w32_S128x128_w8

/-- One tile of the unpacked weights. -/
def tile {F : FTy → Type} [FloatOps F] (v27 : IVec S32x128 32) (q : Vec F S128x128 .i8) (s : Vec F S1x128 .f32) : FVec F S128x128 .bf16 :=
  shapeCast S128x128 (mulf (mulf (sitofp .bf16 (tileBytes v27 q)) (broadcast S128x128 (Scalar.ofBits .bf16 0x3D80#16)))
    (truncf .bf16 (broadcastTo S128x128 (shapeCast S1x128 s shapeCasts_S1x128_S1x128) broadcasts_S1x128_S128x128) bitsLt_bf16_f32))
    shapeCasts_S128x128_S128x128

theorem gselA_at (a : Fin 32) (l : Fin 128) : (gsel k0_pay358 (ix2 a l)).toNat % 128 = l.val / 2 := by
  unfold gsel
  unfold_payloads
  pointwise
  revert l
  decide +kernel

theorem gselB_at (a : Fin 32) (l : Fin 128) : (gsel k0_pay359 (ix2 a l)).toNat % 128 = l.val / 2 + 64 := by
  unfold gsel
  unfold_payloads
  pointwise
  revert l
  decide +kernel

theorem shift_at (a : Fin 32) (l : Fin 128) : shift (ix2 a l) = if l.val % 2 = 0 then 4#32 else 0#32 := by
  unfold shift
  unfold_payloads
  pointwise
  revert l
  decide +kernel

theorem mask_bit : ∀ q : Fin 32, (4042322160#32).getLsbD q.val = decide (4 ≤ q.val % 8) := by decide

theorem shl4_bit (x : BitVec 32) (q : ℕ) (hq : q < 32) (c : ℕ) :
    (IntOp.shli .vector x (if c % 2 = 0 then 4#32 else 0#32)).getLsbD q
      = if c % 2 = 0 then (decide (4 ≤ q) && x.getLsbD (q - 4)) else x.getLsbD q := by
  split
  · rw [show IntOp.shli .vector x 4#32 = x <<< 4 from rfl, BitVec.getLsbD_shiftLeft]
    by_cases h4 : 4 ≤ q
    · rw [decide_eq_true hq, decide_eq_true h4, decide_eq_false (by omega)]; rfl
    · rw [decide_eq_false h4, decide_eq_true (by omega : q < 4)]; simp
  · rw [show IntOp.shli .vector x 0#32 = x <<< 0 from rfl, BitVec.shiftLeft_zero]

/-- A byte of the tile: the chosen half of the gathered byte, moved to the top. -/
theorem tileBytes_at (v27 : IVec S32x128 32) (o : ℕ) (ho : o ≤ 64) (hv : ∀ (a : Fin 32) (l : Fin 128), (gsel v27 (ix2 a l)).toNat % 128 = l.val / 2 + o)
    (q : IVec S128x128 8) (r l : Fin 128) (i : ℕ) (hi : i < 8) :
    (tileBytes v27 q (ix2 r l)).getLsbD i
      = (decide (4 ≤ i) && (q (ix2 r ⟨l.val / 2 + o, by have := l.isLt; omega⟩)).getLsbD (if l.val % 2 = 0 then i - 4 else i)) := by
  have hr := r.isLt
  have hl := l.isLt
  have hsrc : ∀ h0 : S32x128.Bitcasts 32 S128x128 8, ∀ p : ℕ, ∀ hp, p = r.val / 4 → h0.srcIdx (ix2 r l) p hp = ix2 ⟨r.val / 4, by omega⟩ l := by
    intro h0 p hp hpe
    funext c
    match c with
    | ⟨0, _⟩ => exact Fin.ext ((h0.srcIdx_row _ _ _ ⟨0, Nat.zero_lt_two⟩ rfl).trans hpe)
    | ⟨1, _⟩ => exact Fin.ext (h0.srcIdx_other _ _ _ ⟨1, Nat.one_lt_two⟩ (by show ¬ 1 + 2 = 2; omega))
  have hrow : S128x128.row (ix2 r l) = r.val := rfl
  unfold tileBytes
  have hm : (S128x128.row (ix2 r l) * 8 + i) % 32 = 8 * (r.val % 4) + i := by rw [hrow]; omega
  rw [bitcast_getLsbD _ _ _ i hi (by decide), hsrc _ _ _ (by rw [hrow]; omega), hm]
  show (IntOp.andi (IntOp.shli .vector (dynamicGather 1 (bitcast S32x128 32 q bitcasts_S128x128_w8_S32x128_w32) (gsel v27) (ix2 ⟨r.val / 4, by omega⟩ l)) (shift (ix2 ⟨r.val / 4, by omega⟩ l))) 4042322160#32).getLsbD _ = _
  have hg : dynamicGather 1 (bitcast S32x128 32 q bitcasts_S128x128_w8_S32x128_w32) (gsel v27) (ix2 ⟨r.val / 4, by omega⟩ l)
      = bitcast S32x128 32 q bitcasts_S128x128_w8_S32x128_w32 (ix2 ⟨r.val / 4, by omega⟩ ⟨l.val / 2 + o, by omega⟩) := by
    rw [dynamicGather_apply]
    refine congrArg _ ?_
    funext b
    match b with
    | ⟨0, _⟩ => rfl
    | ⟨1, _⟩ => exact Fin.ext (hv _ l)
  rw [hg, shift_at]
  show ((IntOp.shli .vector _ _) &&& _ : BitVec 32).getLsbD _ = _
  rw [BitVec.getLsbD_and, shl4_bit _ _ (by omega), mask_bit ⟨8 * (r.val % 4) + i, by omega⟩]
  have hmod : (8 * (r.val % 4) + i) % 8 = i := by omega
  dsimp only
  rw [hmod]
  by_cases h4 : 4 ≤ i
  · rw [decide_eq_true h4, Bool.and_true, Bool.true_and]
    split
    · rw [decide_eq_true (by omega), Bool.true_and]
      refine (bitcast_8_32_getLsbD_ix2 q bitcasts_S128x128_w8_S32x128_w32 ⟨r.val / 4, by omega⟩ ⟨l.val / 2 + o, by omega⟩ (8 * (r.val % 4) + i - 4) (by omega) r (by show r.val = 4 * (r.val / 4) + (8 * (r.val % 4) + i - 4) / 8; omega)).trans ?_
      congr 1; omega
    · refine (bitcast_8_32_getLsbD_ix2 q bitcasts_S128x128_w8_S32x128_w32 ⟨r.val / 4, by omega⟩ ⟨l.val / 2 + o, by omega⟩ (8 * (r.val % 4) + i) (by omega) r (by show r.val = 4 * (r.val / 4) + (8 * (r.val % 4) + i) / 8; omega)).trans ?_
      congr 1
  · rw [decide_eq_false h4, Bool.and_false, Bool.false_and]

/-- The chosen half of a byte moved to the top and read as a signed byte is sixteen times the signed 4-bit code. -/
theorem top_toInt : ∀ q : BitVec 8, (q &&& 0xF0#8).toInt = 16 * (q.extractLsb' 4 4).toInt ∧ ((q <<< 4) &&& 0xF0#8).toInt = 16 * (q.extractLsb' 0 4).toInt := by
  decide +kernel

theorem mask8_bit : ∀ q : Fin 8, (0xF0#8).getLsbD q.val = decide (4 ≤ q.val) := by decide

theorem tileBytes_toInt (v27 : IVec S32x128 32) (o : ℕ) (ho : o ≤ 64) (hv : ∀ (a : Fin 32) (l : Fin 128), (gsel v27 (ix2 a l)).toNat % 128 = l.val / 2 + o)
    (q : IVec S128x128 8) (r l : Fin 128) :
    (tileBytes v27 q (ix2 r l)).toInt = 16 * nibZ (q (ix2 r ⟨l.val / 2 + o, by have := l.isLt; omega⟩)) l.val := by
  have hb := tileBytes_at v27 o ho hv q r l
  generalize hx : q (ix2 r ⟨l.val / 2 + o, by have := l.isLt; omega⟩) = x
  unfold nibZ
  by_cases hl : l.val % 2 = 0
  · rw [if_pos hl, ← (top_toInt x).2]
    congr 1
    refine BitVec.eq_of_getLsbD_eq fun i hi => ?_
    rw [hb i hi, hx, if_pos hl, BitVec.getLsbD_and, mask8_bit ⟨i, hi⟩, BitVec.getLsbD_shiftLeft]
    by_cases h4 : 4 ≤ i
    · simp [h4, hi]
    · simp [h4]
  · rw [if_neg hl, ← (top_toInt x).1]
    congr 1
    refine BitVec.eq_of_getLsbD_eq fun i hi => ?_
    rw [hb i hi, hx, if_neg hl, BitVec.getLsbD_and, mask8_bit ⟨i, hi⟩, Bool.and_comm]

theorem lit16 : Ideal.ofBits .bf16 0x3D80#16 = ((1 / 16 : ℝ) : EReal) := by
  simp [Ideal.ofBits, Ideal.ieee, -EReal.coe_mul]; norm_num

theorem tile_apply (v27 : IVec S32x128 32) (q : Vec Ideal S128x128 .i8) (s : Vec Ideal S1x128 .f32) (r l : Fin 128) :
    tile (F := Ideal) v27 q s (ix2 r l) = (((tileBytes v27 q (ix2 r l)).toInt : ℝ) : EReal) * Ideal.ofBits .bf16 0x3D80#16 * s (ix2 0 l) := by
  unfold tile
  generalize tileBytes v27 q = b
  pointwise
  rfl

/-- A tile at an index: the signed 4-bit code times its group's scale. -/
theorem tile_at (v27 : IVec S32x128 32) (o : ℕ) (ho : o ≤ 64) (hv : ∀ (a : Fin 32) (l : Fin 128), (gsel v27 (ix2 a l)).toNat % 128 = l.val / 2 + o)
    (q : Vec Ideal S128x128 .i8) (s : Vec Ideal S1x128 .f32) (r l : Fin 128) :
    tile (F := Ideal) v27 q s (ix2 r l)
      = (((nibZ (q (ix2 r ⟨l.val / 2 + o, by have := l.isLt; omega⟩)) l.val : ℤ) : ℝ) : EReal) * s (ix2 0 l) := by
  rw [tile_apply, tileBytes_toInt v27 o ho hv, lit16, ← EReal.coe_mul]
  congr 2
  push_cast
  ring

/-- The block of unpacked weights: row `r`, column `c`. -/
def dd (q : Vec Ideal S1024x1280 .i8) (s : Vec Ideal S8x2560 .f32) : Vec Ideal S1024x2560 .bf16 := fun i =>
  (((nibZ (q (ix2 (i 0) ⟨(i 1).val / 2, by have : (i 1).val < 2560 := (i 1).isLt; omega⟩)) (i 1).val : ℤ) : ℝ) : EReal)
    * s (ix2 ⟨(i 0).val / 128, by have : (i 0).val < 1024 := (i 0).isLt; omega⟩ (i 1))

/-- Each tile is the block's. -/
theorem piece (v27 : IVec S32x128 32) (o : ℕ) (ho : o ≤ 64) (hv : ∀ (a : Fin 32) (l : Fin 128), (gsel v27 (ix2 a l)).toNat % 128 = l.val / 2 + o)
    (q : Vec Ideal S1024x1280 .i8) (s : Vec Ideal S8x2560 .f32) (R C G D : ℕ) (hR : R = 128 * G) (hD : D = 2 * (C + o)) (hD2 : D % 2 = 0)
    (h7 : ∀ a, ![R, C] a + S128x128.size a ≤ S1024x1280.size a) (h8 : ∀ a, ![G, D] a + S1x128.size a ≤ S8x2560.size a)
    (hd : ∀ a, ![R, D] a + S128x128.size a ≤ S1024x2560.size a) (x : S128x128.Idx) :
    tile (F := Ideal) v27 (View.ld q (Rect.unit ![R, C] S128x128.size h7)) (View.ld s (Rect.unit ![G, D] S1x128.size h8)) x
      = dd q s ((Rect.unit (s := S1024x2560) ![R, D] S128x128.size hd).emb x) := by
  obtain ⟨r, l, rfl⟩ : ∃ (r l : Fin 128), x = ix2 r l := ⟨x 0, x 1, eq_ix2 x⟩
  have hr := r.isLt
  have hl := l.isLt
  have h0 := hd 0
  have h1 := hd 1
  rw [tile_at v27 o ho hv]
  have e0 : (((Rect.unit (s := S1024x2560) ![R, D] S128x128.size hd).emb (ix2 r l)) 0).val = R + r.val := by
    show R + 1 * r.val = _; omega
  have e1 : (((Rect.unit (s := S1024x2560) ![R, D] S128x128.size hd).emb (ix2 r l)) 1).val = D + l.val := by
    show D + 1 * l.val = _; omega
  unfold dd
  have en : ∀ b : BitVec 8, nibZ b ((((Rect.unit (s := S1024x2560) ![R, D] S128x128.size hd).emb (ix2 r l)) 1).val) = nibZ b l.val := by
    intro b; unfold nibZ; rw [e1]; have : (D + l.val) % 2 = l.val % 2 := by omega
    rw [this]
  rw [en]
  have eq : View.ld q (Rect.unit ![R, C] S128x128.size h7) (ix2 r ⟨l.val / 2 + o, by omega⟩)
      = q (ix2 (((Rect.unit (s := S1024x2560) ![R, D] S128x128.size hd).emb (ix2 r l)) 0)
          ⟨(((Rect.unit (s := S1024x2560) ![R, D] S128x128.size hd).emb (ix2 r l)) 1).val / 2, by
            have : (((Rect.unit (s := S1024x2560) ![R, D] S128x128.size hd).emb (ix2 r l)) 1).val < 2560 := Fin.isLt _
            omega⟩) := by
    refine congrArg q ?_
    funext a
    match a with
    | ⟨0, _⟩ => rfl
    | ⟨1, _⟩ => exact Fin.ext (by show C + 1 * (l.val / 2 + o) = _ / 2; rw [e1]; omega)
  have es : View.ld s (Rect.unit ![G, D] S1x128.size h8) (ix2 0 l)
      = s (ix2 ⟨(((Rect.unit (s := S1024x2560) ![R, D] S128x128.size hd).emb (ix2 r l)) 0).val / 128, by
            have : (((Rect.unit (s := S1024x2560) ![R, D] S128x128.size hd).emb (ix2 r l)) 0).val < 1024 := Fin.isLt _
            omega⟩ (((Rect.unit (s := S1024x2560) ![R, D] S128x128.size hd).emb (ix2 r l)) 1)) := by
    refine congrArg s ?_
    funext a
    match a with
    | ⟨0, _⟩ => exact Fin.ext (by show G + 1 * 0 = _ / 128; rw [e0]; omega)
    | ⟨1, _⟩ => rfl
  rw [eq, es]

/-- Each tile, computed from what the packed block and the scales' block hold, is the block's. -/
theorem piece_read (v27 : IVec S32x128 32) (o : ℕ) (ho : o ≤ 64) (hv : ∀ (a : Fin 32) (l : Fin 128), (gsel v27 (ix2 a l)).toNat % 128 = l.val / 2 + o)
    (arg9 : Memref sig .tc .vmem S1024x1280 .i8) (harg9 : arg9.IsWhole) (arg10 : Memref sig .tc .vmem S8x2560 .f32) (harg10 : arg10.IsWhole)
    (q : Vec Ideal S1024x1280 .i8) (s : Vec Ideal S8x2560 .f32) (R C G D : ℕ)
    (h7 : ∀ a, ![R, C] a + S128x128.size a ≤ S1024x1280.size a) (h8 : ∀ a, ![G, D] a + S1x128.size a ≤ S8x2560.size a)
    (hd : ∀ a, ![R, D] a + S128x128.size a ≤ S1024x2560.size a) (hR : R = 128 * G) (hD : D = 2 * (C + o)) (x : S128x128.Idx) :
    tile (F := Ideal) v27 (View.readAt (Elt Ideal) arg9.view (Rect.unit (s := S1024x1280) ![R, C] S128x128.size h7).toLoadRect (harg9.unread q))
        (View.readAt (Elt Ideal) arg10.view (Rect.unit (s := S8x2560) ![G, D] S1x128.size h8).toLoadRect (harg10.unread s)) x
      = dd q s ((Rect.unit (s := S1024x2560) ![R, D] S128x128.size hd).emb x) := by
  have e7 : View.readAt (Elt Ideal) arg9.view (Rect.unit (s := S1024x1280) ![R, C] S128x128.size h7).toLoadRect (harg9.unread q)
      = View.ld q (Rect.unit (s := S1024x1280) ![R, C] S128x128.size h7) := by
    rw [View.readAt_eq_ld, harg9.read_unread]
  have e8 : View.readAt (Elt Ideal) arg10.view (Rect.unit (s := S8x2560) ![G, D] S1x128.size h8).toLoadRect (harg10.unread s)
      = View.ld s (Rect.unit (s := S8x2560) ![G, D] S1x128.size h8) := by
    rw [View.readAt_eq_ld, harg10.read_unread]
  rw [e7, e8]
  exact piece v27 o ho hv q s R C G D hR hD (by omega) h7 h8 hd x

theorem fit7 {R D : ℕ} (o : ℕ) (hd : ∀ a, ![R, D] a + S128x128.size a ≤ S1024x2560.size a) (hD : D % 256 = 2 * o) (ho : o ≤ 64) :
    ∀ a, ![R, D / 2 - o] a + S128x128.size a ≤ S1024x1280.size a := by
  have h0 : R + 128 ≤ 1024 := hd 0
  have h1 : D + 128 ≤ 2560 := hd 1
  intro a
  match a with
  | ⟨0, _⟩ => exact h0
  | ⟨1, _⟩ => show D / 2 - o + 128 ≤ 1280; omega

theorem fit8 {R D : ℕ} (hd : ∀ a, ![R, D] a + S128x128.size a ≤ S1024x2560.size a) :
    ∀ a, ![R / 128, D] a + S1x128.size a ≤ S8x2560.size a := by
  have h0 : R + 128 ≤ 1024 := hd 0
  have h1 : D + 128 ≤ 2560 := hd 1
  intro a
  match a with
  | ⟨0, _⟩ => show R / 128 + 1 ≤ 8; omega
  | ⟨1, _⟩ => exact h1

/-- `piece_read`, from the tile's own position. -/
theorem piece_at (v27 : IVec S32x128 32) (o : ℕ) (ho : o ≤ 64) (hv : ∀ (a : Fin 32) (l : Fin 128), (gsel v27 (ix2 a l)).toNat % 128 = l.val / 2 + o)
    (arg9 : Memref sig .tc .vmem S1024x1280 .i8) (harg9 : arg9.IsWhole) (arg10 : Memref sig .tc .vmem S8x2560 .f32) (harg10 : arg10.IsWhole)
    (q : Vec Ideal S1024x1280 .i8) (s : Vec Ideal S8x2560 .f32) (R D : ℕ)
    (hd : ∀ a, ![R, D] a + S128x128.size a ≤ S1024x2560.size a) (hR : R % 128 = 0) (hD : D % 256 = 2 * o) (x : S128x128.Idx) :
    tile (F := Ideal) v27 (View.readAt (Elt Ideal) arg9.view (Rect.unit (s := S1024x1280) ![R, D / 2 - o] S128x128.size (fit7 o hd hD ho)).toLoadRect (harg9.unread q))
        (View.readAt (Elt Ideal) arg10.view (Rect.unit (s := S8x2560) ![R / 128, D] S1x128.size (fit8 hd)).toLoadRect (harg10.unread s)) x
      = dd q s ((Rect.unit (s := S1024x2560) ![R, D] S128x128.size hd).emb x) :=
  piece_read v27 o ho hv arg9 harg9 arg10 harg10 q s R (D / 2 - o) (R / 128) D _ _ hd (by omega) (by omega) x

end Cert.DownIdeal.Tile
end
-- ==== Proof.Spec.lean ====
module

public import proofs.«01_k».proof.Proof.DMath

/-! The results of the down projection as functions of its nine inputs: five products of the rows with the two
    weight matrices, and the squares of four differences summed along each axis. -/

@[expose] public section

set_option maxRecDepth 16384

noncomputable section

namespace Cert.S

open Idealize.ShloMosaic
open Cert.M

/-- A row's scale from the largest absolute values its 128 lanes hold. -/
def laneScale {n : ℕ} (x : (⟨2, ![n, 128]⟩ : Shape).Idx → EReal) (r : Fin n) : EReal :=
  scaleOf (Finset.fold max NEG (fun l : Fin 128 => x (ix2 r l)) Finset.univ)

/-- The nine inputs. -/
structure Ins where
  hf : (⟨2, ![9216, 10240]⟩ : Shape).Idx → EReal
  hr : (⟨2, ![9216, 10240]⟩ : Shape).Idx → EReal
  hg : (⟨2, ![9216, 10240]⟩ : Shape).Idx → EReal
  hu : (⟨2, ![9216, 10240]⟩ : Shape).Idx → EReal
  af : (⟨2, ![9216, 128]⟩ : Shape).Idx → EReal
  ar : (⟨2, ![9216, 128]⟩ : Shape).Idx → EReal
  wd : (⟨2, ![10240, 2560]⟩ : Shape).Idx → EReal
  qd : (⟨2, ![10240, 1280]⟩ : Shape).Idx → BitVec 8
  sd : (⟨2, ![80, 2560]⟩ : Shape).Idx → EReal

variable (x : Ins)

/-- The row scales of the two quantised left operands. -/
def scF (r : Fin 9216) : EReal := laneScale x.af r
def scR (r : Fin 9216) : EReal := laneScale x.ar r

/-- The weight unpacked from two 4-bit numbers to a byte, times the scale of its group of 128 rows. -/
def wq (k : Fin 10240) (c : Fin 2560) : EReal :=
  (((nibZ (x.qd (ix2 k ⟨c.val / 2, by have := c.isLt; omega⟩)) c.val : ℤ) : ℝ) : EReal) * x.sd (ix2 ⟨k.val / 128, by have := k.isLt; omega⟩ c)

/-- The five left operands. -/
def lhs : ℕ → Fin 9216 → Fin 10240 → EReal
  | 0, r, k => x.hr (ix2 r k)
  | 1, r, k => x.hg (ix2 r k)
  | 2, r, k => x.hu (ix2 r k)
  | 3, r, k => codeOf (x.hf (ix2 r k)) (scF x r)
  | _, r, k => codeOf (x.hr (ix2 r k)) (scR x r)

def rhs (v : ℕ) (k : Fin 10240) (c : Fin 2560) : EReal := if v < 3 then x.wd (ix2 k c) else wq x k c

/-- One term of the `v`-th product. -/
def term (v : ℕ) (r : Fin 9216) (c : Fin 2560) (n : ℕ) : EReal := if h : n < 10240 then lhs x v r ⟨n, h⟩ * rhs x v ⟨n, h⟩ c else 0

/-- The `v`-th product. -/
def prod (v : ℕ) (r : Fin 9216) (c : Fin 2560) : EReal := ∑ k : Fin 10240, lhs x v r k * rhs x v k c

/-- The four differences from the first product. -/
def err : ℕ → Fin 9216 → Fin 2560 → EReal
  | 0, r, c => prod x 3 r c * scF x r - prod x 0 r c
  | 1, r, c => prod x 1 r c - prod x 0 r c
  | 2, r, c => prod x 2 r c - prod x 0 r c
  | _, r, c => prod x 4 r c * scR x r - prod x 0 r c

/-- A square of a difference, by the row's number. -/
def sqN (w : ℕ) (c : Fin 2560) (n : ℕ) : EReal := if h : n < 9216 then err x w ⟨n, h⟩ c * err x w ⟨n, h⟩ c else 0

def tok (w : ℕ) (r : Fin 9216) : EReal := ∑ c, err x w r c * err x w r c
def chan (w : ℕ) (c : Fin 2560) : EReal := ∑ r, err x w r c * err x w r c
def sgn (r : Fin 9216) : EReal := ∑ c, prod x 0 r c * prod x 0 r c
def codeF (r : Fin 9216) (k : Fin 10240) : BitVec 8 := FloatOps.fptosi (F := Ideal) (φ := .f32) 8 (codeOf (x.hf (ix2 r k)) (scF x r))
def codeR (r : Fin 9216) (k : Fin 10240) : BitVec 8 := FloatOps.fptosi (F := Ideal) (φ := .f32) 8 (codeOf (x.hr (ix2 r k)) (scR x r))

theorem sum_blocks (g n : ℕ) (f : ℕ → EReal) : ∑ j ∈ Finset.range g, ∑ i : Fin n, f (n * j + i.val) = ∑ k : Fin (g * n), f k.val := by
  rw [Finset.sum_range, ← Fintype.sum_prod_type']
  refine Fintype.sum_equiv (finProdFinEquiv (m := g) (n := n)) _ _ fun p => ?_
  refine congrArg f ?_
  show n * p.1.val + p.2.val = p.2.val + n * p.1.val
  omega

theorem prod_blocks (v : ℕ) (r : Fin 9216) (c : Fin 2560) :
    ∑ j ∈ Finset.range 10, ∑ i : Fin 1024, term x v r c (1024 * j + i.val) = prod x v r c := by
  refine (sum_blocks 10 1024 (term x v r c)).trans (Finset.sum_congr rfl fun k _ => ?_)
  exact dif_pos k.isLt

theorem chan_blocks (w : ℕ) (c : Fin 2560) :
    ∑ j ∈ Finset.range 24, ∑ i : Fin 384, sqN x w c (384 * j + i.val) = chan x w c := by
  refine (sum_blocks 24 384 (sqN x w c)).trans (Finset.sum_congr rfl fun k _ => ?_)
  exact dif_pos k.isLt

end Cert.S
end
-- ==== Proof.Acc.lean ====
module

public import proofs.«01_k».proof.Proof.Tile
public import proofs.«01_k».proof.Proof.Spec
public import Idealize.ShloMosaic.Lib.MatmulPlain

/-! What the body computes from one grid point's blocks, read at an index. -/

@[expose] public section

set_option maxRecDepth 16384

noncomputable section

namespace Cert.DownIdeal.Acc

open Idealize.ShloMosaic Idealize.ShloMosaic.TcCoe
open Cert.DownIdeal Cert.DownIdeal.Gen
open Cert.M
open Cert.S (laneScale)

theorem scaleCol_at (x : Vec Ideal S384x128 .f32) (r : Fin 384) (l : Fin 128) : k0_pay3 (F := Ideal) x (ix2 r l) = laneScale x r := by
  unfold_payloads
  pointwise
  rfl

theorem scaleCol'_at (x : Vec Ideal S384x128 .f32) (r : Fin 384) (l : Fin 128) : k0_pay355 (F := Ideal) (k0_pay5 x) (ix2 r l) = laneScale x r := by
  unfold_payloads
  pointwise
  rfl

theorem scaleRow_at (x : Vec Ideal S384x128 .f32) (r : Fin 384) : k0_pay4 (F := Ideal) x (ix2 0 r) = laneScale x r := by
  unfold_payloads
  pointwise
  rfl

theorem scaleRow'_at (x : Vec Ideal S384x128 .f32) (r : Fin 384) : k0_pay356 (F := Ideal) x (ix2 0 r) = laneScale x r := by
  unfold_payloads
  pointwise
  rfl

/-- The scales repeated over the eight groups of lanes. -/
theorem rep_at (s : Vec Ideal S384x128 .f32) (f : Fin 384 → EReal) (hs : ∀ r l, s (ix2 r l) = f r)
    (h : Shape.Concatenates [S384x128, S384x128, S384x128, S384x128, S384x128, S384x128, S384x128, S384x128] S384x1024 1) (r : Fin 384) (k : Fin 1024) :
    concatenate S384x1024 1 [⟨S384x128, s⟩, ⟨S384x128, s⟩, ⟨S384x128, s⟩, ⟨S384x128, s⟩, ⟨S384x128, s⟩, ⟨S384x128, s⟩, ⟨S384x128, s⟩, ⟨S384x128, s⟩] h (ix2 r k) = f r := by
  pointwise
  split_ifs <;> exact hs _ _

theorem codes_at (s : Vec Ideal S384x128 .f32) (f : Fin 384 → EReal) (hs : ∀ r l, s (ix2 r l) = f r) (x : Vec Ideal S384x1024 .f32) (r : Fin 384) (k : Fin 1024) :
    k0_pay719 (F := Ideal) s x (ix2 r k) = codeOf (x (ix2 r k)) (f r) := by
  have e := rep_at s f hs concatenates_S384x128_S384x128_S384x128_S384x128_S384x128_S384x128_S384x128_S384x128_S384x1024_d1 r k
  rw [← e]
  unfold k0_pay719
  generalize concatenate S384x1024 1 [⟨S384x128, s⟩, ⟨S384x128, s⟩, ⟨S384x128, s⟩, ⟨S384x128, s⟩, ⟨S384x128, s⟩, ⟨S384x128, s⟩, ⟨S384x128, s⟩, ⟨S384x128, s⟩] _ = C
  unfold codeOf
  pointwise

/-- One plane of the accumulators after a product is added. -/
def upd (p : Vec Ideal S1x384x2560 .f32) (lhs : FVec Ideal S384x1024 .bf16) (rhs : FVec Ideal S1024x2560 .bf16) : FVec Ideal S1x384x2560 .f32 :=
  shapeCast S1x384x2560 (addf (shapeCast S384x2560 p shapeCasts_S1x384x2560_S384x2560)
    (matmul dot_S384x1024_S1024x2560_S384x2560_1_0_0_1_n_n none lhs rhs (constant S384x2560 .f32 0x00000000#32))) shapeCasts_S384x2560_S1x384x2560

theorem prod_at (lhs : FVec Ideal S384x1024 .bf16) (rhs : FVec Ideal S1024x2560 .bf16) (r : Fin 384) (c : Fin 2560) :
    matmul dot_S384x1024_S1024x2560_S384x2560_1_0_0_1_n_n none lhs rhs (constant S384x2560 .f32 0x00000000#32) (ix2 r c) = ∑ k : Fin 1024, lhs (ix2 r k) * rhs (ix2 k c) := by
  refine (Ideal.matmul_plain_apply none lhs rhs (constant (F := Ideal) S384x2560 .f32 0x00000000#32) r c).trans ?_
  have h0 : constant (F := Ideal) S384x2560 .f32 0x00000000#32 (ix2 r c) = 0 := lit0
  exact (congrArg (· + _) h0).trans (zero_add _)

theorem upd_at (p : Vec Ideal S1x384x2560 .f32) (lhs : FVec Ideal S384x1024 .bf16) (rhs : FVec Ideal S1024x2560 .bf16) (r : Fin 384) (c : Fin 2560) :
    upd p lhs rhs (ix3 0 r c) = p (ix3 0 r c) + ∑ k : Fin 1024, lhs (ix2 r k) * rhs (ix2 k c) := by
  rw [← prod_at]
  unfold upd
  generalize matmul dot_S384x1024_S1024x2560_S384x2560_1_0_0_1_n_n none lhs rhs (constant S384x2560 .f32 0x00000000#32) = M
  pointwise

/-- The five left factors of a grid point. -/
def lhsOf (x0 : Vec Ideal S384x1024 .f32) (x1 : Vec Ideal S384x1024 .f32) (x2 x3 : Vec Ideal S384x1024 .bf16) (s1 s2 : Vec Ideal S384x128 .f32) : ℕ → S384x1024.Idx → EReal
  | 0 => x1
  | 1 => x2
  | 2 => x3
  | 3 => k0_pay719 (F := Ideal) s1 x0
  | _ => k0_pay719 (F := Ideal) s2 x1

/-- The five right factors of a grid point. -/
def rhsOf (x6 D : Vec Ideal S1024x2560 .bf16) (v : ℕ) : S1024x2560.Idx → EReal := if v < 3 then x6 else D

/-- The accumulators after a grid point. -/
def step (a : Vec Ideal S5x384x2560 .f32) (x0 : Vec Ideal S384x1024 .f32) (x1 : Vec Ideal S384x1024 .f32) (x2 x3 : Vec Ideal S384x1024 .bf16)
    (s1 s2 : Vec Ideal S384x128 .f32) (x6 D : Vec Ideal S1024x2560 .bf16) : Vec Ideal S5x384x2560 .f32 := fun i =>
  a i + ∑ k : Fin 1024, lhsOf x0 x1 x2 x3 s1 s2 (i 0).val (ix2 (i 1) k) * rhsOf x6 D (i 0).val (ix2 k (i 2))

/-- Each plane stored is the new accumulators' plane. -/
theorem plane (a : Vec Ideal S5x384x2560 .f32) (x0 : Vec Ideal S384x1024 .f32) (x1 : Vec Ideal S384x1024 .f32) (x2 x3 : Vec Ideal S384x1024 .bf16)
    (s1 s2 : Vec Ideal S384x128 .f32) (x6 D : Vec Ideal S1024x2560 .bf16) (v : ℕ) (inb : ∀ b, ![v, 0, 0] b + S1x384x2560.size b ≤ S5x384x2560.size b)
    (p : Vec Ideal S1x384x2560 .f32) (lhs : FVec Ideal S384x1024 .bf16) (rhs : FVec Ideal S1024x2560 .bf16)
    (hp : p = View.ld a (Rect.unit (s := S5x384x2560) ![v, 0, 0] S1x384x2560.size inb))
    (hl : lhs = lhsOf x0 x1 x2 x3 s1 s2 v) (hr : rhs = rhsOf x6 D v) (x : S1x384x2560.Idx) :
    upd p lhs rhs x = step a x0 x1 x2 x3 s1 s2 x6 D ((Rect.unit (s := S5x384x2560) ![v, 0, 0] S1x384x2560.size inb).emb x) := by
  obtain ⟨z, r, c, rfl⟩ : ∃ (z : Fin 1) (r : Fin 384) (c : Fin 2560), x = ix3 z r c := ⟨x 0, x 1, x 2, eq_ix3 x⟩
  obtain rfl : z = 0 := Subsingleton.elim _ _
  rw [upd_at, hp, hl, hr]
  unfold step
  have e0 : (((Rect.unit (s := S5x384x2560) ![v, 0, 0] S1x384x2560.size inb).emb (ix3 0 r c)) 0).val = v := by
    show v + 1 * 0 = v; omega
  have e1 : (((Rect.unit (s := S5x384x2560) ![v, 0, 0] S1x384x2560.size inb).emb (ix3 0 r c)) 1) = r := Fin.ext (by show 0 + 1 * r.val = r.val; omega)
  have e2 : (((Rect.unit (s := S5x384x2560) ![v, 0, 0] S1x384x2560.size inb).emb (ix3 0 r c)) 2) = c := Fin.ext (by show 0 + 1 * c.val = c.val; omega)
  rw [e0, e1, e2]
  rfl

/-! Loads of what a buffer holds, and stores laid over one another. -/

theorem rd {S : Shape} {e : EltTy} (arg : Memref sig .tc .vmem S e) (h : arg.IsWhole) (x : S.Idx → Elt Ideal e) {off : Fin S.rank → ℕ} (h0 : off = fun _ => 0)
    (inb : ∀ a, off a + S.size a ≤ S.size a) : View.readAt (Elt Ideal) arg.view (Rect.unit (s := S) off S.size inb).toLoadRect (h.unread x) = x := by
  rw [View.readAt_eq_ld, h.read_unread]
  exact View.ld_unit_zero h0 inb x

theorem zero2 : (![0, 0] : Fin 2 → ℕ) = fun _ => 0 := by decide

theorem canon_cons_on {S : Shape} {e : EltTy} {G : S.Idx → Elt Ideal e} (r : Rect S) (w : r.shape.Idx → Elt Ideal e) (L : List (View.Piece (Elt Ideal) S e))
    (hw : ∀ x : r.shape.Idx, w x = G (r.emb x)) (y : S.Idx) (hm : y ∈ r.set) : View.canon (⟨r, w⟩ :: L) y = G y := by
  obtain ⟨x, rfl⟩ := r.exists_idx_of_mem hm
  exact (View.canon_cons_emb r w L x).trans (hw x)

/-- The places with a key below `n` hold the new contents, the others what was there. -/
def UptoK {S : Shape} {e : EltTy} (κ : S.Idx → ℕ) (G a : S.Idx → Elt Ideal e) (n : ℕ) (L : List (View.Piece (Elt Ideal) S e)) : Prop :=
  ∀ y : S.Idx, View.canon L y = if κ y < n then G y else a y

theorem UptoK.load_of {S : Shape} {e : EltTy} {κ : S.Idx → ℕ} {G a : S.Idx → Elt Ideal e} {n : ℕ} {L : List (View.Piece (Elt Ideal) S e)} (h : UptoK κ G a n L)
    (V : View sig .tc .vmem S e) (r : Rect S) (hr : ∀ y, y ∈ r.set ↔ κ y = n) : V.readCov L r.toLoadRect = View.ld a r := by
  rw [View.readCov_eq_canon']
  funext x
  refine (h _).trans (if_neg ?_)
  exact Nat.not_lt.mpr (Nat.le_of_eq ((hr _).mp (r.toLoadRect.idx_mem x)).symm)

theorem UptoK.cons_of {S : Shape} {e : EltTy} {κ : S.Idx → ℕ} {G a : S.Idx → Elt Ideal e} {n : ℕ} {L : List (View.Piece (Elt Ideal) S e)} (h : UptoK κ G a n L)
    (r : Rect S) (hr : ∀ y, y ∈ r.set ↔ κ y = n) (w : r.shape.Idx → Elt Ideal e) (hw : ∀ x, w x = G (r.emb x)) : UptoK κ G a (n + 1) (⟨r, w⟩ :: L) := by
  intro y
  by_cases hm : y ∈ r.set
  · have h0 := (hr y).mp hm
    exact (canon_cons_on r w L hw y hm).trans (if_pos (Nat.lt_succ_of_le (Nat.le_of_eq h0))).symm
  · have hne : ¬κ y = n := fun he => hm ((hr y).mpr he)
    refine ((View.canon_cons_of_not_mem _ _ hm).trans (h y)).trans ?_
    generalize κ y = z at hne
    by_cases hlt : z < n
    · exact (if_pos hlt).trans (if_pos (Nat.lt_succ_of_lt hlt)).symm
    · exact (if_neg hlt).trans (if_neg (by omega)).symm

/-- The first `n` planes hold the new accumulators, the others what was there. -/
abbrev Upto (G a : Vec Ideal S5x384x2560 .f32) (n : ℕ) (L : List (View.Piece (Elt Ideal) S5x384x2560 .f32)) : Prop :=
  UptoK (fun y : S5x384x2560.Idx => (y 0).val) G a n L

theorem plane_mem (v : ℕ) (inb : ∀ b, ![v, 0, 0] b + S1x384x2560.size b ≤ S5x384x2560.size b) (y : S5x384x2560.Idx) :
    y ∈ (Rect.unit (s := S5x384x2560) ![v, 0, 0] S1x384x2560.size inb).set ↔ (y 0).val = v := by
  rw [Rect.mem_set_unit]
  constructor
  · intro h
    have h1 : v ≤ (y 0).val := (h 0).1
    have h2 : (y 0).val < v + 1 := (h 0).2
    omega
  · intro h b
    match b with
    | ⟨0, _⟩ => exact ⟨Nat.le_of_eq h.symm, Nat.lt_succ_of_le (Nat.le_of_eq h)⟩
    | ⟨1, _⟩ => exact ⟨Nat.zero_le _, Nat.lt_of_lt_of_eq (y 1).isLt (Nat.zero_add _).symm⟩
    | ⟨2, _⟩ => exact ⟨Nat.zero_le _, Nat.lt_of_lt_of_eq (y 2).isLt (Nat.zero_add _).symm⟩

theorem Upto.load {G a : Vec Ideal S5x384x2560 .f32} {v : ℕ} {L : List (View.Piece (Elt Ideal) S5x384x2560 .f32)} (h : Upto G a v L) (V : View sig .tc .vmem S5x384x2560 .f32)
    (inb : ∀ b, ![v, 0, 0] b + S1x384x2560.size b ≤ S5x384x2560.size b) :
    V.readCov L (Rect.unit (s := S5x384x2560) ![v, 0, 0] S1x384x2560.size inb).toLoadRect = View.ld a (Rect.unit (s := S5x384x2560) ![v, 0, 0] S1x384x2560.size inb) :=
  UptoK.load_of h V _ (plane_mem v inb)

theorem Upto.cons {G a : Vec Ideal S5x384x2560 .f32} {v : ℕ} {L : List (View.Piece (Elt Ideal) S5x384x2560 .f32)} (h : Upto G a v L)
    (inb : ∀ b, ![v, 0, 0] b + S1x384x2560.size b ≤ S5x384x2560.size b) (w : S1x384x2560.Idx → Elt Ideal .f32)
    (hw : ∀ x, w x = G ((Rect.unit (s := S5x384x2560) ![v, 0, 0] S1x384x2560.size inb).emb x)) :
    Upto G a (v + 1) (⟨Rect.unit (s := S5x384x2560) ![v, 0, 0] S1x384x2560.size inb, w⟩ :: L) :=
  UptoK.cons_of h _ (plane_mem v inb) w hw

theorem Upto.fill (G a : Vec Ideal S5x384x2560 .f32) (inb : ∀ b, ![0, 0, 0] b + S5x384x2560.size b ≤ S5x384x2560.size b) :
    Upto G a 0 [⟨Rect.unit (s := S5x384x2560) ![0, 0, 0] S5x384x2560.size inb, a⟩] := fun y =>
  congrFun (View.canon_cons_unit_lit inb a [] (by decide)) y

theorem Upto.all {G a : Vec Ideal S5x384x2560 .f32} {L : List (View.Piece (Elt Ideal) S5x384x2560 .f32)} (h : Upto G a 5 L) : View.canon L = G := funext fun y =>
  (h y).trans (if_pos (y 0).isLt)

end Cert.DownIdeal.Acc
end
-- ==== Proof.Epi.lean ====
module

public import proofs.«01_k».proof.Proof.Acc

/-! The last point of a row: twenty chunks of 128 columns. -/

@[expose] public section

set_option maxRecDepth 16384

noncomputable section

namespace Cert.DownIdeal.Epi

open Idealize.ShloMosaic Idealize.ShloMosaic.TcCoe
open Cert.DownIdeal Cert.DownIdeal.Gen Cert.DownIdeal.Acc
open Cert.M

theorem inbCh {v : ℕ} (hv : v < 5) {o : ℕ} (ho : o + 128 ≤ 2560) : ∀ a, ![v, 0, o] a + S1x384x128.size a ≤ S5x384x2560.size a := by
  intro a
  match a with
  | ⟨0, _⟩ => show v + 1 ≤ 5; omega
  | ⟨1, _⟩ => exact Nat.le_refl _
  | ⟨2, _⟩ => exact ho

/-- A chunk of one plane of the accumulators. -/
def ch (V : View sig .tc .vmem S5x384x2560 .f32) (L : List (View.Piece (Elt Ideal) S5x384x2560 .f32)) (v : ℕ) (hv : v < 5) (o : ℕ) (ho : o + 128 ≤ 2560) : FVec Ideal S384x128 .f32 :=
  shapeCast S384x128 (V.readCov L (Rect.unit (s := S5x384x2560) ![v, 0, o] S1x384x128.size (inbCh hv ho)).toLoadRect) shapeCasts_S1x384x128_S384x128

theorem ch_at (V : View sig .tc .vmem S5x384x2560 .f32) (L : List (View.Piece (Elt Ideal) S5x384x2560 .f32)) (v : ℕ) (hv : v < 5) (o : ℕ) (ho : o + 128 ≤ 2560)
    (a : Vec Ideal S5x384x2560 .f32) (hL : View.canon L = a) (r : Fin 384) (l : Fin 128) :
    ch V L v hv o ho (ix2 r l) = a (ix3 ⟨v, hv⟩ r ⟨o + l.val, by have := l.isLt; omega⟩) := by
  subst hL
  unfold ch
  rw [View.readCov_eq_canon']
  generalize View.canon L = a
  rw [shapeCast_apply _ shapeCasts_S1x384x128_S384x128 (ix2 r l) (ix3 0 r l) (by
    rw [Shape.rowMajor_val_two, Shape.rowMajor_val_three]
    show (0 * 384 + r.val) * 128 + l.val = r.val * 128 + l.val
    omega)]
  refine congrArg a ?_
  funext d
  match d with
  | ⟨0, _⟩ => exact Fin.ext (by show v + 1 * 0 = v; omega)
  | ⟨1, _⟩ => exact Fin.ext (by show 0 + 1 * r.val = r.val; omega)
  | ⟨2, _⟩ => exact Fin.ext (by show o + 1 * l.val = o + l.val; omega)

/-- A chunk of one of the four differences from the first plane. -/
def errV (V : View sig .tc .vmem S5x384x2560 .f32) (L : List (View.Piece (Elt Ideal) S5x384x2560 .f32)) (s1 s2 : Vec Ideal S384x128 .f32) (o : ℕ) (ho : o + 128 ≤ 2560) : ℕ → FVec Ideal S384x128 .f32
  | 0 => subf (mulf (ch V L 3 (by decide) o ho) s1) (ch V L 0 (by decide) o ho)
  | 1 => subf (ch V L 1 (by decide) o ho) (ch V L 0 (by decide) o ho)
  | 2 => subf (ch V L 2 (by decide) o ho) (ch V L 0 (by decide) o ho)
  | _ => subf (mulf (ch V L 4 (by decide) o ho) s2) (ch V L 0 (by decide) o ho)

/-- The four differences, from the accumulators and the rows' scales. -/
def errOf (a : S5x384x2560.Idx → EReal) (f1 f2 : Fin 384 → EReal) : ℕ → Fin 384 → Fin 2560 → EReal
  | 0, r, c => a (ix3 3 r c) * f1 r - a (ix3 0 r c)
  | 1, r, c => a (ix3 1 r c) - a (ix3 0 r c)
  | 2, r, c => a (ix3 2 r c) - a (ix3 0 r c)
  | _, r, c => a (ix3 4 r c) * f2 r - a (ix3 0 r c)

theorem errV_at (V : View sig .tc .vmem S5x384x2560 .f32) (L : List (View.Piece (Elt Ideal) S5x384x2560 .f32)) (s1 s2 : Vec Ideal S384x128 .f32) (f1 f2 : Fin 384 → EReal)
    (h1 : ∀ r l, s1 (ix2 r l) = f1 r) (h2 : ∀ r l, s2 (ix2 r l) = f2 r) (o : ℕ) (ho : o + 128 ≤ 2560)
    (a : Vec Ideal S5x384x2560 .f32) (hL : View.canon L = a) (v : ℕ) (r : Fin 384) (l : Fin 128) :
    errV V L s1 s2 o ho v (ix2 r l) = errOf a f1 f2 v r ⟨o + l.val, by have := l.isLt; omega⟩ := by
  have e := fun v hv => ch_at V L v hv o ho a hL r l
  have e0 := e 0 (by decide)
  match v with
  | 0 => exact congrArg₂ (fun x y : EReal => x - y) (congrArg₂ (fun x y : EReal => x * y) (e 3 (by decide)) (h1 r l)) e0
  | 1 => exact congrArg₂ (fun x y : EReal => x - y) (e 1 (by decide)) e0
  | 2 => exact congrArg₂ (fun x y : EReal => x - y) (e 2 (by decide)) e0
  | n + 3 => exact congrArg₂ (fun x y : EReal => x - y) (congrArg₂ (fun x y : EReal => x * y) (e 4 (by decide)) (h2 r l)) e0

/-- Squares of chunks added up. -/
def sumCh (E : (b : ℕ) → b < 20 → FVec Ideal S384x128 .f32) : (n : ℕ) → n < 20 → FVec Ideal S384x128 .f32
  | 0, h => mulf (E 0 h) (E 0 h)
  | n + 1, h => addf (sumCh E n (by omega)) (mulf (E (n + 1) h) (E (n + 1) h))

theorem sumCh_at (E : (b : ℕ) → b < 20 → FVec Ideal S384x128 .f32) (i : S384x128.Idx) : ∀ (n : ℕ) (hn : n < 20),
    sumCh E n hn i = ∑ b : Fin (n + 1), (E b.val (by have := b.isLt; omega) i * E b.val (by have := b.isLt; omega) i : EReal)
  | 0, hn => by rw [Fin.sum_univ_one]; rfl
  | n + 1, hn => by rw [Fin.sum_univ_castSucc]; exact congrArg₂ (· + ·) (sumCh_at E i n (by omega)) rfl

/-- Sums over the lanes, laid out as a row. -/
def laneSum (A : FVec Ideal S384x128 .f32) : FVec Ideal S1x384 .f32 :=
  shapeCast S1x384 (multiReduction .add [0] S384 (transpose S128x384 [1, 0] A transposes_S384x128_p1_0_S128x384) 0x00000000#32 reduces_S128x384_S384 (.inl rfl) rfl) shapeCasts_S384_S1x384

theorem laneSum_at (A : FVec Ideal S384x128 .f32) (r : Fin 384) : laneSum A (ix2 0 r) = ∑ l : Fin 128, (A (ix2 r l) : EReal) := by
  unfold laneSum
  pointwise

theorem sum_chunks (f : Fin 2560 → EReal) : ∑ l : Fin 128, ∑ b : Fin 20, f ⟨128 * b.val + l.val, by have := b.isLt; have := l.isLt; omega⟩ = ∑ c, f c := by
  rw [Finset.sum_comm, ← Fintype.sum_prod_type']
  refine Fintype.sum_equiv (finProdFinEquiv (m := 20) (n := 128)) _ _ fun p => ?_
  refine congrArg f (Fin.ext ?_)
  show 128 * p.1.val + p.2.val = p.2.val + 128 * p.1.val
  omega

/-- A chunk of column sums added to what was held. -/
def colUpd (E : FVec Ideal S384x128 .f32) (w : Vec Ideal S1x128 .f32) : FVec Ideal S1x128 .f32 :=
  addf (shapeCast S1x128 w shapeCasts_S1x128_S1x128)
    (shapeCast S1x128 (multiReduction .add [0] S128 (mulf E E) 0x00000000#32 reduces_S384x128_S128 (.inl rfl) rfl) shapeCasts_S128_S1x128)

theorem colUpd_at (E : FVec Ideal S384x128 .f32) (w : Vec Ideal S1x128 .f32) (l : Fin 128) :
    colUpd E w (ix2 0 l) = w (ix2 0 l) + ∑ r : Fin 384, (E (ix2 r l) * E (ix2 r l) : EReal) := by
  unfold colUpd
  pointwise

/-- The rows' sums of squares of one kind of chunk over the twenty. -/
def rowSq (E : (b : ℕ) → b < 20 → FVec Ideal S384x128 .f32) : FVec Ideal S1x384 .f32 := laneSum (sumCh E 19 (by decide))

theorem rowSq_at (E : (b : ℕ) → b < 20 → FVec Ideal S384x128 .f32) (f : Fin 384 → Fin 2560 → EReal)
    (hE : ∀ b hb r (l : Fin 128), E b hb (ix2 r l) = f r ⟨128 * b + l.val, by have := l.isLt; omega⟩) (r : Fin 384) :
    rowSq E (ix2 0 r) = ∑ c, f r c * f r c := by
  unfold rowSq
  rw [laneSum_at, ← sum_chunks]
  refine Finset.sum_congr rfl fun l _ => ?_
  rw [sumCh_at]
  refine Finset.sum_congr rfl fun b _ => ?_
  rw [hE]

/-- The sums over the rows of what a row tile holds, chunk by chunk: how far they have got. -/
def colKey (y : S4x2560.Idx) : ℕ := 4 * ((y 1).val / 128) + (y 0).val

theorem col_mem (v o : ℕ) (ho : o % 128 = 0) (hv : v < 4) (inb : ∀ b, ![v, o] b + S1x128.size b ≤ S4x2560.size b) (y : S4x2560.Idx) :
    y ∈ (Rect.unit (s := S4x2560) ![v, o] S1x128.size inb).set ↔ colKey y = 4 * (o / 128) + v := by
  rw [Rect.mem_set_unit]
  unfold colKey
  have hy : (y 0).val < 4 := (y 0).isLt
  constructor
  · intro h
    have h1 : v ≤ (y 0).val := (h 0).1
    have h2 : (y 0).val < v + 1 := (h 0).2
    have h3 : o ≤ (y 1).val := (h 1).1
    have h4 : (y 1).val < o + 128 := (h 1).2
    omega
  · intro h b
    match b with
    | ⟨0, _⟩ => exact ⟨by show v ≤ (y 0).val; omega, by show (y 0).val < v + 1; omega⟩
    | ⟨1, _⟩ => exact ⟨by show o ≤ (y 1).val; omega, by show (y 1).val < o + 128; omega⟩

/-- The column sums after a row tile. -/
def colOf (a : S5x384x2560.Idx → EReal) (f1 f2 : Fin 384 → EReal) (w : S4x2560.Idx → EReal) : Vec Ideal S4x2560 .f32 := fun y =>
  w y + ∑ r : Fin 384, errOf a f1 f2 (y 0).val r (y 1) * errOf a f1 f2 (y 0).val r (y 1)

theorem col_piece (V : View sig .tc .vmem S5x384x2560 .f32) (L : List (View.Piece (Elt Ideal) S5x384x2560 .f32)) (s1 s2 : Vec Ideal S384x128 .f32) (f1 f2 : Fin 384 → EReal)
    (h1 : ∀ r l, s1 (ix2 r l) = f1 r) (h2 : ∀ r l, s2 (ix2 r l) = f2 r) (a : Vec Ideal S5x384x2560 .f32) (hL : View.canon L = a) (w0 : Vec Ideal S4x2560 .f32)
    (v o : ℕ) (ho : o + 128 ≤ 2560) (inb : ∀ b, ![v, o] b + S1x128.size b ≤ S4x2560.size b) (w : Vec Ideal S1x128 .f32)
    (hw : w = View.ld w0 (Rect.unit (s := S4x2560) ![v, o] S1x128.size inb)) (x : S1x128.Idx) :
    colUpd (errV V L s1 s2 o ho v) w x = colOf a f1 f2 w0 ((Rect.unit (s := S4x2560) ![v, o] S1x128.size inb).emb x) := by
  obtain ⟨z, l, rfl⟩ : ∃ (z : Fin 1) (l : Fin 128), x = ix2 z l := ⟨x 0, x 1, eq_ix2 x⟩
  obtain rfl : z = 0 := Subsingleton.elim _ _
  rw [colUpd_at, hw]
  unfold colOf
  have e0 : (((Rect.unit (s := S4x2560) ![v, o] S1x128.size inb).emb (ix2 0 l)) 0).val = v := by
    show v + 1 * 0 = v; omega
  have e1 : (((Rect.unit (s := S4x2560) ![v, o] S1x128.size inb).emb (ix2 0 l)) 1) = (⟨o + l.val, by have := l.isLt; omega⟩ : Fin 2560) :=
    Fin.ext (by show o + 1 * l.val = o + l.val; omega)
  rw [e0, e1]
  refine congrArg₂ (· + ·) rfl (Finset.sum_congr rfl fun r _ => ?_)
  rw [errV_at V L s1 s2 f1 f2 h1 h2 o ho a hL v r l]

/-- The rows' sums of squares of the four differences. -/
def rowOf (a : S5x384x2560.Idx → EReal) (f1 f2 : Fin 384 → EReal) : Vec Ideal S4x384 .f32 := fun y =>
  ∑ c, errOf a f1 f2 (y 0).val (y 1) c * errOf a f1 f2 (y 0).val (y 1) c

theorem row_piece (V : View sig .tc .vmem S5x384x2560 .f32) (L : List (View.Piece (Elt Ideal) S5x384x2560 .f32)) (s1 s2 : Vec Ideal S384x128 .f32) (f1 f2 : Fin 384 → EReal)
    (h1 : ∀ r l, s1 (ix2 r l) = f1 r) (h2 : ∀ r l, s2 (ix2 r l) = f2 r) (a : Vec Ideal S5x384x2560 .f32) (hL : View.canon L = a)
    (v : ℕ) (inb : ∀ b, ![v, 0] b + S1x384.size b ≤ S4x384.size b) (x : S1x384.Idx) :
    rowSq (fun b hb => errV V L s1 s2 (128 * b) (by omega) v) x = rowOf a f1 f2 ((Rect.unit (s := S4x384) ![v, 0] S1x384.size inb).emb x) := by
  obtain ⟨z, r, rfl⟩ : ∃ (z : Fin 1) (r : Fin 384), x = ix2 z r := ⟨x 0, x 1, eq_ix2 x⟩
  obtain rfl : z = 0 := Subsingleton.elim _ _
  rw [rowSq_at _ (errOf a f1 f2 v) (fun b hb r l => errV_at V L s1 s2 f1 f2 h1 h2 (128 * b) (by omega) a hL v r l)]
  unfold rowOf
  have e0 : (((Rect.unit (s := S4x384) ![v, 0] S1x384.size inb).emb (ix2 0 r)) 0).val = v := by
    show v + 1 * 0 = v; omega
  have e1 : (((Rect.unit (s := S4x384) ![v, 0] S1x384.size inb).emb (ix2 0 r)) 1) = r := Fin.ext (by show 0 + 1 * r.val = r.val; omega)
  rw [e0, e1]

/-- The rows' sums of squares of the first plane. -/
theorem sig_at (V : View sig .tc .vmem S5x384x2560 .f32) (L : List (View.Piece (Elt Ideal) S5x384x2560 .f32)) (a : Vec Ideal S5x384x2560 .f32) (hL : View.canon L = a) (r : Fin 384) :
    rowSq (fun b hb => ch V L 0 (by decide) (128 * b) (by omega)) (ix2 0 r) = ∑ c, (a (ix3 0 r c) * a (ix3 0 r c) : EReal) :=
  rowSq_at _ (fun r c => a (ix3 0 r c)) (fun b hb r l => ch_at V L 0 (by decide) (128 * b) (by omega) a hL r l) r

/-- The first plane. -/
def plane0 (a : S5x384x2560.Idx → EReal) : Vec Ideal S384x2560 .bf16 := fun y => a (ix3 0 (y 0) (y 1))

theorem y_piece (V : View sig .tc .vmem S5x384x2560 .f32) (L : List (View.Piece (Elt Ideal) S5x384x2560 .f32)) (a : Vec Ideal S5x384x2560 .f32) (hL : View.canon L = a)
    (o : ℕ) (ho : o + 128 ≤ 2560) (inb : ∀ b, ![0, o] b + S384x128.size b ≤ S384x2560.size b) (x : S384x128.Idx) :
    truncf .bf16 (ch V L 0 (by decide) o ho) bitsLt_bf16_f32 x = plane0 a ((Rect.unit (s := S384x2560) ![0, o] S384x128.size inb).emb x) := by
  obtain ⟨r, l, rfl⟩ : ∃ (r : Fin 384) (l : Fin 128), x = ix2 r l := ⟨x 0, x 1, eq_ix2 x⟩
  refine (ch_at V L 0 (by decide) o ho a hL r l).trans ?_
  unfold plane0
  refine congrArg a (congrArg₂ (ix3 0) ?_ ?_)
  · exact Fin.ext (by show r.val = 0 + 1 * r.val; omega)
  · exact Fin.ext (by show o + l.val = o + 1 * l.val; omega)

end Cert.DownIdeal.Epi
end
-- ==== Proof.Blk.lean ====
module

public import proofs.«01_k».proof.Proof.Epi
public import proofs.«01_k».proof.Proof.Run.Points

/-! Where the blocks of a grid point lie in the arrays, and what one point adds to the five products. -/

@[expose] public section

set_option maxRecDepth 16384

noncomputable section

namespace Cert.DownIdeal.Blk

open Idealize.ShloMosaic Idealize.ShloMosaic.TcCoe Idealize.SL.Sem
open Cert.DownIdeal Cert.DownIdeal.Gen Cert.DownIdeal.Run Cert.DownIdeal.Tile Cert.DownIdeal.Acc Cert.DownIdeal.Epi
open Cert.M Cert.S

variable (m : (ℓ : Loc nD τ sig) → Buf (Elt Ideal) ℓ) (c : Dev nD)

/-- The nine inputs. -/
def ins : Ins where
  hf := m ((c : Thread nD τ).loc main_arg0)
  hr := m ((c : Thread nD τ).loc main_arg1)
  hg := m ((c : Thread nD τ).loc main_arg2)
  hu := m ((c : Thread nD τ).loc main_arg3)
  af := m ((c : Thread nD τ).loc main_arg4)
  ar := m ((c : Thread nD τ).loc main_arg5)
  wd := m ((c : Thread nD τ).loc main_arg6)
  qd := m ((c : Thread nD τ).loc main_arg7)
  sd := m ((c : Thread nD τ).loc main_arg8)

theorem idx : ∀ t : Fin cfg0.N, (win0_0.index t = ![t.val / 10, t.val % 10] ∧ win0_1.index t = ![t.val / 10, t.val % 10]
    ∧ win0_2.index t = ![t.val / 10, t.val % 10] ∧ win0_3.index t = ![t.val / 10, t.val % 10] ∧ win0_4.index t = ![t.val / 10, 0]
    ∧ win0_5.index t = ![t.val / 10, 0] ∧ win0_6.index t = ![t.val % 10, 0] ∧ win0_7.index t = ![t.val % 10, 0] ∧ win0_8.index t = ![t.val % 10, 0])
    ∧ (win0_9.index t = ![t.val / 10, 0] ∧ win0_10.index t = ![0, t.val / 10] ∧ win0_11.index t = ![0, 0] ∧ win0_12.index t = ![0, t.val / 10]
    ∧ win0_13.index t = ![t.val / 10, t.val % 10] ∧ win0_14.index t = ![0, t.val / 10] ∧ win0_15.index t = ![t.val / 10, t.val % 10] ∧ win0_16.index t = ![0, t.val / 10]) :=
  (by decide +kernel : ∀ t : Fin grid0.N, _)

theorem t_lt (t : Fin cfg0.N) : t.val < 240 := t.isLt

/-- The row of the arrays under row `r` of the point's blocks, and the column of the left operands under column `k`. -/
def Rw (t : Fin cfg0.N) (r : Fin 384) : Fin 9216 := ⟨384 * (t.val / 10) + r.val, by have := t_lt t; have := r.isLt; omega⟩
def Kc (t : Fin cfg0.N) (k : Fin 1024) : Fin 10240 := ⟨1024 * (t.val % 10) + k.val, by have := k.isLt; omega⟩
def Gc (t : Fin cfg0.N) (g : Fin 8) : Fin 80 := ⟨8 * (t.val % 10) + g.val, by have := g.isLt; omega⟩

theorem emb0 (t : Fin cfg0.N) (r : Fin 384) (k : Fin 1024) : ((cfg0.win 0).blk t).view.emb (ix2 r k) = ix2 (Rw t r) (Kc t k) := by
  blk_ext [idx t, Rw, Kc]
theorem emb1 (t : Fin cfg0.N) (r : Fin 384) (k : Fin 1024) : ((cfg0.win 1).blk t).view.emb (ix2 r k) = ix2 (Rw t r) (Kc t k) := by
  blk_ext [idx t, Rw, Kc]
theorem emb2 (t : Fin cfg0.N) (r : Fin 384) (k : Fin 1024) : ((cfg0.win 2).blk t).view.emb (ix2 r k) = ix2 (Rw t r) (Kc t k) := by
  blk_ext [idx t, Rw, Kc]
theorem emb3 (t : Fin cfg0.N) (r : Fin 384) (k : Fin 1024) : ((cfg0.win 3).blk t).view.emb (ix2 r k) = ix2 (Rw t r) (Kc t k) := by
  blk_ext [idx t, Rw, Kc]
theorem emb4 (t : Fin cfg0.N) (r : Fin 384) (l : Fin 128) : ((cfg0.win 4).blk t).view.emb (ix2 r l) = ix2 (Rw t r) l := by
  blk_ext [idx t, Rw]
theorem emb5 (t : Fin cfg0.N) (r : Fin 384) (l : Fin 128) : ((cfg0.win 5).blk t).view.emb (ix2 r l) = ix2 (Rw t r) l := by
  blk_ext [idx t, Rw]
theorem emb6 (t : Fin cfg0.N) (k : Fin 1024) (C : Fin 2560) : ((cfg0.win 6).blk t).view.emb (ix2 k C) = ix2 (Kc t k) C := by
  blk_ext [idx t, Kc]
theorem emb7 (t : Fin cfg0.N) (k : Fin 1024) (C : Fin 1280) : ((cfg0.win 7).blk t).view.emb (ix2 k C) = ix2 (Kc t k) C := by
  blk_ext [idx t, Kc]
theorem emb8 (t : Fin cfg0.N) (k : Fin 8) (C : Fin 2560) : ((cfg0.win 8).blk t).view.emb (ix2 k C) = ix2 (Gc t k) C := by
  blk_ext [idx t, Gc]
theorem emb9 (t : Fin cfg0.N) (r : Fin 384) (C : Fin 2560) : ((cfg0.win 9).blk t).view.emb (ix2 r C) = ix2 (Rw t r) C := by
  blk_ext [idx t, Rw]
theorem emb10 (t : Fin cfg0.N) (w : Fin 4) (r : Fin 384) : ((cfg0.win 10).blk t).view.emb (ix2 w r) = ix2 w (Rw t r) := by
  blk_ext [idx t, Rw]
theorem emb11 (t : Fin cfg0.N) (w : Fin 4) (C : Fin 2560) : ((cfg0.win 11).blk t).view.emb (ix2 w C) = ix2 w C := by
  blk_ext [idx t]
theorem emb12 (t : Fin cfg0.N) (r : Fin 384) : ((cfg0.win 12).blk t).view.emb (ix2 0 r) = ix2 0 (Rw t r) := by
  blk_ext [idx t, Rw]
theorem emb13 (t : Fin cfg0.N) (r : Fin 384) (k : Fin 1024) : ((cfg0.win 13).blk t).view.emb (ix2 r k) = ix2 (Rw t r) (Kc t k) := by
  blk_ext [idx t, Rw, Kc]
theorem emb14 (t : Fin cfg0.N) (r : Fin 384) : ((cfg0.win 14).blk t).view.emb (ix2 0 r) = ix2 0 (Rw t r) := by
  blk_ext [idx t, Rw]
theorem emb15 (t : Fin cfg0.N) (r : Fin 384) (k : Fin 1024) : ((cfg0.win 15).blk t).view.emb (ix2 r k) = ix2 (Rw t r) (Kc t k) := by
  blk_ext [idx t, Rw, Kc]
theorem emb16 (t : Fin cfg0.N) (r : Fin 384) : ((cfg0.win 16).blk t).view.emb (ix2 0 r) = ix2 0 (Rw t r) := by
  blk_ext [idx t, Rw]

theorem blk0 (t : Fin cfg0.N) (r : Fin 384) (k : Fin 1024) : iblk m c 0 t (ix2 r k) = (ins m c).hf (ix2 (Rw t r) (Kc t k)) :=
  congrArg (m ((c : Thread nD τ).loc main_arg0)) (emb0 t r k)
theorem blk1 (t : Fin cfg0.N) (r : Fin 384) (k : Fin 1024) : iblk m c 1 t (ix2 r k) = (ins m c).hr (ix2 (Rw t r) (Kc t k)) :=
  congrArg (m ((c : Thread nD τ).loc main_arg1)) (emb1 t r k)
theorem blk2 (t : Fin cfg0.N) (r : Fin 384) (k : Fin 1024) : iblk m c 2 t (ix2 r k) = (ins m c).hg (ix2 (Rw t r) (Kc t k)) :=
  congrArg (m ((c : Thread nD τ).loc main_arg2)) (emb2 t r k)
theorem blk3 (t : Fin cfg0.N) (r : Fin 384) (k : Fin 1024) : iblk m c 3 t (ix2 r k) = (ins m c).hu (ix2 (Rw t r) (Kc t k)) :=
  congrArg (m ((c : Thread nD τ).loc main_arg3)) (emb3 t r k)
theorem blk4 (t : Fin cfg0.N) (r : Fin 384) (l : Fin 128) : iblk m c 4 t (ix2 r l) = (ins m c).af (ix2 (Rw t r) l) :=
  congrArg (m ((c : Thread nD τ).loc main_arg4)) (emb4 t r l)
theorem blk5 (t : Fin cfg0.N) (r : Fin 384) (l : Fin 128) : iblk m c 5 t (ix2 r l) = (ins m c).ar (ix2 (Rw t r) l) :=
  congrArg (m ((c : Thread nD τ).loc main_arg5)) (emb5 t r l)
theorem blk6 (t : Fin cfg0.N) (k : Fin 1024) (C : Fin 2560) : iblk m c 6 t (ix2 k C) = (ins m c).wd (ix2 (Kc t k) C) :=
  congrArg (m ((c : Thread nD τ).loc main_arg6)) (emb6 t k C)
theorem blk7 (t : Fin cfg0.N) (k : Fin 1024) (C : Fin 1280) : iblk m c 7 t (ix2 k C) = (ins m c).qd (ix2 (Kc t k) C) :=
  congrArg (m ((c : Thread nD τ).loc main_arg7)) (emb7 t k C)
theorem blk8 (t : Fin cfg0.N) (k : Fin 8) (C : Fin 2560) : iblk m c 8 t (ix2 k C) = (ins m c).sd (ix2 (Gc t k) C) :=
  congrArg (m ((c : Thread nD τ).loc main_arg8)) (emb8 t k C)

theorem laneF (t : Fin cfg0.N) (r : Fin 384) : laneScale (iblk m c 4 t) r = scF (ins m c) (Rw t r) :=
  congrArg (fun f => scaleOf (Finset.fold max NEG f Finset.univ)) (funext fun l => blk4 m c t r l)
theorem laneR (t : Fin cfg0.N) (r : Fin 384) : laneScale (iblk m c 5 t) r = scR (ins m c) (Rw t r) :=
  congrArg (fun f => scaleOf (Finset.fold max NEG f Finset.univ)) (funext fun l => blk5 m c t r l)

theorem dd_at (t : Fin cfg0.N) (k : Fin 1024) (C : Fin 2560) : dd (iblk m c 7 t) (iblk m c 8 t) (ix2 k C) = wq (ins m c) (Kc t k) C := by
  refine congrArg₂ (fun (a : BitVec 8) (b : EReal) => (((nibZ a C.val : ℤ) : ℝ) : EReal) * b) (blk7 m c t k _) ((blk8 m c t _ C).trans ?_)
  refine congrArg (ins m c).sd (congrArg (fun g => ix2 g C) (Fin.ext ?_))
  have := k.isLt
  show 8 * (t.val % 10) + k.val / 128 = (1024 * (t.val % 10) + k.val) / 128
  omega

theorem lhs_at (t : Fin cfg0.N) (s1 s2 : Vec Ideal S384x128 .f32) (h1 : ∀ r l, s1 (ix2 r l) = scF (ins m c) (Rw t r)) (h2 : ∀ r l, s2 (ix2 r l) = scR (ins m c) (Rw t r))
    (r : Fin 384) (k : Fin 1024) : ∀ v : ℕ,
    lhsOf (iblk m c 0 t) (iblk m c 1 t) (iblk m c 2 t) (iblk m c 3 t) s1 s2 v (ix2 r k) = lhs (ins m c) v (Rw t r) (Kc t k)
  | 0 => blk1 m c t r k
  | 1 => blk2 m c t r k
  | 2 => blk3 m c t r k
  | 3 => (codes_at s1 _ h1 (iblk m c 0 t) r k).trans (congrArg (fun v => codeOf v _) (blk0 m c t r k))
  | n + 4 => (codes_at s2 _ h2 (iblk m c 1 t) r k).trans (congrArg (fun v => codeOf v _) (blk1 m c t r k))

theorem rhs_at (t : Fin cfg0.N) (k : Fin 1024) (C : Fin 2560) (v : ℕ) :
    rhsOf (iblk m c 6 t) (dd (iblk m c 7 t) (iblk m c 8 t)) v (ix2 k C) = rhs (ins m c) v (Kc t k) C := by
  unfold rhsOf rhs
  split_ifs
  · exact blk6 m c t k C
  · exact dd_at m c t k C

/-- One point adds its block's terms. -/
theorem point (t : Fin cfg0.N) (a : Vec Ideal S5x384x2560 .f32) (s1 s2 : Vec Ideal S384x128 .f32) (h1 : ∀ r l, s1 (ix2 r l) = scF (ins m c) (Rw t r))
    (h2 : ∀ r l, s2 (ix2 r l) = scR (ins m c) (Rw t r)) (v : Fin 5) (r : Fin 384) (C : Fin 2560) :
    step a (iblk m c 0 t) (iblk m c 1 t) (iblk m c 2 t) (iblk m c 3 t) s1 s2 (iblk m c 6 t) (dd (iblk m c 7 t) (iblk m c 8 t)) (ix3 v r C)
      = a (ix3 v r C) + ∑ i : Fin 1024, term (ins m c) v.val (Rw t r) C (1024 * (t.val % 10) + i.val) := by
  refine congrArg (a (ix3 v r C) + ·) (Finset.sum_congr rfl fun k _ => ?_)
  refine (congrArg₂ (· * ·) (lhs_at m c t s1 s2 h1 h2 r k v.val) (rhs_at m c t k C v.val)).trans ?_
  unfold term
  rw [dif_pos (show 1024 * (t.val % 10) + k.val < 10240 from (Kc t k).isLt)]
  rfl

/-- The differences, once the five products are complete. -/
theorem err_at (t : Fin cfg0.N) (a : S5x384x2560.Idx → EReal) (ha : ∀ v r C, a (ix3 v r C) = prod (ins m c) v.val (Rw t r) C) (r : Fin 384) (C : Fin 2560) : ∀ w : ℕ,
    errOf a (fun r => scF (ins m c) (Rw t r)) (fun r => scR (ins m c) (Rw t r)) w r C = err (ins m c) w (Rw t r) C
  | 0 => congrArg₂ (fun x y : EReal => x - y) (congrArg (· * _) (ha 3 r C)) (ha 0 r C)
  | 1 => congrArg₂ (fun x y : EReal => x - y) (ha 1 r C) (ha 0 r C)
  | 2 => congrArg₂ (fun x y : EReal => x - y) (ha 2 r C) (ha 0 r C)
  | n + 3 => congrArg₂ (fun x y : EReal => x - y) (congrArg (· * _) (ha 4 r C)) (ha 0 r C)

theorem tok_at (t : Fin cfg0.N) (a : S5x384x2560.Idx → EReal) (ha : ∀ v r C, a (ix3 v r C) = prod (ins m c) v.val (Rw t r) C) (w : Fin 4) (r : Fin 384) :
    rowOf a (fun r => scF (ins m c) (Rw t r)) (fun r => scR (ins m c) (Rw t r)) (ix2 w r) = tok (ins m c) w.val (Rw t r) :=
  Finset.sum_congr rfl fun C _ => congrArg (fun x : EReal => x * x) (err_at m c t a ha r C w.val)

theorem chan_at (t : Fin cfg0.N) (a : S5x384x2560.Idx → EReal) (ha : ∀ v r C, a (ix3 v r C) = prod (ins m c) v.val (Rw t r) C) (w0 : S4x2560.Idx → EReal) (w : Fin 4) (C : Fin 2560) :
    colOf a (fun r => scF (ins m c) (Rw t r)) (fun r => scR (ins m c) (Rw t r)) w0 (ix2 w C)
      = w0 (ix2 w C) + ∑ i : Fin 384, sqN (ins m c) w.val C (384 * (t.val / 10) + i.val) := by
  refine congrArg (w0 (ix2 w C) + ·) (Finset.sum_congr rfl fun r _ => ?_)
  refine (congrArg (fun x : EReal => x * x) (err_at m c t a ha r C w.val)).trans ?_
  unfold sqN
  rw [dif_pos (show 384 * (t.val / 10) + r.val < 9216 from (Rw t r).isLt)]
  rfl

theorem sgn_at (t : Fin cfg0.N) (a : S5x384x2560.Idx → EReal) (ha : ∀ v r C, a (ix3 v r C) = prod (ins m c) v.val (Rw t r) C) (r : Fin 384) :
    ∑ C : Fin 2560, (a (ix3 0 r C) * a (ix3 0 r C) : EReal) = sgn (ins m c) (Rw t r) :=
  Finset.sum_congr rfl fun C _ => congrArg (fun x : EReal => x * x) (ha 0 r C)

theorem code_at (t : Fin cfg0.N) (s1 : Vec Ideal S384x128 .f32) (h1 : ∀ r l, s1 (ix2 r l) = scF (ins m c) (Rw t r)) (r : Fin 384) (k : Fin 1024) :
    k0_pay720 (F := Ideal) s1 (iblk m c 0 t) (ix2 r k) = codeF (ins m c) (Rw t r) (Kc t k) :=
  congrArg (FloatOps.fptosi (F := Ideal) (φ := .f32) 8) ((codes_at s1 _ h1 (iblk m c 0 t) r k).trans (congrArg (fun v => codeOf v _) (blk0 m c t r k)))
theorem code_at' (t : Fin cfg0.N) (s2 : Vec Ideal S384x128 .f32) (h2 : ∀ r l, s2 (ix2 r l) = scR (ins m c) (Rw t r)) (r : Fin 384) (k : Fin 1024) :
    k0_pay724 (F := Ideal) s2 (iblk m c 1 t) (ix2 r k) = codeR (ins m c) (Rw t r) (Kc t k) :=
  congrArg (FloatOps.fptosi (F := Ideal) (φ := .f32) 8) ((codes_at s2 _ h2 (iblk m c 1 t) r k).trans (congrArg (fun v => codeOf v _) (blk1 m c t r k)))

theorem none5 (i : S5x384x2560.Idx) : k0_pay357 (F := Ideal) i = 0 := by
  unfold k0_pay357
  pointwise
theorem none4 (i : S4x2560.Idx) : k0_pay6 (F := Ideal) i = 0 := by
  unfold k0_pay6
  pointwise

end Cert.DownIdeal.Blk
end
-- ==== Proof.DdA.lean ====
module

public import proofs.«01_k».proof.Proof.Run.RunA
public import proofs.«01_k».proof.Proof.Tile

/-! The unpacked weight block that the body assembles tile by tile. -/

@[expose] public section

set_option maxRecDepth 16384

noncomputable section

namespace Cert.DownIdeal.Tile

open Idealize.ShloMosaic Idealize.ShloMosaic.TcCoe
open Cert.DownIdeal Cert.DownIdeal.Gen Cert.DownIdeal.Run
open Cert.M

set_option maxHeartbeats 4000000 in
theorem piecesA (c : Dev nD) (arg9 : Memref sig .tc .vmem S1024x1280 .i8) (harg9 : arg9.IsWhole) (arg10 : Memref sig .tc .vmem S8x2560 .f32) (harg10 : arg10.IsWhole)
    (x7 : Vec Ideal S1024x1280 .i8) (x8 : Vec Ideal S8x2560 .f32) :
    View.PiecesOf (dd x7 x8) (kernelRun0_A.sl.HS0_160 (F := Ideal) c arg9 harg9 arg10 harg10 x7 x8) := by
  unfold kernelRun0_A.sl.HS0_160
  have pB := piece_at k0_pay359 64 (Nat.le_refl 64) gselB_at arg9 harg9 arg10 harg10 x7 x8
  have pA := piece_at k0_pay358 0 (Nat.zero_le 64) gselA_at arg9 harg9 arg10 harg10 x7 x8
  iterate 80
    refine View.PiecesOf.cons (fun x => ?_) ?_
    · refine Eq.trans ?_ (pB _ _ _ ?_ ?_ x)
      rotate_left
      · decide
      · decide
      · rfl
    refine View.PiecesOf.cons (fun x => ?_) ?_
    · refine Eq.trans ?_ (pA _ _ _ ?_ ?_ x)
      rotate_left
      · decide
      · decide
      · rfl
  exact trivial

/-- The whole block loaded back. -/
theorem ddA (c : Dev nD) (arg9 : Memref sig .tc .vmem S1024x1280 .i8) (harg9 : arg9.IsWhole) (arg10 : Memref sig .tc .vmem S8x2560 .f32) (harg10 : arg10.IsWhole)
    (x7 : Vec Ideal S1024x1280 .i8) (x8 : Vec Ideal S8x2560 .f32) (V : View sig .tc .vmem S1024x2560 .bf16) (inb : ∀ a, ![0, 0] a + S1024x2560.size a ≤ S1024x2560.size a) :
    V.readCov (kernelRun0_A.sl.HS0_160 (F := Ideal) c arg9 harg9 arg10 harg10 x7 x8) (Rect.unit (s := S1024x2560) ![0, 0] S1024x2560.size inb).toLoadRect = dd x7 x8 := by
  have hc := View.cover_of_tiledL (kernelRun0_A.sl.HS0_160 (F := Ideal) c arg9 harg9 arg10 harg10 x7 x8) S128x128.size (by sl_kernel_rfl)
  have hp := (piecesA c arg9 harg9 arg10 harg10 x7 x8).mem
  generalize kernelRun0_A.sl.HS0_160 (F := Ideal) c arg9 harg9 arg10 harg10 x7 x8 = L at hc hp
  generalize dd x7 x8 = G at hp
  have e : View.canon L = G := funext fun y => View.canon_apply_of_pieces G L hp y (hc y)
  rw [View.readCov_eq_canon', e]
  exact View.ld_unit_zero (by decide) inb G

end Cert.DownIdeal.Tile
end
-- ==== Proof.ValA.lean ====
module

public import proofs.«01_k».proof.Proof.Run.OutA
public import proofs.«01_k».proof.Proof.DdA
public import proofs.«01_k».proof.Proof.Acc

/-! The first point of a row of the grid. -/

@[expose] public section

set_option maxRecDepth 16384

noncomputable section

namespace Cert.DownIdeal.ValA

open Idealize.ShloMosaic Idealize.ShloMosaic.TcCoe
open Cert.DownIdeal Cert.DownIdeal.Gen Cert.DownIdeal.Run Cert.DownIdeal.Tile Cert.DownIdeal.Acc
open Cert.M

variable (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : cond0_0 i) (hc1 : ¬cond0_1 i)
  (x0 : Vec Ideal S384x1024 .f32) (x1 : Vec Ideal S384x1024 .f32) (x2 : Vec Ideal S384x1024 .bf16) (x3 : Vec Ideal S384x1024 .bf16) (x4 : Vec Ideal S384x128 .f32) (x5 : Vec Ideal S384x128 .f32) (x6 : Vec Ideal S1024x2560 .bf16) (x7 : Vec Ideal S1024x1280 .i8) (x8 : Vec Ideal S8x2560 .f32)

theorem scaleF : (kernelRun0_A.sl.v3920 (F := Ideal) c a6 g6 a20 x4) = k0_pay3 (F := Ideal) x4 := by
  refine (View.readCov_unit_zero _ zero2 _ _).trans ?_
  exact congrArg (k0_pay3 (F := Ideal)) (rd a6 g6 x4 zero2 _)

theorem scaleR : (kernelRun0_A.sl.v3942 (F := Ideal) c a7 g7 a21 x5) = k0_pay355 (F := Ideal) (k0_pay5 x5) := by
  refine (View.readCov_unit_zero _ zero2 _ _).trans ?_
  exact congrArg (fun z => k0_pay355 (F := Ideal) (k0_pay5 z)) (rd a7 g7 x5 zero2 _)

/-- The five planes after the point. -/
theorem planes : Upto (step (k0_pay357 (F := Ideal)) x0 x1 x2 x3 (k0_pay3 (F := Ideal) x4) (k0_pay355 (F := Ideal) (k0_pay5 x5)) x6 (dd x7 x8)) (k0_pay357 (F := Ideal)) 5 (kernelRun0_A (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).2.2.2.2.2.2.2.2.2.2.1 := by
  have hd := ddA c a9 g9 a10 g10 x7 x8 a19.view inb_S1024x2560_S1024x2560_0_0
  have q : ∀ (v : ℕ) (L : List (View.Piece (Elt Ideal) S5x384x2560 .f32)), Upto (step (k0_pay357 (F := Ideal)) x0 x1 x2 x3 (k0_pay3 (F := Ideal) x4) (k0_pay355 (F := Ideal) (k0_pay5 x5)) x6 (dd x7 x8)) (k0_pay357 (F := Ideal)) v L →
      ∀ (inb : ∀ b, ![v, 0, 0] b + S1x384x2560.size b ≤ S5x384x2560.size b) (w : S1x384x2560.Idx → Elt Ideal .f32), (∀ x, w x =
      upd (a22.view.readCov L (Rect.unit (s := S5x384x2560) ![v, 0, 0] S1x384x2560.size inb).toLoadRect)
        (lhsOf (View.readAt (Elt Ideal) a2.view (Rect.unit (s := S384x1024) ![0, 0] S384x1024.size inb_S384x1024_S384x1024_0_0).toLoadRect (g2.unread x0))
          (View.readAt (Elt Ideal) a3.view (Rect.unit (s := S384x1024) ![0, 0] S384x1024.size inb_S384x1024_S384x1024_0_0).toLoadRect (g3.unread x1))
          (View.readAt (Elt Ideal) a4.view (Rect.unit (s := S384x1024) ![0, 0] S384x1024.size inb_S384x1024_S384x1024_0_0).toLoadRect (g4.unread x2))
          (View.readAt (Elt Ideal) a5.view (Rect.unit (s := S384x1024) ![0, 0] S384x1024.size inb_S384x1024_S384x1024_0_0).toLoadRect (g5.unread x3))
          (kernelRun0_A.sl.v3920 (F := Ideal) c a6 g6 a20 x4)
          (kernelRun0_A.sl.v3942 (F := Ideal) c a7 g7 a21 x5) v)
        (rhsOf (View.readAt (Elt Ideal) a8.view (Rect.unit (s := S1024x2560) ![0, 0] S1024x2560.size inb_S1024x2560_S1024x2560_0_0).toLoadRect (g8.unread x6))
          (a19.view.readCov (kernelRun0_A.sl.HS0_160 (F := Ideal) c a9 g9 a10 g10 x7 x8) (Rect.unit (s := S1024x2560) ![0, 0] S1024x2560.size inb_S1024x2560_S1024x2560_0_0).toLoadRect) v) x) →
      Upto (step (k0_pay357 (F := Ideal)) x0 x1 x2 x3 (k0_pay3 (F := Ideal) x4) (k0_pay355 (F := Ideal) (k0_pay5 x5)) x6 (dd x7 x8)) (k0_pay357 (F := Ideal)) (v + 1) (⟨Rect.unit (s := S5x384x2560) ![v, 0, 0] S1x384x2560.size inb, w⟩ :: L) := by
    intro v L h inb w hw
    refine h.cons inb w fun x => (hw x).trans ?_
    refine plane (k0_pay357 (F := Ideal)) x0 x1 x2 x3 (k0_pay3 (F := Ideal) x4) (k0_pay355 (F := Ideal) (k0_pay5 x5)) x6 (dd x7 x8) v inb _ _ _ (h.load a22.view inb) ?_ ?_ x
    · rw [rd a2 g2 x0 zero2, rd a3 g3 x1 zero2, rd a4 g4 x2 zero2, rd a5 g5 x3 zero2, scaleF, scaleR]
    · rw [rd a8 g8 x6 zero2, hd]
  refine q 4 _ ?_ _ _ (fun x => ?_)
  rotate_left
  · rfl
  refine q 3 _ ?_ _ _ (fun x => ?_)
  rotate_left
  · rfl
  refine q 2 _ ?_ _ _ (fun x => ?_)
  rotate_left
  · rfl
  refine q 1 _ ?_ _ _ (fun x => ?_)
  rotate_left
  · rfl
  refine q 0 _ ?_ _ _ (fun x => ?_)
  rotate_left
  · rfl
  exact Upto.fill _ _ _

theorem acc : sout0_A_3 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 = step (k0_pay357 (F := Ideal)) x0 x1 x2 x3 (k0_pay3 (F := Ideal) x4) (k0_pay355 (F := Ideal) (k0_pay5 x5)) x6 (dd x7 x8) :=
  (View.read_writes_junk_eq_canon _ _).trans (planes c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8).all

theorem heldF : sout0_A_1 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 = k0_pay3 (F := Ideal) x4 := by
  refine (View.read_writes_junk_eq_canon _ _).trans ?_
  refine (View.canon_cons_unit_lit inb_S384x128_S384x128_0_0 _ [] (by decide)).trans ?_
  exact congrArg (k0_pay3 (F := Ideal)) (rd a6 g6 x4 zero2 _)

theorem heldR : sout0_A_2 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 = k0_pay355 (F := Ideal) (k0_pay5 x5) := by
  refine (View.read_writes_junk_eq_canon _ _).trans ?_
  refine (View.canon_cons_unit_lit inb_S384x128_S384x128_0_0 _ [] (by decide)).trans ?_
  exact congrArg (fun z => k0_pay355 (F := Ideal) (k0_pay5 z)) (rd a7 g7 x5 zero2 _)

/-- The codes written at the point. -/
theorem codesF : out0_A_13 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 = k0_pay720 (F := Ideal) (k0_pay3 (F := Ideal) x4) x0 := by
  refine (View.read_writes_junk_eq_canon _ _).trans ?_
  refine (View.canon_cons_unit_lit inb_S384x1024_S384x1024_0_0 _ [] (by decide)).trans ?_
  exact congrArg₂ (k0_pay720 (F := Ideal)) (scaleF c a6 g6 a20 x4) (rd a2 g2 x0 zero2 _)

theorem codesR : out0_A_15 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 = k0_pay724 (F := Ideal) (k0_pay355 (F := Ideal) (k0_pay5 x5)) x1 := by
  refine (View.read_writes_junk_eq_canon _ _).trans ?_
  refine (View.canon_cons_unit_lit inb_S384x1024_S384x1024_0_0 _ [] (by decide)).trans ?_
  exact congrArg₂ (k0_pay724 (F := Ideal)) (scaleR c a7 g7 a21 x5) (rd a3 g3 x1 zero2 _)

/-- The scales written at the point. -/
theorem rowF : out0_A_14 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 = k0_pay4 (F := Ideal) x4 := by
  refine (View.read_writes_junk_eq_canon _ _).trans ?_
  refine (View.canon_cons_unit_lit inb_S1x384_S1x384_0_0 _ [] (by decide)).trans ?_
  exact congrArg (k0_pay4 (F := Ideal)) (rd a6 g6 x4 zero2 _)

theorem rowR : out0_A_16 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 = k0_pay356 (F := Ideal) x5 := by
  refine (View.read_writes_junk_eq_canon _ _).trans ?_
  refine (View.canon_cons_unit_lit inb_S1x384_S1x384_0_0 _ [] (by decide)).trans ?_
  exact congrArg (k0_pay356 (F := Ideal)) (rd a7 g7 x5 zero2 _)

end Cert.DownIdeal.ValA
end
-- ==== Proof.DdB.lean ====
module

public import proofs.«01_k».proof.Proof.Run.RunB
public import proofs.«01_k».proof.Proof.Tile

/-! The unpacked weight block that the body assembles tile by tile. -/

@[expose] public section

set_option maxRecDepth 16384

noncomputable section

namespace Cert.DownIdeal.Tile

open Idealize.ShloMosaic Idealize.ShloMosaic.TcCoe
open Cert.DownIdeal Cert.DownIdeal.Gen Cert.DownIdeal.Run
open Cert.M

set_option maxHeartbeats 4000000 in
theorem piecesB (c : Dev nD) (arg9 : Memref sig .tc .vmem S1024x1280 .i8) (harg9 : arg9.IsWhole) (arg10 : Memref sig .tc .vmem S8x2560 .f32) (harg10 : arg10.IsWhole)
    (x7 : Vec Ideal S1024x1280 .i8) (x8 : Vec Ideal S8x2560 .f32) :
    View.PiecesOf (dd x7 x8) (kernelRun0_B.sl.HS0_160 (F := Ideal) c arg9 harg9 arg10 harg10 x7 x8) := by
  unfold kernelRun0_B.sl.HS0_160
  have pB := piece_at k0_pay359 64 (Nat.le_refl 64) gselB_at arg9 harg9 arg10 harg10 x7 x8
  have pA := piece_at k0_pay358 0 (Nat.zero_le 64) gselA_at arg9 harg9 arg10 harg10 x7 x8
  iterate 80
    refine View.PiecesOf.cons (fun x => ?_) ?_
    · refine Eq.trans ?_ (pB _ _ _ ?_ ?_ x)
      rotate_left
      · decide
      · decide
      · rfl
    refine View.PiecesOf.cons (fun x => ?_) ?_
    · refine Eq.trans ?_ (pA _ _ _ ?_ ?_ x)
      rotate_left
      · decide
      · decide
      · rfl
  exact trivial

/-- The whole block loaded back. -/
theorem ddB (c : Dev nD) (arg9 : Memref sig .tc .vmem S1024x1280 .i8) (harg9 : arg9.IsWhole) (arg10 : Memref sig .tc .vmem S8x2560 .f32) (harg10 : arg10.IsWhole)
    (x7 : Vec Ideal S1024x1280 .i8) (x8 : Vec Ideal S8x2560 .f32) (V : View sig .tc .vmem S1024x2560 .bf16) (inb : ∀ a, ![0, 0] a + S1024x2560.size a ≤ S1024x2560.size a) :
    V.readCov (kernelRun0_B.sl.HS0_160 (F := Ideal) c arg9 harg9 arg10 harg10 x7 x8) (Rect.unit (s := S1024x2560) ![0, 0] S1024x2560.size inb).toLoadRect = dd x7 x8 := by
  have hc := View.cover_of_tiledL (kernelRun0_B.sl.HS0_160 (F := Ideal) c arg9 harg9 arg10 harg10 x7 x8) S128x128.size (by sl_kernel_rfl)
  have hp := (piecesB c arg9 harg9 arg10 harg10 x7 x8).mem
  generalize kernelRun0_B.sl.HS0_160 (F := Ideal) c arg9 harg9 arg10 harg10 x7 x8 = L at hc hp
  generalize dd x7 x8 = G at hp
  have e : View.canon L = G := funext fun y => View.canon_apply_of_pieces G L hp y (hc y)
  rw [View.readCov_eq_canon', e]
  exact View.ld_unit_zero (by decide) inb G

end Cert.DownIdeal.Tile
end
-- ==== Proof.ValB.lean ====
module

public import proofs.«01_k».proof.Proof.Run.OutB
public import proofs.«01_k».proof.Proof.DdB
public import proofs.«01_k».proof.Proof.Acc

/-! A point in the middle of a row of the grid. -/

@[expose] public section

set_option maxRecDepth 16384

noncomputable section

namespace Cert.DownIdeal.ValB

open Idealize.ShloMosaic Idealize.ShloMosaic.TcCoe
open Cert.DownIdeal Cert.DownIdeal.Gen Cert.DownIdeal.Run Cert.DownIdeal.Tile Cert.DownIdeal.Acc
open Cert.M

variable (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : ¬cond0_1 i)
  (x0 : Vec Ideal S384x1024 .f32) (x1 : Vec Ideal S384x1024 .f32) (x2 : Vec Ideal S384x1024 .bf16) (x3 : Vec Ideal S384x1024 .bf16) (x4 : Vec Ideal S384x128 .f32) (x5 : Vec Ideal S384x128 .f32) (x6 : Vec Ideal S1024x2560 .bf16) (x7 : Vec Ideal S1024x1280 .i8) (x8 : Vec Ideal S8x2560 .f32) (xs1 : Vec Ideal S384x128 .f32) (xs2 : Vec Ideal S384x128 .f32) (xs3 : Vec Ideal S5x384x2560 .f32)

/-- The five planes after the point. -/
theorem pieces : View.PiecesOf (step xs3 x0 x1 x2 x3 xs1 xs2 x6 (dd x7 x8)) (kernelRun0_B (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.2.2.2.2.2.2.2.2.2.1 := by
  have hd := ddB c a9 g9 a10 g10 x7 x8 a19.view inb_S1024x2560_S1024x2560_0_0
  have q : ∀ (v : ℕ) (inb : ∀ b, ![v, 0, 0] b + S1x384x2560.size b ≤ S5x384x2560.size b) (x : S1x384x2560.Idx),
      upd (View.readAt (Elt Ideal) a22.view (Rect.unit (s := S5x384x2560) ![v, 0, 0] S1x384x2560.size inb).toLoadRect (g22.unread xs3))
        (lhsOf (View.readAt (Elt Ideal) a2.view (Rect.unit (s := S384x1024) ![0, 0] S384x1024.size inb_S384x1024_S384x1024_0_0).toLoadRect (g2.unread x0))
          (View.readAt (Elt Ideal) a3.view (Rect.unit (s := S384x1024) ![0, 0] S384x1024.size inb_S384x1024_S384x1024_0_0).toLoadRect (g3.unread x1))
          (View.readAt (Elt Ideal) a4.view (Rect.unit (s := S384x1024) ![0, 0] S384x1024.size inb_S384x1024_S384x1024_0_0).toLoadRect (g4.unread x2))
          (View.readAt (Elt Ideal) a5.view (Rect.unit (s := S384x1024) ![0, 0] S384x1024.size inb_S384x1024_S384x1024_0_0).toLoadRect (g5.unread x3))
          (View.readAt (Elt Ideal) a20.view (Rect.unit (s := S384x128) ![0, 0] S384x128.size inb_S384x128_S384x128_0_0).toLoadRect (g20.unread xs1))
          (View.readAt (Elt Ideal) a21.view (Rect.unit (s := S384x128) ![0, 0] S384x128.size inb_S384x128_S384x128_0_0).toLoadRect (g21.unread xs2)) v)
        (rhsOf (View.readAt (Elt Ideal) a8.view (Rect.unit (s := S1024x2560) ![0, 0] S1024x2560.size inb_S1024x2560_S1024x2560_0_0).toLoadRect (g8.unread x6))
          (a19.view.readCov (kernelRun0_B.sl.HS0_160 (F := Ideal) c a9 g9 a10 g10 x7 x8) (Rect.unit (s := S1024x2560) ![0, 0] S1024x2560.size inb_S1024x2560_S1024x2560_0_0).toLoadRect) v) x
      = step xs3 x0 x1 x2 x3 xs1 xs2 x6 (dd x7 x8) ((Rect.unit (s := S5x384x2560) ![v, 0, 0] S1x384x2560.size inb).emb x) := by
    intro v inb x
    refine plane xs3 x0 x1 x2 x3 xs1 xs2 x6 (dd x7 x8) v inb _ _ _ ?_ ?_ ?_ x
    · rw [View.readAt_eq_ld, g22.read_unread]
    · rw [rd a2 g2 x0 zero2, rd a3 g3 x1 zero2, rd a4 g4 x2 zero2, rd a5 g5 x3 zero2, rd a20 g20 xs1 zero2, rd a21 g21 xs2 zero2]
    · rw [rd a8 g8 x6 zero2, hd]
  refine View.PiecesOf.cons (fun x => Eq.trans ?_ (q 4 _ x)) ?_
  · rfl
  refine View.PiecesOf.cons (fun x => Eq.trans ?_ (q 3 _ x)) ?_
  · rfl
  refine View.PiecesOf.cons (fun x => Eq.trans ?_ (q 2 _ x)) ?_
  · rfl
  refine View.PiecesOf.cons (fun x => Eq.trans ?_ (q 1 _ x)) ?_
  · rfl
  refine View.PiecesOf.cons (fun x => Eq.trans ?_ (q 0 _ x)) ?_
  · rfl
  exact trivial

theorem canon_acc : View.canon (kernelRun0_B (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).2.2.2.2.2.2.2.2.2.2.1 = step xs3 x0 x1 x2 x3 xs1 xs2 x6 (dd x7 x8) := funext fun y =>
  View.canon_apply_of_pieces _ _ (pieces c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3).mem y (scover0_B_3 c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3 y)

theorem acc : sout0_B_3 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3 = step xs3 x0 x1 x2 x3 xs1 xs2 x6 (dd x7 x8) :=
  (View.read_writes_junk_eq_canon _ _).trans (canon_acc c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3)

/-- The codes written at the point. -/
theorem codesF : out0_B_13 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3 = k0_pay720 (F := Ideal) xs1 x0 := by
  refine (View.read_writes_junk_eq_canon _ _).trans ?_
  refine (View.canon_cons_unit_lit inb_S384x1024_S384x1024_0_0 _ [] (by decide)).trans ?_
  exact congrArg₂ (k0_pay720 (F := Ideal)) (rd a20 g20 xs1 zero2 _) (rd a2 g2 x0 zero2 _)

theorem codesR : out0_B_15 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 x0 x1 x2 x3 x4 x5 x6 x7 x8 xs1 xs2 xs3 = k0_pay724 (F := Ideal) xs2 x1 := by
  refine (View.read_writes_junk_eq_canon _ _).trans ?_
  refine (View.canon_cons_unit_lit inb_S384x1024_S384x1024_0_0 _ [] (by decide)).trans ?_
  exact congrArg₂ (k0_pay724 (F := Ideal)) (rd a21 g21 xs2 zero2 _) (rd a3 g3 x1 zero2 _)

end Cert.DownIdeal.ValB
end
-- ==== Proof.DdC.lean ====
module

public import proofs.«01_k».proof.Proof.Run.RunC
public import proofs.«01_k».proof.Proof.Tile

/-! The unpacked weight block that the body assembles tile by tile. -/

@[expose] public section

set_option maxRecDepth 16384

noncomputable section

namespace Cert.DownIdeal.Tile

open Idealize.ShloMosaic Idealize.ShloMosaic.TcCoe
open Cert.DownIdeal Cert.DownIdeal.Gen Cert.DownIdeal.Run
open Cert.M

set_option maxHeartbeats 4000000 in
theorem piecesC (c : Dev nD) (arg9 : Memref sig .tc .vmem S1024x1280 .i8) (harg9 : arg9.IsWhole) (arg10 : Memref sig .tc .vmem S8x2560 .f32) (harg10 : arg10.IsWhole)
    (x7 : Vec Ideal S1024x1280 .i8) (x8 : Vec Ideal S8x2560 .f32) :
    View.PiecesOf (dd x7 x8) (kernelRun0_C.sl.HS0_160 (F := Ideal) c arg9 harg9 arg10 harg10 x7 x8) := by
  unfold kernelRun0_C.sl.HS0_160
  have pB := piece_at k0_pay359 64 (Nat.le_refl 64) gselB_at arg9 harg9 arg10 harg10 x7 x8
  have pA := piece_at k0_pay358 0 (Nat.zero_le 64) gselA_at arg9 harg9 arg10 harg10 x7 x8
  iterate 80
    refine View.PiecesOf.cons (fun x => ?_) ?_
    · refine Eq.trans ?_ (pB _ _ _ ?_ ?_ x)
      rotate_left
      · decide
      · decide
      · rfl
    refine View.PiecesOf.cons (fun x => ?_) ?_
    · refine Eq.trans ?_ (pA _ _ _ ?_ ?_ x)
      rotate_left
      · decide
      · decide
      · rfl
  exact trivial

/-- The whole block loaded back. -/
theorem ddC (c : Dev nD) (arg9 : Memref sig .tc .vmem S1024x1280 .i8) (harg9 : arg9.IsWhole) (arg10 : Memref sig .tc .vmem S8x2560 .f32) (harg10 : arg10.IsWhole)
    (x7 : Vec Ideal S1024x1280 .i8) (x8 : Vec Ideal S8x2560 .f32) (V : View sig .tc .vmem S1024x2560 .bf16) (inb : ∀ a, ![0, 0] a + S1024x2560.size a ≤ S1024x2560.size a) :
    V.readCov (kernelRun0_C.sl.HS0_160 (F := Ideal) c arg9 harg9 arg10 harg10 x7 x8) (Rect.unit (s := S1024x2560) ![0, 0] S1024x2560.size inb).toLoadRect = dd x7 x8 := by
  have hc := View.cover_of_tiledL (kernelRun0_C.sl.HS0_160 (F := Ideal) c arg9 harg9 arg10 harg10 x7 x8) S128x128.size (by sl_kernel_rfl)
  have hp := (piecesC c arg9 harg9 arg10 harg10 x7 x8).mem
  generalize kernelRun0_C.sl.HS0_160 (F := Ideal) c arg9 harg9 arg10 harg10 x7 x8 = L at hc hp
  generalize dd x7 x8 = G at hp
  have e : View.canon L = G := funext fun y => View.canon_apply_of_pieces G L hp y (hc y)
  rw [View.readCov_eq_canon', e]
  exact View.ld_unit_zero (by decide) inb G

end Cert.DownIdeal.Tile
end
-- ==== Proof.ValC.lean ====
module

public import proofs.«01_k».proof.Proof.Run.OutC
public import proofs.«01_k».proof.Proof.DdC
public import proofs.«01_k».proof.Proof.Epi

/-! The first row's last point. -/

@[expose] public section

set_option maxRecDepth 16384

noncomputable section

namespace Cert.DownIdeal.ValC

open Idealize.ShloMosaic Idealize.ShloMosaic.TcCoe
open Cert.DownIdeal Cert.DownIdeal.Gen Cert.DownIdeal.Run Cert.DownIdeal.Tile Cert.DownIdeal.Acc Cert.DownIdeal.Epi
open Cert.M

variable (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : cond0_2 i)
  (x0 : Vec Ideal S384x1024 .f32) (x1 : Vec Ideal S384x1024 .f32) (x2 : Vec Ideal S384x1024 .bf16) (x3 : Vec Ideal S384x1024 .bf16) (x4 : Vec Ideal S384x128 .f32) (x5 : Vec Ideal S384x128 .f32) (x6 : Vec Ideal S1024x2560 .bf16) (x7 : Vec Ideal S1024x1280 .i8) (x8 : Vec Ideal S8x2560 .f32) (xo14 : Vec Ideal S1x384 .f32) (xo16 : Vec Ideal S1x384 .f32) (xs1 : Vec Ideal S384x128 .f32) (xs2 : Vec Ideal S384x128 .f32) (xs3 : Vec Ideal S5x384x2560 .f32)
include c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3

/-- The five planes after the point. -/
theorem pieces : View.PiecesOf (step xs3 x0 x1 x2 x3 xs1 xs2 x6 (dd x7 x8)) (kernelRun0_C (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.2.2.2.2.2.2.2.1 := by
  have hd := ddC c a9 g9 a10 g10 x7 x8 a19.view inb_S1024x2560_S1024x2560_0_0
  have q : ∀ (v : ℕ) (inb : ∀ b, ![v, 0, 0] b + S1x384x2560.size b ≤ S5x384x2560.size b) (x : S1x384x2560.Idx),
      upd (View.readAt (Elt Ideal) a22.view (Rect.unit (s := S5x384x2560) ![v, 0, 0] S1x384x2560.size inb).toLoadRect (g22.unread xs3))
        (lhsOf (View.readAt (Elt Ideal) a2.view (Rect.unit (s := S384x1024) ![0, 0] S384x1024.size inb_S384x1024_S384x1024_0_0).toLoadRect (g2.unread x0))
          (View.readAt (Elt Ideal) a3.view (Rect.unit (s := S384x1024) ![0, 0] S384x1024.size inb_S384x1024_S384x1024_0_0).toLoadRect (g3.unread x1))
          (View.readAt (Elt Ideal) a4.view (Rect.unit (s := S384x1024) ![0, 0] S384x1024.size inb_S384x1024_S384x1024_0_0).toLoadRect (g4.unread x2))
          (View.readAt (Elt Ideal) a5.view (Rect.unit (s := S384x1024) ![0, 0] S384x1024.size inb_S384x1024_S384x1024_0_0).toLoadRect (g5.unread x3))
          (View.readAt (Elt Ideal) a20.view (Rect.unit (s := S384x128) ![0, 0] S384x128.size inb_S384x128_S384x128_0_0).toLoadRect (g20.unread xs1))
          (View.readAt (Elt Ideal) a21.view (Rect.unit (s := S384x128) ![0, 0] S384x128.size inb_S384x128_S384x128_0_0).toLoadRect (g21.unread xs2)) v)
        (rhsOf (View.readAt (Elt Ideal) a8.view (Rect.unit (s := S1024x2560) ![0, 0] S1024x2560.size inb_S1024x2560_S1024x2560_0_0).toLoadRect (g8.unread x6))
          (a19.view.readCov (kernelRun0_C.sl.HS0_160 (F := Ideal) c a9 g9 a10 g10 x7 x8) (Rect.unit (s := S1024x2560) ![0, 0] S1024x2560.size inb_S1024x2560_S1024x2560_0_0).toLoadRect) v) x
      = step xs3 x0 x1 x2 x3 xs1 xs2 x6 (dd x7 x8) ((Rect.unit (s := S5x384x2560) ![v, 0, 0] S1x384x2560.size inb).emb x) := by
    intro v inb x
    refine plane xs3 x0 x1 x2 x3 xs1 xs2 x6 (dd x7 x8) v inb _ _ _ ?_ ?_ ?_ x
    · rw [View.readAt_eq_ld, g22.read_unread]
    · rw [rd a2 g2 x0 zero2, rd a3 g3 x1 zero2, rd a4 g4 x2 zero2, rd a5 g5 x3 zero2, rd a20 g20 xs1 zero2, rd a21 g21 xs2 zero2]
    · rw [rd a8 g8 x6 zero2, hd]
  refine View.PiecesOf.cons (fun x => Eq.trans ?_ (q 4 _ x)) ?_
  · rfl
  refine View.PiecesOf.cons (fun x => Eq.trans ?_ (q 3 _ x)) ?_
  · rfl
  refine View.PiecesOf.cons (fun x => Eq.trans ?_ (q 2 _ x)) ?_
  · rfl
  refine View.PiecesOf.cons (fun x => Eq.trans ?_ (q 1 _ x)) ?_
  · rfl
  refine View.PiecesOf.cons (fun x => Eq.trans ?_ (q 0 _ x)) ?_
  · rfl
  exact trivial

theorem canon_acc : View.canon (kernelRun0_C (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.2.2.2.2.2.2.2.2.1 = step xs3 x0 x1 x2 x3 xs1 xs2 x6 (dd x7 x8) := funext fun y =>
  View.canon_apply_of_pieces _ _ (pieces c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).mem y (scover0_C_3 c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3 y)

theorem acc : sout0_C_3 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3 = step xs3 x0 x1 x2 x3 xs1 xs2 x6 (dd x7 x8) :=
  (View.read_writes_junk_eq_canon _ _).trans (canon_acc c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3)

/-- The codes written at the point. -/
theorem codesF : out0_C_13 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3 = k0_pay720 (F := Ideal) xs1 x0 := by
  refine (View.read_writes_junk_eq_canon _ _).trans ?_
  refine (View.canon_cons_unit_lit inb_S384x1024_S384x1024_0_0 _ [] (by decide)).trans ?_
  exact congrArg₂ (k0_pay720 (F := Ideal)) (rd a20 g20 xs1 zero2 _) (rd a2 g2 x0 zero2 _)

theorem codesR : out0_C_15 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3 = k0_pay724 (F := Ideal) xs2 x1 := by
  refine (View.read_writes_junk_eq_canon _ _).trans ?_
  refine (View.canon_cons_unit_lit inb_S384x1024_S384x1024_0_0 _ [] (by decide)).trans ?_
  exact congrArg₂ (k0_pay724 (F := Ideal)) (rd a21 g21 xs2 zero2 _) (rd a3 g3 x1 zero2 _)

theorem canon_held : View.canon (kernelRun0_C.sl.HS3_5 (F := Ideal) c a2 g2 a3 g3 a4 g4 a5 g5 a8 g8 a9 g9 a10 g10 a19 a20 g20 a21 g21 a22 g22 x0 x1 x2 x3 x6 x7 x8 xs1 xs2 xs3) = (step xs3 x0 x1 x2 x3 xs1 xs2 x6 (dd x7 x8)) := canon_acc c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3

/-- The product's rows, rounded. -/
theorem yv : out0_C_9 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3 = plane0 (step xs3 x0 x1 x2 x3 xs1 xs2 x6 (dd x7 x8)) := by
  refine (View.read_writes_junk_eq_canon _ _).trans (funext fun y => View.canon_apply_of_pieces _ _ (View.PiecesOf.mem ?_) y (cover0_C_9 c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3 y))
  have hL := canon_held c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3
  have q := fun o ho inb x => y_piece a22.view (kernelRun0_C.sl.HS3_5 (F := Ideal) c a2 g2 a3 g3 a4 g4 a5 g5 a8 g8 a9 g9 a10 g10 a19 a20 g20 a21 g21 a22 g22 x0 x1 x2 x3 x6 x7 x8 xs1 xs2 xs3) (step xs3 x0 x1 x2 x3 xs1 xs2 x6 (dd x7 x8)) hL o ho inb x
  iterate 20
    refine View.PiecesOf.cons (fun x => Eq.trans ?_ (q _ ?_ _ x)) ?_
    rotate_left
    · decide
    rotate_left
    · rfl
  exact trivial

/-- The rows' sums of squares of the product. -/
theorem sgv (r : Fin 384) : out0_C_12 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3 (ix2 0 r) = ∑ c : Fin 2560, ((step xs3 x0 x1 x2 x3 xs1 xs2 x6 (dd x7 x8)) (ix3 0 r c) * (step xs3 x0 x1 x2 x3 xs1 xs2 x6 (dd x7 x8)) (ix3 0 r c) : EReal) := by
  refine (congrFun ((View.read_writes_junk_eq_canon _ _).trans (View.canon_cons_unit_lit inb_S1x384_S1x384_0_0 _ [] (by decide))) (ix2 0 r)).trans ?_
  refine Eq.trans ?_ (sig_at a22.view (kernelRun0_C.sl.HS3_5 (F := Ideal) c a2 g2 a3 g3 a4 g4 a5 g5 a8 g8 a9 g9 a10 g10 a19 a20 g20 a21 g21 a22 g22 x0 x1 x2 x3 x6 x7 x8 xs1 xs2 xs3) (step xs3 x0 x1 x2 x3 xs1 xs2 x6 (dd x7 x8)) (canon_held c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3) r)
  rfl

/-- The rows' sums of squares of the differences. -/
theorem etv (f1 f2 : Fin 384 → EReal) (h1 : ∀ r l, xs1 (ix2 r l) = f1 r) (h2 : ∀ r l, xs2 (ix2 r l) = f2 r) : out0_C_10 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3 = rowOf (step xs3 x0 x1 x2 x3 xs1 xs2 x6 (dd x7 x8)) f1 f2 := by
  refine (View.read_writes_junk_eq_canon _ _).trans (funext fun y => View.canon_apply_of_pieces _ _ (View.PiecesOf.mem ?_) y (cover0_C_10 c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3 y))
  have hL := canon_held c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3
  have e1 : ∀ r l, (View.readAt (Elt Ideal) a20.view (Rect.unit (s := S384x128) ![0, 0] S384x128.size inb_S384x128_S384x128_0_0).toLoadRect (g20.unread xs1)) (ix2 r l) = f1 r := by rw [rd a20 g20 xs1 zero2]; exact h1
  have e2 : ∀ r l, (View.readAt (Elt Ideal) a21.view (Rect.unit (s := S384x128) ![0, 0] S384x128.size inb_S384x128_S384x128_0_0).toLoadRect (g21.unread xs2)) (ix2 r l) = f2 r := by rw [rd a21 g21 xs2 zero2]; exact h2
  have q := fun v inb x => row_piece a22.view (kernelRun0_C.sl.HS3_5 (F := Ideal) c a2 g2 a3 g3 a4 g4 a5 g5 a8 g8 a9 g9 a10 g10 a19 a20 g20 a21 g21 a22 g22 x0 x1 x2 x3 x6 x7 x8 xs1 xs2 xs3) (View.readAt (Elt Ideal) a20.view (Rect.unit (s := S384x128) ![0, 0] S384x128.size inb_S384x128_S384x128_0_0).toLoadRect (g20.unread xs1)) (View.readAt (Elt Ideal) a21.view (Rect.unit (s := S384x128) ![0, 0] S384x128.size inb_S384x128_S384x128_0_0).toLoadRect (g21.unread xs2)) f1 f2 e1 e2 (step xs3 x0 x1 x2 x3 xs1 xs2 x6 (dd x7 x8)) hL v inb x
  refine View.PiecesOf.cons (fun x => Eq.trans ?_ (q 3 _ x)) ?_
  · rfl
  refine View.PiecesOf.cons (fun x => Eq.trans ?_ (q 2 _ x)) ?_
  · rfl
  refine View.PiecesOf.cons (fun x => Eq.trans ?_ (q 1 _ x)) ?_
  · rfl
  refine View.PiecesOf.cons (fun x => Eq.trans ?_ (q 0 _ x)) ?_
  · rfl
  exact trivial

/-- The column sums, from nothing. -/
theorem ecv (f1 f2 : Fin 384 → EReal) (h1 : ∀ r l, xs1 (ix2 r l) = f1 r) (h2 : ∀ r l, xs2 (ix2 r l) = f2 r) : out0_C_11 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3 = colOf (step xs3 x0 x1 x2 x3 xs1 xs2 x6 (dd x7 x8)) f1 f2 (k0_pay6 (F := Ideal)) := by
  refine (View.read_writes_junk_eq_canon _ _).trans ?_
  have hL := canon_held c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3
  have e1 : ∀ r l, (View.readAt (Elt Ideal) a20.view (Rect.unit (s := S384x128) ![0, 0] S384x128.size inb_S384x128_S384x128_0_0).toLoadRect (g20.unread xs1)) (ix2 r l) = f1 r := by rw [rd a20 g20 xs1 zero2]; exact h1
  have e2 : ∀ r l, (View.readAt (Elt Ideal) a21.view (Rect.unit (s := S384x128) ![0, 0] S384x128.size inb_S384x128_S384x128_0_0).toLoadRect (g21.unread xs2)) (ix2 r l) = f2 r := by rw [rd a21 g21 xs2 zero2]; exact h2
  have key : ∀ (n v o : ℕ) (L : List (View.Piece (Elt Ideal) S4x2560 .f32)) (hn : n = 4 * (o / 128) + v) (h0 : o % 128 = 0) (hv : v < 4) (ho : o + 128 ≤ 2560)
      (inb : ∀ b, ![v, o] b + S1x128.size b ≤ S4x2560.size b) (w : S1x128.Idx → Elt Ideal .f32)
      (h : UptoK colKey (colOf (step xs3 x0 x1 x2 x3 xs1 xs2 x6 (dd x7 x8)) f1 f2 (k0_pay6 (F := Ideal))) (k0_pay6 (F := Ideal)) n L)
      (hw : ∀ x, w x = colUpd (errV a22.view (kernelRun0_C.sl.HS3_5 (F := Ideal) c a2 g2 a3 g3 a4 g4 a5 g5 a8 g8 a9 g9 a10 g10 a19 a20 g20 a21 g21 a22 g22 x0 x1 x2 x3 x6 x7 x8 xs1 xs2 xs3) (View.readAt (Elt Ideal) a20.view (Rect.unit (s := S384x128) ![0, 0] S384x128.size inb_S384x128_S384x128_0_0).toLoadRect (g20.unread xs1)) (View.readAt (Elt Ideal) a21.view (Rect.unit (s := S384x128) ![0, 0] S384x128.size inb_S384x128_S384x128_0_0).toLoadRect (g21.unread xs2)) o ho v) (a13.view.readCov L (Rect.unit (s := S4x2560) ![v, o] S1x128.size inb).toLoadRect) x),
      UptoK colKey (colOf (step xs3 x0 x1 x2 x3 xs1 xs2 x6 (dd x7 x8)) f1 f2 (k0_pay6 (F := Ideal))) (k0_pay6 (F := Ideal)) (n + 1) (⟨Rect.unit (s := S4x2560) ![v, o] S1x128.size inb, w⟩ :: L) := by
    intro n v o L hn h0 hv ho inb w h hw
    subst hn
    refine UptoK.cons_of h _ (col_mem v o h0 hv inb) w fun x => (hw x).trans ?_
    exact col_piece a22.view (kernelRun0_C.sl.HS3_5 (F := Ideal) c a2 g2 a3 g3 a4 g4 a5 g5 a8 g8 a9 g9 a10 g10 a19 a20 g20 a21 g21 a22 g22 x0 x1 x2 x3 x6 x7 x8 xs1 xs2 xs3) (View.readAt (Elt Ideal) a20.view (Rect.unit (s := S384x128) ![0, 0] S384x128.size inb_S384x128_S384x128_0_0).toLoadRect (g20.unread xs1)) (View.readAt (Elt Ideal) a21.view (Rect.unit (s := S384x128) ![0, 0] S384x128.size inb_S384x128_S384x128_0_0).toLoadRect (g21.unread xs2)) f1 f2 e1 e2 (step xs3 x0 x1 x2 x3 xs1 xs2 x6 (dd x7 x8)) hL (k0_pay6 (F := Ideal)) v o ho inb _ (UptoK.load_of h a13.view _ (col_mem v o h0 hv inb)) x
  have all : UptoK colKey (colOf (step xs3 x0 x1 x2 x3 xs1 xs2 x6 (dd x7 x8)) f1 f2 (k0_pay6 (F := Ideal))) (k0_pay6 (F := Ideal)) 80 (kernelRun0_C (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo14 xo16 xs1 xs2 xs3).2.2.1 := by
    iterate 80
      refine key _ _ _ _ ?_ ?_ ?_ ?_ _ _ ?_ ?_
      · decide
      · decide
      · decide
      · decide
      rotate_left
      · intro x; rfl
    exact fun y => congrFun (View.canon_cons_unit_lit inb_S4x2560_S4x2560_0_0 _ [] (by decide)) y
  refine funext fun y => (all y).trans (if_pos ?_)
  have hy0 : (y 0).val < 4 := (y 0).isLt
  have hy1 : (y 1).val < 2560 := (y 1).isLt
  unfold colKey
  omega

end Cert.DownIdeal.ValC
end
-- ==== Proof.DdD.lean ====
module

public import proofs.«01_k».proof.Proof.Run.RunD
public import proofs.«01_k».proof.Proof.Tile

/-! The unpacked weight block that the body assembles tile by tile. -/

@[expose] public section

set_option maxRecDepth 16384

noncomputable section

namespace Cert.DownIdeal.Tile

open Idealize.ShloMosaic Idealize.ShloMosaic.TcCoe
open Cert.DownIdeal Cert.DownIdeal.Gen Cert.DownIdeal.Run
open Cert.M

set_option maxHeartbeats 4000000 in
theorem piecesD (c : Dev nD) (arg9 : Memref sig .tc .vmem S1024x1280 .i8) (harg9 : arg9.IsWhole) (arg10 : Memref sig .tc .vmem S8x2560 .f32) (harg10 : arg10.IsWhole)
    (x7 : Vec Ideal S1024x1280 .i8) (x8 : Vec Ideal S8x2560 .f32) :
    View.PiecesOf (dd x7 x8) (kernelRun0_D.sl.HS0_160 (F := Ideal) c arg9 harg9 arg10 harg10 x7 x8) := by
  unfold kernelRun0_D.sl.HS0_160
  have pB := piece_at k0_pay359 64 (Nat.le_refl 64) gselB_at arg9 harg9 arg10 harg10 x7 x8
  have pA := piece_at k0_pay358 0 (Nat.zero_le 64) gselA_at arg9 harg9 arg10 harg10 x7 x8
  iterate 80
    refine View.PiecesOf.cons (fun x => ?_) ?_
    · refine Eq.trans ?_ (pB _ _ _ ?_ ?_ x)
      rotate_left
      · decide
      · decide
      · rfl
    refine View.PiecesOf.cons (fun x => ?_) ?_
    · refine Eq.trans ?_ (pA _ _ _ ?_ ?_ x)
      rotate_left
      · decide
      · decide
      · rfl
  exact trivial

/-- The whole block loaded back. -/
theorem ddD (c : Dev nD) (arg9 : Memref sig .tc .vmem S1024x1280 .i8) (harg9 : arg9.IsWhole) (arg10 : Memref sig .tc .vmem S8x2560 .f32) (harg10 : arg10.IsWhole)
    (x7 : Vec Ideal S1024x1280 .i8) (x8 : Vec Ideal S8x2560 .f32) (V : View sig .tc .vmem S1024x2560 .bf16) (inb : ∀ a, ![0, 0] a + S1024x2560.size a ≤ S1024x2560.size a) :
    V.readCov (kernelRun0_D.sl.HS0_160 (F := Ideal) c arg9 harg9 arg10 harg10 x7 x8) (Rect.unit (s := S1024x2560) ![0, 0] S1024x2560.size inb).toLoadRect = dd x7 x8 := by
  have hc := View.cover_of_tiledL (kernelRun0_D.sl.HS0_160 (F := Ideal) c arg9 harg9 arg10 harg10 x7 x8) S128x128.size (by sl_kernel_rfl)
  have hp := (piecesD c arg9 harg9 arg10 harg10 x7 x8).mem
  generalize kernelRun0_D.sl.HS0_160 (F := Ideal) c arg9 harg9 arg10 harg10 x7 x8 = L at hc hp
  generalize dd x7 x8 = G at hp
  have e : View.canon L = G := funext fun y => View.canon_apply_of_pieces G L hp y (hc y)
  rw [View.readCov_eq_canon', e]
  exact View.ld_unit_zero (by decide) inb G

end Cert.DownIdeal.Tile
end
-- ==== Proof.ValD.lean ====
module

public import proofs.«01_k».proof.Proof.Run.OutD
public import proofs.«01_k».proof.Proof.DdD
public import proofs.«01_k».proof.Proof.Epi

/-! The last point of a later row. -/

@[expose] public section

set_option maxRecDepth 16384

noncomputable section

namespace Cert.DownIdeal.ValD

open Idealize.ShloMosaic Idealize.ShloMosaic.TcCoe
open Cert.DownIdeal Cert.DownIdeal.Gen Cert.DownIdeal.Run Cert.DownIdeal.Tile Cert.DownIdeal.Acc Cert.DownIdeal.Epi
open Cert.M

variable (c : Dev nD) (i : grid0.Coords) (a2 : Memref sig .tc .vmem S384x1024 .f32) (g2 : a2.IsWhole) (a3 : Memref sig .tc .vmem S384x1024 .f32) (g3 : a3.IsWhole) (a4 : Memref sig .tc .vmem S384x1024 .bf16) (g4 : a4.IsWhole) (a5 : Memref sig .tc .vmem S384x1024 .bf16) (g5 : a5.IsWhole) (a6 : Memref sig .tc .vmem S384x128 .f32) (g6 : a6.IsWhole) (a7 : Memref sig .tc .vmem S384x128 .f32) (g7 : a7.IsWhole) (a8 : Memref sig .tc .vmem S1024x2560 .bf16) (g8 : a8.IsWhole) (a9 : Memref sig .tc .vmem S1024x1280 .i8) (g9 : a9.IsWhole) (a10 : Memref sig .tc .vmem S8x2560 .f32) (g10 : a10.IsWhole) (a11 : Memref sig .tc .vmem S384x2560 .bf16) (g11 : a11.IsWhole) (a12 : Memref sig .tc .vmem S4x384 .f32) (g12 : a12.IsWhole) (a13 : Memref sig .tc .vmem S4x2560 .f32) (g13 : a13.IsWhole) (a14 : Memref sig .tc .vmem S1x384 .f32) (g14 : a14.IsWhole) (a15 : Memref sig .tc .vmem S384x1024 .i8) (g15 : a15.IsWhole) (a16 : Memref sig .tc .vmem S1x384 .f32) (g16 : a16.IsWhole) (a17 : Memref sig .tc .vmem S384x1024 .i8) (g17 : a17.IsWhole) (a18 : Memref sig .tc .vmem S1x384 .f32) (g18 : a18.IsWhole) (a19 : Memref sig .tc .vmem S1024x2560 .bf16) (g19 : a19.IsWhole) (a20 : Memref sig .tc .vmem S384x128 .f32) (g20 : a20.IsWhole) (a21 : Memref sig .tc .vmem S384x128 .f32) (g21 : a21.IsWhole) (a22 : Memref sig .tc .vmem S5x384x2560 .f32) (g22 : a22.IsWhole) (hc0 : ¬cond0_0 i) (hc1 : cond0_1 i) (hc2 : ¬cond0_2 i)
  (x0 : Vec Ideal S384x1024 .f32) (x1 : Vec Ideal S384x1024 .f32) (x2 : Vec Ideal S384x1024 .bf16) (x3 : Vec Ideal S384x1024 .bf16) (x4 : Vec Ideal S384x128 .f32) (x5 : Vec Ideal S384x128 .f32) (x6 : Vec Ideal S1024x2560 .bf16) (x7 : Vec Ideal S1024x1280 .i8) (x8 : Vec Ideal S8x2560 .f32) (xo11 : Vec Ideal S4x2560 .f32) (xo14 : Vec Ideal S1x384 .f32) (xo16 : Vec Ideal S1x384 .f32) (xs1 : Vec Ideal S384x128 .f32) (xs2 : Vec Ideal S384x128 .f32) (xs3 : Vec Ideal S5x384x2560 .f32)
include c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3

/-- The five planes after the point. -/
theorem pieces : View.PiecesOf (step xs3 x0 x1 x2 x3 xs1 xs2 x6 (dd x7 x8)) (kernelRun0_D (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.2.2.2.2.2.2.2.1 := by
  have hd := ddD c a9 g9 a10 g10 x7 x8 a19.view inb_S1024x2560_S1024x2560_0_0
  have q : ∀ (v : ℕ) (inb : ∀ b, ![v, 0, 0] b + S1x384x2560.size b ≤ S5x384x2560.size b) (x : S1x384x2560.Idx),
      upd (View.readAt (Elt Ideal) a22.view (Rect.unit (s := S5x384x2560) ![v, 0, 0] S1x384x2560.size inb).toLoadRect (g22.unread xs3))
        (lhsOf (View.readAt (Elt Ideal) a2.view (Rect.unit (s := S384x1024) ![0, 0] S384x1024.size inb_S384x1024_S384x1024_0_0).toLoadRect (g2.unread x0))
          (View.readAt (Elt Ideal) a3.view (Rect.unit (s := S384x1024) ![0, 0] S384x1024.size inb_S384x1024_S384x1024_0_0).toLoadRect (g3.unread x1))
          (View.readAt (Elt Ideal) a4.view (Rect.unit (s := S384x1024) ![0, 0] S384x1024.size inb_S384x1024_S384x1024_0_0).toLoadRect (g4.unread x2))
          (View.readAt (Elt Ideal) a5.view (Rect.unit (s := S384x1024) ![0, 0] S384x1024.size inb_S384x1024_S384x1024_0_0).toLoadRect (g5.unread x3))
          (View.readAt (Elt Ideal) a20.view (Rect.unit (s := S384x128) ![0, 0] S384x128.size inb_S384x128_S384x128_0_0).toLoadRect (g20.unread xs1))
          (View.readAt (Elt Ideal) a21.view (Rect.unit (s := S384x128) ![0, 0] S384x128.size inb_S384x128_S384x128_0_0).toLoadRect (g21.unread xs2)) v)
        (rhsOf (View.readAt (Elt Ideal) a8.view (Rect.unit (s := S1024x2560) ![0, 0] S1024x2560.size inb_S1024x2560_S1024x2560_0_0).toLoadRect (g8.unread x6))
          (a19.view.readCov (kernelRun0_D.sl.HS0_160 (F := Ideal) c a9 g9 a10 g10 x7 x8) (Rect.unit (s := S1024x2560) ![0, 0] S1024x2560.size inb_S1024x2560_S1024x2560_0_0).toLoadRect) v) x
      = step xs3 x0 x1 x2 x3 xs1 xs2 x6 (dd x7 x8) ((Rect.unit (s := S5x384x2560) ![v, 0, 0] S1x384x2560.size inb).emb x) := by
    intro v inb x
    refine plane xs3 x0 x1 x2 x3 xs1 xs2 x6 (dd x7 x8) v inb _ _ _ ?_ ?_ ?_ x
    · rw [View.readAt_eq_ld, g22.read_unread]
    · rw [rd a2 g2 x0 zero2, rd a3 g3 x1 zero2, rd a4 g4 x2 zero2, rd a5 g5 x3 zero2, rd a20 g20 xs1 zero2, rd a21 g21 xs2 zero2]
    · rw [rd a8 g8 x6 zero2, hd]
  refine View.PiecesOf.cons (fun x => Eq.trans ?_ (q 4 _ x)) ?_
  · rfl
  refine View.PiecesOf.cons (fun x => Eq.trans ?_ (q 3 _ x)) ?_
  · rfl
  refine View.PiecesOf.cons (fun x => Eq.trans ?_ (q 2 _ x)) ?_
  · rfl
  refine View.PiecesOf.cons (fun x => Eq.trans ?_ (q 1 _ x)) ?_
  · rfl
  refine View.PiecesOf.cons (fun x => Eq.trans ?_ (q 0 _ x)) ?_
  · rfl
  exact trivial

theorem canon_acc : View.canon (kernelRun0_D (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).2.2.2.2.2.2.2.2.2.2.1 = step xs3 x0 x1 x2 x3 xs1 xs2 x6 (dd x7 x8) := funext fun y =>
  View.canon_apply_of_pieces _ _ (pieces c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3).mem y (scover0_D_3 c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3 y)

theorem acc : sout0_D_3 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3 = step xs3 x0 x1 x2 x3 xs1 xs2 x6 (dd x7 x8) :=
  (View.read_writes_junk_eq_canon _ _).trans (canon_acc c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3)

/-- The codes written at the point. -/
theorem codesF : out0_D_13 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3 = k0_pay720 (F := Ideal) xs1 x0 := by
  refine (View.read_writes_junk_eq_canon _ _).trans ?_
  refine (View.canon_cons_unit_lit inb_S384x1024_S384x1024_0_0 _ [] (by decide)).trans ?_
  exact congrArg₂ (k0_pay720 (F := Ideal)) (rd a20 g20 xs1 zero2 _) (rd a2 g2 x0 zero2 _)

theorem codesR : out0_D_15 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3 = k0_pay724 (F := Ideal) xs2 x1 := by
  refine (View.read_writes_junk_eq_canon _ _).trans ?_
  refine (View.canon_cons_unit_lit inb_S384x1024_S384x1024_0_0 _ [] (by decide)).trans ?_
  exact congrArg₂ (k0_pay724 (F := Ideal)) (rd a21 g21 xs2 zero2 _) (rd a3 g3 x1 zero2 _)

theorem canon_held : View.canon (kernelRun0_D.sl.HS3_5 (F := Ideal) c a2 g2 a3 g3 a4 g4 a5 g5 a8 g8 a9 g9 a10 g10 a19 a20 g20 a21 g21 a22 g22 x0 x1 x2 x3 x6 x7 x8 xs1 xs2 xs3) = (step xs3 x0 x1 x2 x3 xs1 xs2 x6 (dd x7 x8)) := canon_acc c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3

/-- The product's rows, rounded. -/
theorem yv : out0_D_9 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3 = plane0 (step xs3 x0 x1 x2 x3 xs1 xs2 x6 (dd x7 x8)) := by
  refine (View.read_writes_junk_eq_canon _ _).trans (funext fun y => View.canon_apply_of_pieces _ _ (View.PiecesOf.mem ?_) y (cover0_D_9 c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3 y))
  have hL := canon_held c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3
  have q := fun o ho inb x => y_piece a22.view (kernelRun0_D.sl.HS3_5 (F := Ideal) c a2 g2 a3 g3 a4 g4 a5 g5 a8 g8 a9 g9 a10 g10 a19 a20 g20 a21 g21 a22 g22 x0 x1 x2 x3 x6 x7 x8 xs1 xs2 xs3) (step xs3 x0 x1 x2 x3 xs1 xs2 x6 (dd x7 x8)) hL o ho inb x
  iterate 20
    refine View.PiecesOf.cons (fun x => Eq.trans ?_ (q _ ?_ _ x)) ?_
    rotate_left
    · decide
    rotate_left
    · rfl
  exact trivial

/-- The rows' sums of squares of the product. -/
theorem sgv (r : Fin 384) : out0_D_12 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3 (ix2 0 r) = ∑ c : Fin 2560, ((step xs3 x0 x1 x2 x3 xs1 xs2 x6 (dd x7 x8)) (ix3 0 r c) * (step xs3 x0 x1 x2 x3 xs1 xs2 x6 (dd x7 x8)) (ix3 0 r c) : EReal) := by
  refine (congrFun ((View.read_writes_junk_eq_canon _ _).trans (View.canon_cons_unit_lit inb_S1x384_S1x384_0_0 _ [] (by decide))) (ix2 0 r)).trans ?_
  refine Eq.trans ?_ (sig_at a22.view (kernelRun0_D.sl.HS3_5 (F := Ideal) c a2 g2 a3 g3 a4 g4 a5 g5 a8 g8 a9 g9 a10 g10 a19 a20 g20 a21 g21 a22 g22 x0 x1 x2 x3 x6 x7 x8 xs1 xs2 xs3) (step xs3 x0 x1 x2 x3 xs1 xs2 x6 (dd x7 x8)) (canon_held c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3) r)
  rfl

/-- The rows' sums of squares of the differences. -/
theorem etv (f1 f2 : Fin 384 → EReal) (h1 : ∀ r l, xs1 (ix2 r l) = f1 r) (h2 : ∀ r l, xs2 (ix2 r l) = f2 r) : out0_D_10 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3 = rowOf (step xs3 x0 x1 x2 x3 xs1 xs2 x6 (dd x7 x8)) f1 f2 := by
  refine (View.read_writes_junk_eq_canon _ _).trans (funext fun y => View.canon_apply_of_pieces _ _ (View.PiecesOf.mem ?_) y (cover0_D_10 c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3 y))
  have hL := canon_held c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3
  have e1 : ∀ r l, (View.readAt (Elt Ideal) a20.view (Rect.unit (s := S384x128) ![0, 0] S384x128.size inb_S384x128_S384x128_0_0).toLoadRect (g20.unread xs1)) (ix2 r l) = f1 r := by rw [rd a20 g20 xs1 zero2]; exact h1
  have e2 : ∀ r l, (View.readAt (Elt Ideal) a21.view (Rect.unit (s := S384x128) ![0, 0] S384x128.size inb_S384x128_S384x128_0_0).toLoadRect (g21.unread xs2)) (ix2 r l) = f2 r := by rw [rd a21 g21 xs2 zero2]; exact h2
  have q := fun v inb x => row_piece a22.view (kernelRun0_D.sl.HS3_5 (F := Ideal) c a2 g2 a3 g3 a4 g4 a5 g5 a8 g8 a9 g9 a10 g10 a19 a20 g20 a21 g21 a22 g22 x0 x1 x2 x3 x6 x7 x8 xs1 xs2 xs3) (View.readAt (Elt Ideal) a20.view (Rect.unit (s := S384x128) ![0, 0] S384x128.size inb_S384x128_S384x128_0_0).toLoadRect (g20.unread xs1)) (View.readAt (Elt Ideal) a21.view (Rect.unit (s := S384x128) ![0, 0] S384x128.size inb_S384x128_S384x128_0_0).toLoadRect (g21.unread xs2)) f1 f2 e1 e2 (step xs3 x0 x1 x2 x3 xs1 xs2 x6 (dd x7 x8)) hL v inb x
  refine View.PiecesOf.cons (fun x => Eq.trans ?_ (q 3 _ x)) ?_
  · rfl
  refine View.PiecesOf.cons (fun x => Eq.trans ?_ (q 2 _ x)) ?_
  · rfl
  refine View.PiecesOf.cons (fun x => Eq.trans ?_ (q 1 _ x)) ?_
  · rfl
  refine View.PiecesOf.cons (fun x => Eq.trans ?_ (q 0 _ x)) ?_
  · rfl
  exact trivial

/-- The column sums, added to those of the rows above. -/
theorem ecv (f1 f2 : Fin 384 → EReal) (h1 : ∀ r l, xs1 (ix2 r l) = f1 r) (h2 : ∀ r l, xs2 (ix2 r l) = f2 r) : out0_D_11 (F := Ideal) c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3 = colOf (step xs3 x0 x1 x2 x3 xs1 xs2 x6 (dd x7 x8)) f1 f2 xo11 := by
  refine (View.read_writes_junk_eq_canon _ _).trans (funext fun y => View.canon_apply_of_pieces _ _ (View.PiecesOf.mem ?_) y (cover0_D_11 c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3 y))
  have hL := canon_held c i a2 g2 a3 g3 a4 g4 a5 g5 a6 g6 a7 g7 a8 g8 a9 g9 a10 g10 a11 g11 a12 g12 a13 g13 a14 g14 a15 g15 a16 g16 a17 g17 a18 g18 a19 g19 a20 g20 a21 g21 a22 g22 hc0 hc1 hc2 x0 x1 x2 x3 x4 x5 x6 x7 x8 xo11 xo14 xo16 xs1 xs2 xs3
  have e1 : ∀ r l, (View.readAt (Elt Ideal) a20.view (Rect.unit (s := S384x128) ![0, 0] S384x128.size inb_S384x128_S384x128_0_0).toLoadRect (g20.unread xs1)) (ix2 r l) = f1 r := by rw [rd a20 g20 xs1 zero2]; exact h1
  have e2 : ∀ r l, (View.readAt (Elt Ideal) a21.view (Rect.unit (s := S384x128) ![0, 0] S384x128.size inb_S384x128_S384x128_0_0).toLoadRect (g21.unread xs2)) (ix2 r l) = f2 r := by rw [rd a21 g21 xs2 zero2]; exact h2
  have q : ∀ (v o : ℕ) (ho : o + 128 ≤ 2560) (inb : ∀ b, ![v, o] b + S1x128.size b ≤ S4x2560.size b) (x : S1x128.Idx),
      colUpd (errV a22.view (kernelRun0_D.sl.HS3_5 (F := Ideal) c a2 g2 a3 g3 a4 g4 a5 g5 a8 g8 a9 g9 a10 g10 a19 a20 g20 a21 g21 a22 g22 x0 x1 x2 x3 x6 x7 x8 xs1 xs2 xs3) (View.readAt (Elt Ideal) a20.view (Rect.unit (s := S384x128) ![0, 0] S384x128.size inb_S384x128_S384x128_0_0).toLoadRect (g20.unread xs1)) (View.readAt (Elt Ideal) a21.view (Rect.unit (s := S384x128) ![0, 0] S384x128.size inb_S384x128_S384x128_0_0).toLoadRect (g21.unread xs2)) o ho v) (View.readAt (Elt Ideal) a13.view (Rect.unit (s := S4x2560) ![v, o] S1x128.size inb).toLoadRect (g13.unread xo11)) x
      = colOf (step xs3 x0 x1 x2 x3 xs1 xs2 x6 (dd x7 x8)) f1 f2 xo11 ((Rect.unit (s := S4x2560) ![v, o] S1x128.size inb).emb x) := by
    intro v o ho inb x
    refine col_piece a22.view (kernelRun0_D.sl.HS3_5 (F := Ideal) c a2 g2 a3 g3 a4 g4 a5 g5 a8 g8 a9 g9 a10 g10 a19 a20 g20 a21 g21 a22 g22 x0 x1 x2 x3 x6 x7 x8 xs1 xs2 xs3) (View.readAt (Elt Ideal) a20.view (Rect.unit (s := S384x128) ![0, 0] S384x128.size inb_S384x128_S384x128_0_0).toLoadRect (g20.unread xs1)) (View.readAt (Elt Ideal) a21.view (Rect.unit (s := S384x128) ![0, 0] S384x128.size inb_S384x128_S384x128_0_0).toLoadRect (g21.unread xs2)) f1 f2 e1 e2 (step xs3 x0 x1 x2 x3 xs1 xs2 x6 (dd x7 x8)) hL xo11 v o ho inb _ ?_ x
    rw [View.readAt_eq_ld, g13.read_unread]
  iterate 80
    refine View.PiecesOf.cons (fun x => Eq.trans ?_ (q _ _ ?_ _ x)) ?_
    rotate_left
    · decide
    rotate_left
    · rfl
  exact trivial

end Cert.DownIdeal.ValD
end
-- ==== Proof.Inv.lean ====
module

public import proofs.«01_k».proof.Proof.Blk
public import proofs.«01_k».proof.Proof.ValA
public import proofs.«01_k».proof.Proof.ValB
public import proofs.«01_k».proof.Proof.ValC
public import proofs.«01_k».proof.Proof.ValD

/-! What the buffers hold after each point of the grid, by induction over the points. -/

@[expose] public section

set_option maxRecDepth 16384

noncomputable section

namespace Cert.DownIdeal.Inv

open Idealize.ShloMosaic Idealize.ShloMosaic.TcCoe Idealize.SL.Sem
open Cert.DownIdeal Cert.DownIdeal.Gen Cert.DownIdeal.Run Cert.DownIdeal.Tile Cert.DownIdeal.Acc Cert.DownIdeal.Epi Cert.DownIdeal.Blk
open Cert.M Cert.S

variable (m : (ℓ : Loc nD τ sig) → Buf (Elt Ideal) ℓ) (c : Dev nD)

/-- The eight outputs' buffers and the three held between points. -/
abbrev Tup : Type := Vec Ideal S384x2560 .bf16 × Vec Ideal S4x384 .f32 × Vec Ideal S4x2560 .f32 × Vec Ideal S1x384 .f32 × Vec Ideal S384x1024 .i8 × Vec Ideal S1x384 .f32 × Vec Ideal S384x1024 .i8 × Vec Ideal S1x384 .f32 × Vec Ideal S384x128 .f32 × Vec Ideal S384x128 .f32 × Vec Ideal S5x384x2560 .f32

/-- The terms of a product up to the point. -/
abbrev upTo (t : Fin cfg0.N) (n : ℕ) (v : Fin 5) (r : Fin 384) (C : Fin 2560) : EReal :=
  ∑ j ∈ Finset.range n, ∑ i : Fin 1024, term (ins m c) v.val (Rw t r) C (1024 * j + i.val)

/-- The squares of the row tiles so far. -/
abbrev colsTo (n : ℕ) (w : Fin 4) (C : Fin 2560) : EReal :=
  ∑ j ∈ Finset.range n, ∑ i : Fin 384, sqN (ins m c) w.val C (384 * j + i.val)

structure Inv (t : Fin cfg0.N) (o : Tup) : Prop where
  s1 : ∀ r l, o.2.2.2.2.2.2.2.2.1 (ix2 r l) = scF (ins m c) (Rw t r)
  s2 : ∀ r l, o.2.2.2.2.2.2.2.2.2.1 (ix2 r l) = scR (ins m c) (Rw t r)
  r14 : ∀ r, o.2.2.2.2.2.1 (ix2 0 r) = scF (ins m c) (Rw t r)
  r16 : ∀ r, o.2.2.2.2.2.2.2.1 (ix2 0 r) = scR (ins m c) (Rw t r)
  ac : ∀ v r C, o.2.2.2.2.2.2.2.2.2.2 (ix3 v r C) = upTo m c t (t.val % 10 + 1) v r C
  ch : 9 ≤ t.val → ∀ w C, o.2.2.1 (ix2 w C) = colsTo m c ((t.val + 1) / 10) w C
  cF : ∀ r k, o.2.2.2.2.1 (ix2 r k) = codeF (ins m c) (Rw t r) (Kc t k)
  cR : ∀ r k, o.2.2.2.2.2.2.1 (ix2 r k) = codeR (ins m c) (Rw t r) (Kc t k)
  y : t.val % 10 = 9 → ∀ r C, o.1 (ix2 r C) = prod (ins m c) 0 (Rw t r) C
  et : t.val % 10 = 9 → ∀ w r, o.2.1 (ix2 w r) = tok (ins m c) w.val (Rw t r)
  sg : t.val % 10 = 9 → ∀ r, o.2.2.2.1 (ix2 0 r) = sgn (ins m c) (Rw t r)

theorem full (t : Fin cfg0.N) (h : t.val % 10 = 9) (v : Fin 5) (r : Fin 384) (C : Fin 2560) : upTo m c t (t.val % 10 + 1) v r C = prod (ins m c) v.val (Rw t r) C := by
  rw [h]
  exact prod_blocks (ins m c) v.val (Rw t r) C

/-- The accumulators after the point, from those before. -/
theorem next (t : Fin cfg0.N) (a : Vec Ideal S5x384x2560 .f32) (s1 s2 : Vec Ideal S384x128 .f32) (h1 : ∀ r l, s1 (ix2 r l) = scF (ins m c) (Rw t r))
    (h2 : ∀ r l, s2 (ix2 r l) = scR (ins m c) (Rw t r)) (ha : ∀ v r C, a (ix3 v r C) = upTo m c t (t.val % 10) v r C) (v : Fin 5) (r : Fin 384) (C : Fin 2560) :
    step a (iblk m c 0 t) (iblk m c 1 t) (iblk m c 2 t) (iblk m c 3 t) s1 s2 (iblk m c 6 t) (dd (iblk m c 7 t) (iblk m c 8 t)) (ix3 v r C)
      = upTo m c t (t.val % 10 + 1) v r C := by
  rw [point m c t a s1 s2 h1 h2, ha]
  exact (Finset.sum_range_succ _ _).symm

theorem invA (t : Fin cfg0.N) (h0 : t.val % 10 = 0) (h1 : ¬t.val % 10 = 9)
    (hp : 0 < t.val → ∀ h : t.val - 1 < cfg0.N, Inv m c ⟨t.val - 1, h⟩ (outsAt0 m c (t.val - 1) h)) : Inv m c t (outsAt0 m c t.val t.isLt) := by
  have g1 : ∀ r l, k0_pay3 (F := Ideal) (iblk m c 4 t) (ix2 r l) = scF (ins m c) (Rw t r) := fun r l => (scaleCol_at _ r l).trans (laneF m c t r)
  have g2 : ∀ r l, k0_pay355 (F := Ideal) (k0_pay5 (iblk m c 5 t)) (ix2 r l) = scR (ins m c) (Rw t r) := fun r l => (scaleCol'_at _ r l).trans (laneR m c t r)
  rw [outsAt0_A m c t h0 h1]
  refine ⟨fun r l => ?_, fun r l => ?_, fun r => ?_, fun r => ?_, fun v r C => ?_, fun h9 w C => ?_, fun r k => ?_, fun r k => ?_,
    fun h => absurd h h1, fun h => absurd h h1, fun h => absurd h h1⟩
  · dsimp only; rw [ValA.heldF]; exact g1 r l
  · dsimp only; rw [ValA.heldR]; exact g2 r l
  · dsimp only; rw [ValA.rowF]; exact (scaleRow_at _ r).trans (laneF m c t r)
  · dsimp only; rw [ValA.rowR]; exact (scaleRow'_at _ r).trans (laneR m c t r)
  · dsimp only; rw [ValA.acc]
    refine next m c t _ _ _ g1 g2 (fun v r C => ?_) v r C
    rw [none5, h0]
    exact (Finset.sum_range_zero _).symm
  · refine ((hp (by omega) (pl t.isLt)).ch (by show 9 ≤ t.val - 1; omega) w C).trans ?_
    have e : (t.val - 1 + 1) / 10 = (t.val + 1) / 10 := by omega
    exact congrArg (fun n => colsTo m c n w C) e
  · dsimp only; rw [ValA.codesF]; exact code_at m c t _ g1 r k
  · dsimp only; rw [ValA.codesR]; exact code_at' m c t _ g2 r k

/-- What the point before left, told at this point of the same row. -/
structure Held (t : Fin cfg0.N) (p : Tup) : Prop where
  s1 : ∀ r l, p.2.2.2.2.2.2.2.2.1 (ix2 r l) = scF (ins m c) (Rw t r)
  s2 : ∀ r l, p.2.2.2.2.2.2.2.2.2.1 (ix2 r l) = scR (ins m c) (Rw t r)
  r14 : ∀ r, p.2.2.2.2.2.1 (ix2 0 r) = scF (ins m c) (Rw t r)
  r16 : ∀ r, p.2.2.2.2.2.2.2.1 (ix2 0 r) = scR (ins m c) (Rw t r)
  ac : ∀ v r C, p.2.2.2.2.2.2.2.2.2.2 (ix3 v r C) = upTo m c t (t.val % 10) v r C
  ch : 9 < t.val → ∀ w C, p.2.2.1 (ix2 w C) = colsTo m c (t.val / 10) w C

theorem held (t : Fin cfg0.N) (h0 : ¬t.val % 10 = 0) (h : t.val - 1 < cfg0.N) (p : Tup) (hp : Inv m c ⟨t.val - 1, h⟩ p) : Held m c t p := by
  have e : ∀ r, Rw ⟨t.val - 1, h⟩ r = Rw t r := fun r => Fin.ext (by show 384 * ((t.val - 1) / 10) + r.val = 384 * (t.val / 10) + r.val; omega)
  have e1 : (t.val - 1) % 10 + 1 = t.val % 10 := by omega
  refine ⟨fun r l => (hp.s1 r l).trans (by rw [e]), fun r l => (hp.s2 r l).trans (by rw [e]), fun r => (hp.r14 r).trans (by rw [e]), fun r => (hp.r16 r).trans (by rw [e]),
    fun v r C => (hp.ac v r C).trans ?_, fun h9 w C => (hp.ch (by show 9 ≤ t.val - 1; omega) w C).trans ?_⟩
  · unfold upTo
    rw [e, e1]
  · have e2 : (t.val - 1 + 1) / 10 = t.val / 10 := by omega
    exact congrArg (fun n => colsTo m c n w C) e2

theorem invB (t : Fin cfg0.N) (h0 : ¬t.val % 10 = 0) (h1 : ¬t.val % 10 = 9) (hp : Held m c t (outsAt0 m c (t.val - 1) (pl t.isLt))) :
    Inv m c t (outsAt0 m c t.val t.isLt) := by
  rw [outsAt0_B m c t h0 h1]
  generalize outsAt0 m c (t.val - 1) (pl t.isLt) = p at hp
  refine ⟨hp.s1, hp.s2, hp.r14, hp.r16, fun v r C => ?_, fun h9 w C => ?_, fun r k => ?_, fun r k => ?_,
    fun h => absurd h h1, fun h => absurd h h1, fun h => absurd h h1⟩
  · dsimp only; rw [ValB.acc]; exact next m c t _ _ _ hp.s1 hp.s2 hp.ac v r C
  · refine (hp.ch (by omega) w C).trans ?_
    have e : t.val / 10 = (t.val + 1) / 10 := by omega
    exact congrArg (fun n => colsTo m c n w C) e
  · dsimp only; rw [ValB.codesF]; exact code_at m c t _ hp.s1 r k
  · dsimp only; rw [ValB.codesR]; exact code_at' m c t _ hp.s2 r k

theorem invC (t : Fin cfg0.N) (h0 : ¬t.val % 10 = 0) (h1 : t.val % 10 = 9) (h2 : t.val < 10) (hp : Held m c t (outsAt0 m c (t.val - 1) (pl t.isLt))) :
    Inv m c t (outsAt0 m c t.val t.isLt) := by
  rw [outsAt0_C m c t h0 h1 h2]
  generalize outsAt0 m c (t.val - 1) (pl t.isLt) = p at hp
  have n := next m c t _ _ _ hp.s1 hp.s2 hp.ac
  have f := fun v r C => (n v r C).trans (full m c t h1 v r C)
  refine ⟨hp.s1, hp.s2, hp.r14, hp.r16, fun v r C => ?_, fun h9 w C => ?_, fun r k => ?_, fun r k => ?_,
    fun h r C => ?_, fun h w r => ?_, fun h r => ?_⟩
  · dsimp only; rw [ValC.acc]; exact n v r C
  · dsimp only; rw [ValC.ecv (f1 := fun r => scF (ins m c) (Rw t r)) (f2 := fun r => scR (ins m c) (Rw t r)) (h1 := hp.s1) (h2 := hp.s2)]
    refine (chan_at m c t _ f _ w C).trans ?_
    rw [none4]
    have e : (t.val + 1) / 10 = 1 := by omega
    have e0 : t.val / 10 = 0 := by omega
    rw [e, e0]
    unfold colsTo
    rw [Finset.sum_range_one]
    exact zero_add _
  · dsimp only; rw [ValC.codesF]; exact code_at m c t _ hp.s1 r k
  · dsimp only; rw [ValC.codesR]; exact code_at' m c t _ hp.s2 r k
  · dsimp only; rw [ValC.yv]; exact f 0 r C
  · dsimp only; rw [ValC.etv (f1 := fun r => scF (ins m c) (Rw t r)) (f2 := fun r => scR (ins m c) (Rw t r)) (h1 := hp.s1) (h2 := hp.s2)]
    exact tok_at m c t _ f w r
  · dsimp only; rw [ValC.sgv]; exact sgn_at m c t _ f r

theorem invD (t : Fin cfg0.N) (h0 : ¬t.val % 10 = 0) (h1 : t.val % 10 = 9) (h2 : ¬t.val < 10) (hp : Held m c t (outsAt0 m c (t.val - 1) (pl t.isLt))) :
    Inv m c t (outsAt0 m c t.val t.isLt) := by
  rw [outsAt0_D m c t h0 h1 h2]
  generalize outsAt0 m c (t.val - 1) (pl t.isLt) = p at hp
  have n := next m c t _ _ _ hp.s1 hp.s2 hp.ac
  have f := fun v r C => (n v r C).trans (full m c t h1 v r C)
  refine ⟨hp.s1, hp.s2, hp.r14, hp.r16, fun v r C => ?_, fun h9 w C => ?_, fun r k => ?_, fun r k => ?_,
    fun h r C => ?_, fun h w r => ?_, fun h r => ?_⟩
  · dsimp only; rw [ValD.acc]; exact n v r C
  · dsimp only; rw [ValD.ecv (f1 := fun r => scF (ins m c) (Rw t r)) (f2 := fun r => scR (ins m c) (Rw t r)) (h1 := hp.s1) (h2 := hp.s2)]
    refine (chan_at m c t _ f _ w C).trans ?_
    rw [hp.ch (by omega) w C]
    have e : (t.val + 1) / 10 = t.val / 10 + 1 := by omega
    rw [e]
    exact (Finset.sum_range_succ _ _).symm
  · dsimp only; rw [ValD.codesF]; exact code_at m c t _ hp.s1 r k
  · dsimp only; rw [ValD.codesR]; exact code_at' m c t _ hp.s2 r k
  · dsimp only; rw [ValD.yv]; exact f 0 r C
  · dsimp only; rw [ValD.etv (f1 := fun r => scF (ins m c) (Rw t r)) (f2 := fun r => scR (ins m c) (Rw t r)) (h1 := hp.s1) (h2 := hp.s2)]
    exact tok_at m c t _ f w r
  · dsimp only; rw [ValD.sgv]; exact sgn_at m c t _ f r

theorem inv : ∀ (n : ℕ) (h : n < cfg0.N), Inv m c ⟨n, h⟩ (outsAt0 m c n h)
  | 0, h => invA m c ⟨0, h⟩ rfl (by show ¬0 % 10 = 9; decide) fun h => absurd h (Nat.lt_irrefl 0)
  | n + 1, h => by
    have hn : n < cfg0.N := Nat.lt_of_succ_lt h
    have ih := inv n hn
    by_cases h0 : (n + 1) % 10 = 0
    · exact invA m c ⟨n + 1, h⟩ h0 (by show ¬(n + 1) % 10 = 9; omega) fun _ _ => ih
    have hh := held m c ⟨n + 1, h⟩ h0 hn _ ih
    by_cases h1 : (n + 1) % 10 = 9
    · by_cases h2 : n + 1 < 10
      · exact invC m c ⟨n + 1, h⟩ h0 h1 h2 hh
      · exact invD m c ⟨n + 1, h⟩ h0 h1 h2 hh
    · exact invB m c ⟨n + 1, h⟩ h0 h1 hh

end Cert.DownIdeal.Inv
end
-- ==== Proof.Res.lean ====
module

public import proofs.«01_k».proof.Proof.Run.Body
public import proofs.«01_k».proof.Proof.Inv

/-! The eight output arrays after the whole grid. -/

@[expose] public section

set_option maxRecDepth 16384

noncomputable section

namespace Cert.DownIdeal.Res

open Idealize.ShloMosaic Idealize.ShloMosaic.TcCoe Idealize.SL.Sem
open Cert.DownIdeal Cert.DownIdeal.Gen Cert.DownIdeal.Run Cert.DownIdeal.Blk Cert.DownIdeal.Inv
open Cert.M Cert.S

variable (m : (ℓ : Loc nD τ sig) → Buf (Elt Ideal) ℓ) (c : Dev nD)

def outY : Vec Ideal S9216x2560 .bf16 := fun i => prod (ins m c) 0 (i 0) (i 1)
def outTok : Vec Ideal S4x9216 .f32 := fun i => tok (ins m c) (i 0).val (i 1)
def outChan : Vec Ideal S4x2560 .f32 := fun i => chan (ins m c) (i 0).val (i 1)
def outSgn : Vec Ideal S1x9216 .f32 := fun i => sgn (ins m c) (i 1)
def outCF : Vec Ideal S9216x10240 .i8 := fun i => codeF (ins m c) (i 0) (i 1)
def outSF : Vec Ideal S1x9216 .f32 := fun i => scF (ins m c) (i 1)
def outCR : Vec Ideal S9216x10240 .i8 := fun i => codeR (ins m c) (i 0) (i 1)
def outSR : Vec Ideal S1x9216 .f32 := fun i => scR (ins m c) (i 1)

theorem final9 : (dats m 0 c).arrAt 9 (cfgs 0).N = outY m c := by
  refine (dats m 0 c).arrAt_eq_of_covers 9 _ (by decide +kernel) fun t ht y => ?_
  blk_simp
  rw [after0_9]
  obtain ⟨a, b, rfl⟩ : ∃ (a : Fin 384) (b : Fin 2560), y = ix2 a b := ⟨y 0, y 1, eq_ix2 y⟩
  exact ((inv m c t.val t.isLt).y ((flush0_9 t).mp ht) a b).trans (congrArg (outY m c) (emb9 t a b)).symm

theorem final10 : (dats m 0 c).arrAt 10 (cfgs 0).N = outTok m c := by
  refine (dats m 0 c).arrAt_eq_of_covers 10 _ (by decide +kernel) fun t ht y => ?_
  blk_simp
  rw [after0_10]
  obtain ⟨a, b, rfl⟩ : ∃ (a : Fin 4) (b : Fin 384), y = ix2 a b := ⟨y 0, y 1, eq_ix2 y⟩
  exact ((inv m c t.val t.isLt).et ((flush0_10 t).mp ht) a b).trans (congrArg (outTok m c) (emb10 t a b)).symm

theorem final11 : (dats m 0 c).arrAt 11 (cfgs 0).N = outChan m c := by
  refine (dats m 0 c).arrAt_eq_of_covers 11 _ (by decide +kernel) fun t ht y => ?_
  have e : t.val = 239 := by have := (flush0_11 t).mp ht; have := t_lt t; omega
  blk_simp
  rw [after0_11]
  obtain ⟨a, b, rfl⟩ : ∃ (a : Fin 4) (b : Fin 2560), y = ix2 a b := ⟨y 0, y 1, eq_ix2 y⟩
  refine ((inv m c t.val t.isLt).ch (by show 9 ≤ t.val; omega) a b).trans (Eq.trans ?_ (congrArg (outChan m c) (emb11 t a b)).symm)
  have e1 : (t.val + 1) / 10 = 24 := by omega
  exact (congrArg (fun n => colsTo m c n a b) e1).trans (chan_blocks (ins m c) a.val b)

theorem final12 : (dats m 0 c).arrAt 12 (cfgs 0).N = outSgn m c := by
  refine (dats m 0 c).arrAt_eq_of_covers 12 _ (by decide +kernel) fun t ht y => ?_
  blk_simp
  rw [after0_12]
  obtain ⟨a, b, rfl⟩ : ∃ (a : Fin 1) (b : Fin 384), y = ix2 a b := ⟨y 0, y 1, eq_ix2 y⟩
  obtain rfl : a = 0 := Subsingleton.elim _ _
  exact ((inv m c t.val t.isLt).sg ((flush0_12 t).mp ht) b).trans (congrArg (outSgn m c) (emb12 t b)).symm

theorem final13 : (dats m 0 c).arrAt 13 (cfgs 0).N = outCF m c := by
  refine (dats m 0 c).arrAt_eq_of_covers 13 _ (by decide +kernel) fun t ht y => ?_
  blk_simp
  rw [after0_13]
  obtain ⟨a, b, rfl⟩ : ∃ (a : Fin 384) (b : Fin 1024), y = ix2 a b := ⟨y 0, y 1, eq_ix2 y⟩
  exact ((inv m c t.val t.isLt).cF a b).trans (congrArg (outCF m c) (emb13 t a b)).symm

theorem final14 : (dats m 0 c).arrAt 14 (cfgs 0).N = outSF m c := by
  refine (dats m 0 c).arrAt_eq_of_covers 14 _ (by decide +kernel) fun t ht y => ?_
  blk_simp
  rw [after0_14]
  obtain ⟨a, b, rfl⟩ : ∃ (a : Fin 1) (b : Fin 384), y = ix2 a b := ⟨y 0, y 1, eq_ix2 y⟩
  obtain rfl : a = 0 := Subsingleton.elim _ _
  exact ((inv m c t.val t.isLt).r14 b).trans (congrArg (outSF m c) (emb14 t b)).symm

theorem final15 : (dats m 0 c).arrAt 15 (cfgs 0).N = outCR m c := by
  refine (dats m 0 c).arrAt_eq_of_covers 15 _ (by decide +kernel) fun t ht y => ?_
  blk_simp
  rw [after0_15]
  obtain ⟨a, b, rfl⟩ : ∃ (a : Fin 384) (b : Fin 1024), y = ix2 a b := ⟨y 0, y 1, eq_ix2 y⟩
  exact ((inv m c t.val t.isLt).cR a b).trans (congrArg (outCR m c) (emb15 t a b)).symm

theorem final16 : (dats m 0 c).arrAt 16 (cfgs 0).N = outSR m c := by
  refine (dats m 0 c).arrAt_eq_of_covers 16 _ (by decide +kernel) fun t ht y => ?_
  blk_simp
  rw [after0_16]
  obtain ⟨a, b, rfl⟩ : ∃ (a : Fin 1) (b : Fin 384), y = ix2 a b := ⟨y 0, y 1, eq_ix2 y⟩
  obtain rfl : a = 0 := Subsingleton.elim _ _
  exact ((inv m c t.val t.isLt).r16 b).trans (congrArg (outSR m c) (emb16 t b)).symm

/-- Every run ends with the eight results and leaves the nine inputs as they were. -/
theorem results (g : Dev nD → PrngReg) : θ_run (defs (F := Ideal)) (onTc (τ := τ) (main (F := Ideal))) ⟨m, fun _ => 0, g⟩ (fun r => ∀ c : Dev nD,
    r.2.mem ((c.tc : Thread nD τ).loc main_v0_0) = outY m c ∧
    r.2.mem ((c.tc : Thread nD τ).loc main_v0_1) = outTok m c ∧
    r.2.mem ((c.tc : Thread nD τ).loc main_v0_2) = outChan m c ∧
    r.2.mem ((c.tc : Thread nD τ).loc main_v0_3) = outSgn m c ∧
    r.2.mem ((c.tc : Thread nD τ).loc main_v0_4) = outCF m c ∧
    r.2.mem ((c.tc : Thread nD τ).loc main_v0_5) = outSF m c ∧
    r.2.mem ((c.tc : Thread nD τ).loc main_v0_6) = outCR m c ∧
    r.2.mem ((c.tc : Thread nD τ).loc main_v0_7) = outSR m c ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8)) := by
  refine θ_run_mono (θ_run_and (run_main m g) (unchanged m g)) ?_
  intro r hr c
  obtain ⟨h, hu⟩ := hr
  exact ⟨((h c).1 9).trans (final9 m c), ((h c).1 10).trans (final10 m c), ((h c).1 11).trans (final11 m c), ((h c).1 12).trans (final12 m c), ((h c).1 13).trans (final13 m c), ((h c).1 14).trans (final14 m c), ((h c).1 15).trans (final15 m c), ((h c).1 16).trans (final16 m c), hu c⟩

end Cert.DownIdeal.Res
end
-- ==== Proof.DRVal.lean ====
module

public import proofs.«01_k».proof.Proof.Gen.DownRefIdeal.Value
public import proofs.«01_k».proof.Proof.Spec
public import Idealize.ShloMosaic.Lib.Claim
public import Idealize.ShloMosaic.Lib.StableHlo.ReadAt

/-! What the reference of the down projection computes: each result as host operations on the nine inputs, and each
    of these read at an index. -/

@[expose] public section

set_option maxRecDepth 16384

noncomputable section

namespace Cert.DownRefIdeal.RVal

open Idealize.ShloMosaic Idealize.ShloMosaic.TcCoe Idealize.SL.Sem
open Cert.DownRefIdeal Cert.DownRefIdeal.Gen
open Cert.M Cert.S

/-- The column of row scales. -/
def fScale (A : FVec Ideal S9216x128 .f32) : FVec Ideal S9216x1 .f32 :=
  have v3 : FVec Ideal S9216x1 .f32 := broadcastInDim S9216x1 ![0] bcast_S9216_S9216x1_0
    (Host.reduce FloatOps.maximumf A (constant S_ .f32 0xFF800000#32) reducesTo_S9216x128_S9216_d1 h_S_ : FVec Ideal S9216 .f32)
  select (cmpf .oeq v3 (broadcastInDim S9216x1 ![] bcast_S_S9216x1 (constant S_ .f32 0x00000000#32)))
    (broadcastInDim S9216x1 ![] bcast_S_S9216x1 (constant S_ .f32 0x3F800000#32))
    (Host.divf v3 (broadcastInDim S9216x1 ![] bcast_S_S9216x1 (constant S_ .f32 0x42FE0000#32)))

theorem fScale_at (A : FVec Ideal S9216x128 .f32) (r : Fin 9216) : fScale A (ix2 r 0) = laneScale A r :=
  (hostScale_at bcast_S9216_S9216x1_0 bcast_S_S9216x1 _ r).trans
    (congrArg scaleOf (hostMax_at reducesTo_S9216x128_S9216_d1 A (constant S_ .f32 0xFF800000#32) h_S_ r))

/-- The codes before their conversion to 8 bits. -/
def fCodes (X : FVec Ideal S9216x10240 .f32) (B : FVec Ideal S9216x1 .f32) : FVec Ideal S9216x10240 .f32 :=
  minimumf (maximumf (Host.roundeven (Host.divf X (broadcastInDim S9216x10240 ![0, 1] bcast_S9216x1_S9216x10240_0_1 B)))
      (broadcastInDim S9216x10240 ![] bcast_S_S9216x10240 (constant S_ .f32 0xC2FE0000#32)))
    (broadcastInDim S9216x10240 ![] bcast_S_S9216x10240 (constant S_ .f32 0x42FE0000#32))

theorem fCodes_at (X : FVec Ideal S9216x10240 .f32) (A : FVec Ideal S9216x128 .f32) (r : Fin 9216) (l : Fin 10240) :
    fCodes X (fScale A) (ix2 r l) = codeOf (X (ix2 r l)) (laneScale A r) := by
  rw [← fScale_at]
  exact hostCodes_at bcast_S9216x1_S9216x10240_0_1 bcast_S_S9216x10240 X (fScale A) r l

/-- A product with the plain weight. -/
def fDot (X : FVec Ideal S9216x10240 .bf16) (W : FVec Ideal S10240x2560 .bf16) : FVec Ideal S9216x2560 .f32 :=
  Host.dotGeneral dot_S9216x10240_S10240x2560_S9216x2560_1_0_0_1_n_n none X W

theorem fDot_at (X : FVec Ideal S9216x10240 .bf16) (W : FVec Ideal S10240x2560 .bf16) (r : Fin 9216) (c : Fin 2560) :
    fDot X W (ix2 r c) = ∑ k : Fin 10240, X (ix2 r k) * W (ix2 k c) :=
  StackMember.dotGeneral_plain_apply none X W r c

/-- The low and the high 4-bit numbers of the weight's bytes. -/
def fLo (Q : IVec S10240x1280 8) : FVec Ideal S10240x1280 .bf16 :=
  have v : IVec S10240x1280 32 := andi (extui 32 Q natLt_8_32) (broadcastInDim S10240x1280 ![] bcast_S_S10240x1280 (constantI S_ 32 15#32))
  sitofp .bf16 (select (cmpi .sge v (broadcastInDim S10240x1280 ![] bcast_S_S10240x1280 (constantI S_ 32 8#32)))
    (subi v (broadcastInDim S10240x1280 ![] bcast_S_S10240x1280 (constantI S_ 32 16#32))) v)
def fHi (Q : IVec S10240x1280 8) : FVec Ideal S10240x1280 .bf16 :=
  have v : IVec S10240x1280 32 := Host.shrsi (extui 32 Q natLt_8_32) (broadcastInDim S10240x1280 ![] bcast_S_S10240x1280 (constantI S_ 32 4#32))
  sitofp .bf16 (select (cmpi .sge v (broadcastInDim S10240x1280 ![] bcast_S_S10240x1280 (constantI S_ 32 8#32)))
    (subi v (broadcastInDim S10240x1280 ![] bcast_S_S10240x1280 (constantI S_ 32 16#32))) v)

/-- The group scales of the even and of the odd columns, one row for each row of the weight. -/
def fS0 (S : FVec Ideal S80x2560 .f32) : FVec Ideal S10240x1280 .bf16 :=
  truncf .bf16 (fun i => shapeCast S10240x1280 (broadcastInDim S80x128x1280 ![0, 2] bcast_S80x1280_S80x128x1280_0_2
    (Host.slice S80x1280 ![0, 0] ![1, 2] S slicesBy_S80x2560_S80x1280_0s1_0s2)) shapeCasts_S80x128x1280_S10240x1280 i : FVec Ideal S10240x1280 .f32) bitsLt_bf16_f32
def fS1 (S : FVec Ideal S80x2560 .f32) : FVec Ideal S10240x1280 .bf16 :=
  truncf .bf16 (fun i => shapeCast S10240x1280 (broadcastInDim S80x128x1280 ![0, 2] bcast_S80x1280_S80x128x1280_0_2
    (Host.slice S80x1280 ![0, 1] ![1, 2] S slicesBy_S80x2560_S80x1280_0s1_1s2)) shapeCasts_S80x128x1280_S10240x1280 i : FVec Ideal S10240x1280 .f32) bitsLt_bf16_f32

theorem fLo_at (Q : IVec S10240x1280 8) (i : S10240x1280.Idx) : fLo Q i = (((nibZ (Q i) 0 : ℤ) : ℝ) : EReal) :=
  hostLo_at bcast_S_S10240x1280 Q natLt_8_32 i
theorem fHi_at (Q : IVec S10240x1280 8) (i : S10240x1280.Idx) : fHi Q i = (((nibZ (Q i) 1 : ℤ) : ℝ) : EReal) :=
  hostHi_at bcast_S_S10240x1280 Q natLt_8_32 i
theorem fS0_at (S : FVec Ideal S80x2560 .f32) (k : Fin 10240) (b : Fin 1280) (c : Fin 2560) (h : c.val = 2 * b.val + 0) :
    fS0 S (ix2 k b) = S (ix2 ⟨k.val / 128, by have := k.isLt; omega⟩ c) :=
  hostRep_at 0 (by decide) slicesBy_S80x2560_S80x1280_0s1_0s2 bcast_S80x1280_S80x128x1280_0_2 shapeCasts_S80x128x1280_S10240x1280 S bitsLt_bf16_f32 k b c h
theorem fS1_at (S : FVec Ideal S80x2560 .f32) (k : Fin 10240) (b : Fin 1280) (c : Fin 2560) (h : c.val = 2 * b.val + 1) :
    fS1 S (ix2 k b) = S (ix2 ⟨k.val / 128, by have := k.isLt; omega⟩ c) :=
  hostRep_at 1 (by decide) slicesBy_S80x2560_S80x1280_0s1_1s2 bcast_S80x1280_S80x128x1280_0_2 shapeCasts_S80x128x1280_S10240x1280 S bitsLt_bf16_f32 k b c h

/-- The half of a product's columns that one half of the bytes gives. -/
def fHalf (X : FVec Ideal S9216x10240 .f32) (B : FVec Ideal S9216x1 .f32) (N S : FVec Ideal S10240x1280 .bf16) : FVec Ideal S9216x1280 .f32 :=
  mulf (Host.dotGeneral dot_S9216x10240_S10240x1280_S9216x1280_1_0_0_1_n_n none (truncf .bf16 X bitsLt_bf16_f32) (mulf N S))
    (broadcastInDim S9216x1280 ![0, 1] bcast_S9216x1_S9216x1280_0_1 B)

theorem fHalf_at (X : FVec Ideal S9216x10240 .f32) (B : FVec Ideal S9216x1 .f32) (N S : FVec Ideal S10240x1280 .bf16) (r : Fin 9216) (c : Fin 1280) :
    fHalf X B N S (ix2 r c) = (∑ k : Fin 10240, X (ix2 r k) * (N (ix2 k c) * S (ix2 k c))) * B (ix2 r 0) :=
  congrArg₂ (fun a b : EReal => a * b)
    (StackMember.dotGeneral_plain_apply none (truncf .bf16 X bitsLt_bf16_f32 : FVec Ideal S9216x10240 .bf16) (mulf N S) r c)
    (bcCol_at bcast_S9216x1_S9216x1280_0_1 B r c)

/-- The two halves, column by column. -/
def fIl (C D : FVec Ideal S9216x1280x1 .f32) : FVec Ideal S9216x2560 .f32 :=
  fun i => shapeCast S9216x2560 (concatenate S9216x1280x2 2 [⟨S9216x1280x1, C⟩, ⟨S9216x1280x1, D⟩]
    concatenates_S9216x1280x1_S9216x1280x1_S9216x1280x2_d2) shapeCasts_S9216x1280x2_S9216x2560 i
def fPair (C D : FVec Ideal S9216x1280 .f32) : FVec Ideal S9216x2560 .f32 :=
  fIl (broadcastInDim S9216x1280x1 ![0, 1] bcast_S9216x1280_S9216x1280x1_0_1 C) (broadcastInDim S9216x1280x1 ![0, 1] bcast_S9216x1280_S9216x1280x1_0_1 D)

/-- A product with the quantised weight, times the row scales. -/
def fQuant (X : FVec Ideal S9216x10240 .f32) (A : FVec Ideal S9216x128 .f32) (Q : IVec S10240x1280 8) (S : FVec Ideal S80x2560 .f32) :
    FVec Ideal S9216x2560 .f32 :=
  fPair (fHalf (fCodes X (fScale A)) (fScale A) (fLo Q) (fS0 S)) (fHalf (fCodes X (fScale A)) (fScale A) (fHi Q) (fS1 S))

theorem nibZ_even (q : BitVec 8) (c : ℕ) (h : c % 2 = 0) : nibZ q 0 = nibZ q c := by
  unfold nibZ; rw [if_pos h, if_pos rfl]
theorem nibZ_odd (q : BitVec 8) (c : ℕ) (h : ¬ c % 2 = 0) : nibZ q 1 = nibZ q c := by
  unfold nibZ; rw [if_neg h, if_neg (by decide)]

theorem fQuant_at (x : Ins) (X : FVec Ideal S9216x10240 .f32) (A : FVec Ideal S9216x128 .f32) (r : Fin 9216) (c : Fin 2560) :
    fQuant X A x.qd x.sd (ix2 r c) = (∑ k : Fin 10240, codeOf (X (ix2 r k)) (laneScale A r) * wq x k c) * laneScale A r := by
  refine (hostPair_at bcast_S9216x1280_S9216x1280x1_0_1 concatenates_S9216x1280x1_S9216x1280x1_S9216x1280x2_d2
    shapeCasts_S9216x1280x2_S9216x2560 (by decide) _ _ r c).trans ?_
  split
  · rename_i h
    refine (fHalf_at _ _ _ _ r _).trans ?_
    rw [fScale_at]
    refine congrArg (· * laneScale A r) (Finset.sum_congr rfl fun k _ => ?_)
    rw [fCodes_at, fLo_at, fS0_at x.sd k _ c (by show c.val = 2 * (c.val / 2) + 0; omega), nibZ_even _ c.val h]
    rfl
  · rename_i h
    refine (fHalf_at _ _ _ _ r _).trans ?_
    rw [fScale_at]
    refine congrArg (· * laneScale A r) (Finset.sum_congr rfl fun k _ => ?_)
    rw [fCodes_at, fHi_at, fS1_at x.sd k _ c (by show c.val = 2 * (c.val / 2) + 1; omega), nibZ_odd _ c.val h]
    rfl

/-- Four matrices stacked. -/
def fCat (A B C D : FVec Ideal S1x9216x2560 .f32) : FVec Ideal S4x9216x2560 .f32 :=
  concatenate S4x9216x2560 0 [⟨S1x9216x2560, A⟩, ⟨S1x9216x2560, B⟩, ⟨S1x9216x2560, C⟩, ⟨S1x9216x2560, D⟩]
    concatenates_S1x9216x2560_S1x9216x2560_S1x9216x2560_S1x9216x2560_S4x9216x2560_d0
def fOne (A : FVec Ideal S9216x2560 .f32) : FVec Ideal S1x9216x2560 .f32 := broadcastInDim S1x9216x2560 ![1, 2] bcast_S9216x2560_S1x9216x2560_1_2 A

/-- The squares of the four differences, from the four products and the one they are compared with. -/
def fSq (A B C D Y : FVec Ideal S9216x2560 .f32) : FVec Ideal S4x9216x2560 .f32 :=
  have e : FVec Ideal S4x9216x2560 .f32 := subf (fCat (fOne A) (fOne B) (fOne C) (fOne D))
    (broadcastInDim S4x9216x2560 ![0, 1, 2] bcast_S1x9216x2560_S4x9216x2560_0_1_2 (fOne Y))
  mulf e e

theorem fSq_at (A B C D Y : FVec Ideal S9216x2560 .f32) (v : Fin 4) (r : Fin 9216) (c : Fin 2560) :
    fSq A B C D Y (ix3 v r c) = (![A, B, C, D] v (ix2 r c) - Y (ix2 r c)) * (![A, B, C, D] v (ix2 r c) - Y (ix2 r c)) :=
  hostErr_at bcast_S9216x2560_S1x9216x2560_1_2 bcast_S1x9216x2560_S4x9216x2560_0_1_2
    concatenates_S1x9216x2560_S1x9216x2560_S1x9216x2560_S1x9216x2560_S4x9216x2560_d0 A B C D Y v r c

/-- The same from the nine inputs. -/
def fErr (hf hr : FVec Ideal S9216x10240 .f32) (hg hu : FVec Ideal S9216x10240 .bf16) (af ar : FVec Ideal S9216x128 .f32)
    (wd : FVec Ideal S10240x2560 .bf16) (qd : IVec S10240x1280 8) (sd : FVec Ideal S80x2560 .f32) : FVec Ideal S4x9216x2560 .f32 :=
  fSq (fQuant hf af qd sd) (fDot hg wd) (fDot hu wd) (fQuant hr ar qd sd) (fDot (truncf .bf16 hr bitsLt_bf16_f32) wd)

variable (x : Ins)

/-- The squares at the nine inputs. -/
def xErr : FVec Ideal S4x9216x2560 .f32 := fErr x.hf x.hr x.hg x.hu x.af x.ar x.wd x.qd x.sd
/-- The first product at the nine inputs. -/
def xDot : FVec Ideal S9216x2560 .f32 := fDot (truncf .bf16 (x.hr : FVec Ideal S9216x10240 .f32) bitsLt_bf16_f32) x.wd

theorem xDot_at (r : Fin 9216) (c : Fin 2560) : xDot x (ix2 r c) = prod x 0 r c :=
  fDot_at (truncf .bf16 (x.hr : FVec Ideal S9216x10240 .f32) bitsLt_bf16_f32) x.wd r c

theorem xErr_at (v : Fin 4) (r : Fin 9216) (c : Fin 2560) : xErr x (ix3 v r c) = err x v.val r c * err x v.val r c := by
  refine (fSq_at _ _ _ _ _ v r c).trans ?_
  have h : (![(fQuant x.hf x.af x.qd x.sd : FVec Ideal S9216x2560 .f32), fDot x.hg x.wd, fDot x.hu x.wd, fQuant x.hr x.ar x.qd x.sd] v (ix2 r c) - xDot x (ix2 r c) : EReal)
      = err x v.val r c := by
    rw [xDot_at]
    fin_cases v
    · exact congrArg (· - prod x 0 r c) (fQuant_at x x.hf x.af r c)
    · exact congrArg (· - prod x 0 r c) (fDot_at x.hg x.wd r c)
    · exact congrArg (· - prod x 0 r c) (fDot_at x.hu x.wd r c)
    · exact congrArg (· - prod x 0 r c) (fQuant_at x x.hr x.ar r c)
  exact congrArg₂ (fun a b : EReal => a * b) h h

/-- A vector laid out as a row. -/
theorem bcRow_at {n : ℕ} (h0 : (⟨1, ![n]⟩ : Shape).BroadcastsInDim (⟨2, ![1, n]⟩ : Shape) ![1])
    (A : (⟨1, ![n]⟩ : Shape).Idx → EReal) (r : Fin n) :
    broadcastInDim (⟨2, ![1, n]⟩ : Shape) ![1] h0 A (ix2 0 r) = A (ix1 r) := by
  refine broadcastInDim_apply _ h0 A _ (ix1 r) fun a => ?_
  have := r.isLt
  fin_cases a
  show r.val = if n = 1 then 0 else r.val
  split <;> omega

/-- The results but the two arrays of codes. -/
def fTok (E : FVec Ideal S4x9216x2560 .f32) : FVec Ideal S4x9216 .f32 :=
  Host.reduceAdd E (constant S_ .f32 0x00000000#32) reducesTo_S4x9216x2560_S4x9216_d2 h_S_
def fChan (E : FVec Ideal S4x9216x2560 .f32) : FVec Ideal S4x2560 .f32 :=
  Host.reduceAdd E (constant S_ .f32 0x00000000#32) reducesTo_S4x9216x2560_S4x2560_d1 h_S_
def fSgn (Y : FVec Ideal S9216x2560 .f32) : FVec Ideal S1x9216 .f32 :=
  broadcastInDim S1x9216 ![1] bcast_S9216_S1x9216_1 (Host.reduceAdd (mulf Y Y) (constant S_ .f32 0x00000000#32) reducesTo_S9216x2560_S9216_d1 h_S_ : FVec Ideal S9216 .f32)
def fRow (A : FVec Ideal S9216x128 .f32) : FVec Ideal S1x9216 .f32 := fun i => shapeCast S1x9216 (fScale A) shapeCasts_S9216x1_S1x9216 i

theorem tok_eq : fTok (xErr x) = fun i => tok x (i 0).val (i 1) := by
  funext i
  obtain ⟨a, b, rfl⟩ : ∃ (a : Fin 4) (b : Fin 9216), i = ix2 a b := ⟨i 0, i 1, eq_ix2 i⟩
  exact (hostSum32_at reducesTo_S4x9216x2560_S4x9216_d2 (xErr x) h_S_ a b).trans (Finset.sum_congr rfl fun l _ => xErr_at x a b l)

theorem chan_eq : fChan (xErr x) = fun i => chan x (i 0).val (i 1) := by
  funext i
  obtain ⟨a, b, rfl⟩ : ∃ (a : Fin 4) (b : Fin 2560), i = ix2 a b := ⟨i 0, i 1, eq_ix2 i⟩
  exact (hostSum31_at reducesTo_S4x9216x2560_S4x2560_d1 (xErr x) h_S_ a b).trans (Finset.sum_congr rfl fun l _ => xErr_at x a l b)

theorem sgn_eq : fSgn (xDot x) = fun i => sgn x (i 1) := by
  funext i
  obtain ⟨a, b, rfl⟩ : ∃ (a : Fin 1) (b : Fin 9216), i = ix2 a b := ⟨i 0, i 1, eq_ix2 i⟩
  obtain rfl : a = 0 := Subsingleton.elim _ _
  refine (bcRow_at bcast_S9216_S1x9216_1 _ b).trans ((hostSum2_at reducesTo_S9216x2560_S9216_d1 (mulf (xDot x) (xDot x)) h_S_ b).trans
    (Finset.sum_congr rfl fun l _ => ?_))
  exact congrArg₂ (fun a b : EReal => a * b) (xDot_at x b l) (xDot_at x b l)

theorem y_eq : (truncf .bf16 (xDot x) bitsLt_bf16_f32 : FVec Ideal S9216x2560 .bf16) = fun i => prod x 0 (i 0) (i 1) := by
  funext i
  obtain ⟨a, b, rfl⟩ : ∃ (a : Fin 9216) (b : Fin 2560), i = ix2 a b := ⟨i 0, i 1, eq_ix2 i⟩
  exact xDot_at x a b

theorem row_eq (A : FVec Ideal S9216x128 .f32) : fRow A = fun i => laneScale A (i 1) := by
  funext i
  obtain ⟨a, b, rfl⟩ : ∃ (a : Fin 1) (b : Fin 9216), i = ix2 a b := ⟨i 0, i 1, eq_ix2 i⟩
  obtain rfl : a = 0 := Subsingleton.elim _ _
  exact (colRow_at shapeCasts_S9216x1_S1x9216 _ b).trans (fScale_at A b)

theorem codes_eq (X : FVec Ideal S9216x10240 .f32) (A : FVec Ideal S9216x128 .f32) :
    (fun i => FloatOps.fptosi (F := Ideal) (φ := .f32) 8 (fCodes X (fScale A) i))
      = fun i => FloatOps.fptosi (F := Ideal) (φ := .f32) 8 (codeOf (X (ix2 (i 0) (i 1))) (laneScale A (i 0))) := by
  funext i
  obtain ⟨a, b, rfl⟩ : ∃ (a : Fin 9216) (b : Fin 10240), i = ix2 a b := ⟨i 0, i 1, eq_ix2 i⟩
  exact congrArg (FloatOps.fptosi (F := Ideal) (φ := .f32) 8) (fCodes_at X A a b)

end Cert.DownRefIdeal.RVal
end
-- ==== Proof.DRRun.lean ====
module

public import proofs.«01_k».proof.Proof.DRVal

/-! The arrays the reference of the down projection ends with, from the memory it starts with. -/

@[expose] public section

set_option maxRecDepth 16384

noncomputable section

namespace Cert.DownRefIdeal.RVal

open Idealize.ShloMosaic Idealize.ShloMosaic.TcCoe Idealize.SL.Sem
open Cert.DownRefIdeal Cert.DownRefIdeal.Gen
open Cert.M Cert.S

variable (m : (ℓ : Loc nD τ sig) → Buf (Elt Ideal) ℓ) (c : Dev nD)

theorem V_v16 : V m c main_v16 = fCodes (m ((c : Thread nD τ).loc main_arg0)) (fScale (m ((c : Thread nD τ).loc main_arg4))) := by
  unfold V fCodes fScale
  after_reads_simp

theorem V_v71 : V m c main_v71 = fCodes (m ((c : Thread nD τ).loc main_arg1)) (fScale (m ((c : Thread nD τ).loc main_arg5))) := by
  unfold V fCodes fScale
  after_reads_simp

theorem V_v124 : V m c main_v124 = truncf .bf16 (fDot (truncf .bf16 (m ((c : Thread nD τ).loc main_arg1)) bitsLt_bf16_f32) (m ((c : Thread nD τ).loc main_arg6))) bitsLt_bf16_f32 := by
  unfold V fDot
  after_reads_simp

theorem V_v123 : V m c main_v123 = fSgn (fDot (truncf .bf16 (m ((c : Thread nD τ).loc main_arg1)) bitsLt_bf16_f32) (m ((c : Thread nD τ).loc main_arg6))) := by
  unfold V fSgn fDot
  after_reads_simp

theorem V_v125 : V m c main_v125 = fRow (m ((c : Thread nD τ).loc main_arg4)) := by
  unfold V fRow fScale
  after_reads_simp
  rfl

theorem V_v126 : V m c main_v126 = fRow (m ((c : Thread nD τ).loc main_arg5)) := by
  unfold V fRow fScale
  after_reads_simp
  rfl

theorem V_v54 : V m c main_v54 = fQuant (m ((c : Thread nD τ).loc main_arg0)) (m ((c : Thread nD τ).loc main_arg4)) (m ((c : Thread nD τ).loc main_arg7))
    (m ((c : Thread nD τ).loc main_arg8)) := by
  have h : V m c main_v54 = fPair (fHalf (V m c main_v16) (V m c main_v9) (V m c main_v41) (V m c main_v35))
      (fHalf (V m c main_v16) (V m c main_v9) (V m c main_v46) (V m c main_v39)) := by
    unfold V
    generalize hR : fPair _ _ = R
    after_reads_simp
    show fIl (StableHlo.upto hostOps0 (fun b => m (c, b)) 65 (Proc.tc.devRef main_v51)) (StableHlo.upto hostOps0 (fun b => m (c, b)) 65 (Proc.tc.devRef main_v52)) = R
    rw [← hR]
    unfold fPair fHalf
    after_reads_simp
  have h9 : V m c main_v9 = fScale (m ((c : Thread nD τ).loc main_arg4)) := by
    unfold V fScale
    after_reads_simp
  have h0 : V m c main_v41 = fLo (m ((c : Thread nD τ).loc main_arg7)) := by
    unfold V fLo
    after_reads_simp
  have h1 : V m c main_v46 = fHi (m ((c : Thread nD τ).loc main_arg7)) := by
    unfold V fHi
    after_reads_simp
  have h2 : V m c main_v35 = fS0 (m ((c : Thread nD τ).loc main_arg8)) := by
    unfold V fS0
    after_reads_simp
    rfl
  have h3 : V m c main_v39 = fS1 (m ((c : Thread nD τ).loc main_arg8)) := by
    unfold V fS1
    after_reads_simp
    rfl
  rw [h, V_v16, h9, h0, h1, h2, h3]
  rfl

theorem V_v109 : V m c main_v109 = fQuant (m ((c : Thread nD τ).loc main_arg1)) (m ((c : Thread nD τ).loc main_arg5)) (m ((c : Thread nD τ).loc main_arg7))
    (m ((c : Thread nD τ).loc main_arg8)) := by
  have h : V m c main_v109 = fPair (fHalf (V m c main_v71) (V m c main_v64) (V m c main_v96) (V m c main_v90))
      (fHalf (V m c main_v71) (V m c main_v64) (V m c main_v101) (V m c main_v94)) := by
    unfold V
    generalize hR : fPair _ _ = R
    after_reads_simp
    show fIl (StableHlo.upto hostOps0 (fun b => m (c, b)) 132 (Proc.tc.devRef main_v106)) (StableHlo.upto hostOps0 (fun b => m (c, b)) 132 (Proc.tc.devRef main_v107)) = R
    rw [← hR]
    unfold fPair fHalf
    after_reads_simp
  have h9 : V m c main_v64 = fScale (m ((c : Thread nD τ).loc main_arg5)) := by
    unfold V fScale
    after_reads_simp
  have h0 : V m c main_v96 = fLo (m ((c : Thread nD τ).loc main_arg7)) := by
    unfold V fLo
    after_reads_simp
  have h1 : V m c main_v101 = fHi (m ((c : Thread nD τ).loc main_arg7)) := by
    unfold V fHi
    after_reads_simp
  have h2 : V m c main_v90 = fS0 (m ((c : Thread nD τ).loc main_arg8)) := by
    unfold V fS0
    after_reads_simp
    rfl
  have h3 : V m c main_v94 = fS1 (m ((c : Thread nD τ).loc main_arg8)) := by
    unfold V fS1
    after_reads_simp
    rfl
  rw [h, V_v71, h9, h0, h1, h2, h3]
  rfl

theorem V_v118 : V m c main_v118 = fErr (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8)) := by
  have h : V m c main_v118 = fSq (V m c main_v54) (V m c main_v55) (V m c main_v56) (V m c main_v109) (V m c main_v1) := by
    have h4 : V m c main_v114 = fCat (fOne (V m c main_v54)) (fOne (V m c main_v55)) (fOne (V m c main_v56)) (fOne (V m c main_v109)) := by
      unfold V
      generalize hR : fCat _ _ _ _ = R
      after_reads_simp
      show fCat (StableHlo.upto hostOps0 (fun b => m (c, b)) 138 (Proc.tc.devRef main_v110)) (StableHlo.upto hostOps0 (fun b => m (c, b)) 138 (Proc.tc.devRef main_v111))
        (StableHlo.upto hostOps0 (fun b => m (c, b)) 138 (Proc.tc.devRef main_v112)) (StableHlo.upto hostOps0 (fun b => m (c, b)) 138 (Proc.tc.devRef main_v113)) = R
      rw [← hR]
      unfold fOne
      after_reads_simp
    unfold fSq
    rw [← h4]
    unfold V fOne
    after_reads_simp
  have h0 : V m c main_v1 = fDot (truncf .bf16 (m ((c : Thread nD τ).loc main_arg1)) bitsLt_bf16_f32) (m ((c : Thread nD τ).loc main_arg6)) := by
    unfold V fDot
    after_reads_simp
  have h1 : V m c main_v55 = fDot (m ((c : Thread nD τ).loc main_arg2)) (m ((c : Thread nD τ).loc main_arg6)) := by
    unfold V fDot
    after_reads_simp
  have h2 : V m c main_v56 = fDot (m ((c : Thread nD τ).loc main_arg3)) (m ((c : Thread nD τ).loc main_arg6)) := by
    unfold V fDot
    after_reads_simp
  rw [h, V_v54, V_v109, h0, h1, h2]
  rfl

theorem V_v119 : V m c main_v119 = fTok (V m c main_v118) := by
  unfold V fTok
  after_reads_simp

theorem V_v120 : V m c main_v120 = fChan (V m c main_v118) := by
  unfold V fChan
  after_reads_simp

theorem idx : ∀ t : Fin grid0.N, (win0_0.index t = ![0, 0] ∧ win0_1.index t = ![0, 0]) ∧ win0_2.index t = ![0, 0] ∧ win0_3.index t = ![0, 0] :=
  (by decide +kernel : ∀ t : Fin grid0.N, _)

theorem emb0 (t : Fin cfg0.N) (a : Fin 9216) (b : Fin 10240) : ((cfg0.win 0).blk t).view.emb (ix2 a b) = ix2 a b := by
  fin_vals t with ht
  blk_ext [idx t]
theorem emb1 (t : Fin cfg0.N) (a : Fin 9216) (b : Fin 10240) : ((cfg0.win 1).blk t).view.emb (ix2 a b) = ix2 a b := by
  fin_vals t with ht
  blk_ext [idx t]
theorem emb2 (t : Fin cfg0.N) (a : Fin 9216) (b : Fin 10240) : ((cfg0.win 2).blk t).view.emb (ix2 a b) = ix2 a b := by
  fin_vals t with ht
  blk_ext [idx t]
theorem emb3 (t : Fin cfg0.N) (a : Fin 9216) (b : Fin 10240) : ((cfg0.win 3).blk t).view.emb (ix2 a b) = ix2 a b := by
  fin_vals t with ht
  blk_ext [idx t]

theorem read0 (t : Fin cfg0.N) (W : Vec Ideal S9216x10240 .f32) (a : Fin 9216) (b : Fin 10240) :
    ((cfg0.win 0).blk t).view.read (Elt Ideal) W (ix2 a b) = W (ix2 a b) := congrArg W (emb0 t a b)
theorem read1 (t : Fin cfg0.N) (W : Vec Ideal S9216x10240 .f32) (a : Fin 9216) (b : Fin 10240) :
    ((cfg0.win 1).blk t).view.read (Elt Ideal) W (ix2 a b) = W (ix2 a b) := congrArg W (emb1 t a b)

theorem iblk0 (t : Fin cfg0.N) (a : Fin 9216) (b : Fin 10240) : iblk m c 0 t (ix2 a b) = V m c main_v16 (ix2 a b) := by
  unfold iblk
  generalize V m c = W
  exact read0 t (W main_v16) a b
theorem iblk1 (t : Fin cfg0.N) (a : Fin 9216) (b : Fin 10240) : iblk m c 1 t (ix2 a b) = V m c main_v71 (ix2 a b) := by
  unfold iblk
  generalize V m c = W
  exact read1 t (W main_v71) a b

theorem pay1_at (X : Vec Ideal S9216x10240 .f32) (i : S9216x10240.Idx) : k0_pay1 X i = FloatOps.fptosi (F := Ideal) (φ := .f32) 8 (X i) := by
  rw [k0_pay1]
  pointwise
theorem pay2_at (X : Vec Ideal S9216x10240 .f32) (i : S9216x10240.Idx) : k0_pay2 X i = FloatOps.fptosi (F := Ideal) (φ := .f32) 8 (X i) :=
  pay1_at X i

theorem final2 : (dats m 0 c).arrAt 2 (cfgs 0).N = fun i => FloatOps.fptosi (F := Ideal) (φ := .f32) 8 (V m c main_v16 i) := by
  refine (dats m 0 c).arrAt_eq_of_covers 2 _ (by decide +kernel) fun t _ y => ?_
  have hb : ∀ i, iblk m c 0 t i = V m c main_v16 i := fun i => by rw [eq_ix2 i]; exact iblk0 m c t _ _
  generalize V m c main_v16 = W at hb ⊢
  blk_simp
  rw [after0_2]; frame_out
  obtain ⟨a, b, rfl⟩ : ∃ (a : Fin 9216) (b : Fin 10240), y = ix2 a b := ⟨y 0, y 1, eq_ix2 y⟩
  exact (pay1_at (iblk m c 0 t) (ix2 a b)).trans ((congrArg (FloatOps.fptosi (F := Ideal) (φ := .f32) 8) (hb (ix2 a b))).trans
    (congrArg (fun i => FloatOps.fptosi (F := Ideal) (φ := .f32) 8 (W i)) (emb2 t a b)).symm)

theorem final3 : (dats m 0 c).arrAt 3 (cfgs 0).N = fun i => FloatOps.fptosi (F := Ideal) (φ := .f32) 8 (V m c main_v71 i) := by
  refine (dats m 0 c).arrAt_eq_of_covers 3 _ (by decide +kernel) fun t _ y => ?_
  have hb : ∀ i, iblk m c 1 t i = V m c main_v71 i := fun i => by rw [eq_ix2 i]; exact iblk1 m c t _ _
  generalize V m c main_v71 = W at hb ⊢
  blk_simp
  rw [after0_3]; frame_out
  obtain ⟨a, b, rfl⟩ : ∃ (a : Fin 9216) (b : Fin 10240), y = ix2 a b := ⟨y 0, y 1, eq_ix2 y⟩
  exact (pay2_at (iblk m c 1 t) (ix2 a b)).trans ((congrArg (FloatOps.fptosi (F := Ideal) (φ := .f32) 8) (hb (ix2 a b))).trans
    (congrArg (fun i => FloatOps.fptosi (F := Ideal) (φ := .f32) 8 (W i)) (emb3 t a b)).symm)

/-- The nine inputs. -/
def ins : Ins where
  hf := m ((c : Thread nD τ).loc main_arg0)
  hr := m ((c : Thread nD τ).loc main_arg1)
  hg := m ((c : Thread nD τ).loc main_arg2)
  hu := m ((c : Thread nD τ).loc main_arg3)
  af := m ((c : Thread nD τ).loc main_arg4)
  ar := m ((c : Thread nD τ).loc main_arg5)
  wd := m ((c : Thread nD τ).loc main_arg6)
  qd := m ((c : Thread nD τ).loc main_arg7)
  sd := m ((c : Thread nD τ).loc main_arg8)

theorem v118_eq : V m c main_v118 = xErr (ins m c) := V_v118 m c
theorem row0 : V m c main_v125 = fun i => scF (ins m c) (i 1) := (V_v125 m c).trans (row_eq _)
theorem row1 : V m c main_v126 = fun i => scR (ins m c) (i 1) := (V_v126 m c).trans (row_eq _)
theorem code0 : (dats m 0 c).arrAt 2 (cfgs 0).N = fun i => codeF (ins m c) (i 0) (i 1) := by
  rw [final2, V_v16]
  exact codes_eq _ _
theorem code1 : (dats m 0 c).arrAt 3 (cfgs 0).N = fun i => codeR (ins m c) (i 0) (i 1) := by
  rw [final3, V_v71]
  exact codes_eq _ _

/-- Every run ends with the eight results and leaves the nine inputs as they were. -/
theorem results (g : Dev nD → PrngReg) : θ_run (defs (F := Ideal)) (onTc (τ := τ) (main (F := Ideal))) ⟨m, fun _ => 0, g⟩ (fun r => ∀ c : Dev nD,
    (r.2.mem ((c.tc : Thread nD τ).loc main_v124) = fun i => prod (ins m c) 0 (i 0) (i 1)) ∧
    (r.2.mem ((c.tc : Thread nD τ).loc main_v119) = fun i => tok (ins m c) (i 0).val (i 1)) ∧
    (r.2.mem ((c.tc : Thread nD τ).loc main_v120) = fun i => chan (ins m c) (i 0).val (i 1)) ∧
    (r.2.mem ((c.tc : Thread nD τ).loc main_v123) = fun i => sgn (ins m c) (i 1)) ∧
    (r.2.mem ((c.tc : Thread nD τ).loc main_v127_0) = fun i => codeF (ins m c) (i 0) (i 1)) ∧
    (r.2.mem ((c.tc : Thread nD τ).loc main_v125) = fun i => scF (ins m c) (i 1)) ∧
    (r.2.mem ((c.tc : Thread nD τ).loc main_v127_1) = fun i => codeR (ins m c) (i 0) (i 1)) ∧
    (r.2.mem ((c.tc : Thread nD τ).loc main_v126) = fun i => scR (ins m c) (i 1)) ∧
    r.2.mem ((c.tc : Thread nD τ).loc main_arg0) = m ((c.tc : Thread nD τ).loc main_arg0) ∧
    r.2.mem ((c.tc : Thread nD τ).loc main_arg1) = m ((c.tc : Thread nD τ).loc main_arg1) ∧
    r.2.mem ((c.tc : Thread nD τ).loc main_arg2) = m ((c.tc : Thread nD τ).loc main_arg2) ∧
    r.2.mem ((c.tc : Thread nD τ).loc main_arg3) = m ((c.tc : Thread nD τ).loc main_arg3) ∧
    r.2.mem ((c.tc : Thread nD τ).loc main_arg4) = m ((c.tc : Thread nD τ).loc main_arg4) ∧
    r.2.mem ((c.tc : Thread nD τ).loc main_arg5) = m ((c.tc : Thread nD τ).loc main_arg5) ∧
    r.2.mem ((c.tc : Thread nD τ).loc main_arg6) = m ((c.tc : Thread nD τ).loc main_arg6) ∧
    r.2.mem ((c.tc : Thread nD τ).loc main_arg7) = m ((c.tc : Thread nD τ).loc main_arg7) ∧
    r.2.mem ((c.tc : Thread nD τ).loc main_arg8) = m ((c.tc : Thread nD τ).loc main_arg8)) := by
  refine θ_run_mono (θ_run_and (run_main m g) (unchanged m g)) ?_
  intro r hr c
  obtain ⟨h, hu⟩ := hr
  exact ⟨((h c).2 main_v124 (Pipeline.mem_restRefs_of main_v124 (by decide) (by decide))).trans ((V_v124 m c).trans (y_eq (ins m c))),
    ((h c).2 main_v119 (Pipeline.mem_restRefs_of main_v119 (by decide) (by decide))).trans ((V_v119 m c).trans ((congrArg fTok (v118_eq m c)).trans (tok_eq (ins m c)))),
    ((h c).2 main_v120 (Pipeline.mem_restRefs_of main_v120 (by decide) (by decide))).trans ((V_v120 m c).trans ((congrArg fChan (v118_eq m c)).trans (chan_eq (ins m c)))),
    ((h c).2 main_v123 (Pipeline.mem_restRefs_of main_v123 (by decide) (by decide))).trans ((V_v123 m c).trans (sgn_eq (ins m c))),
    ((h c).1 2).trans (code0 m c),
    ((h c).2 main_v125 (Pipeline.mem_restRefs_of main_v125 (by decide) (by decide))).trans (row0 m c),
    ((h c).1 3).trans (code1 m c),
    ((h c).2 main_v126 (Pipeline.mem_restRefs_of main_v126 (by decide) (by decide))).trans (row1 m c), hu c⟩

end Cert.DownRefIdeal.RVal
end
-- ==== Proof.DEq.lean ====
module

public import proofs.«01_k».proof.Proof.Res
public import proofs.«01_k».proof.Proof.DRRun

/-! The eight results of the reference of the down projection are the kernel's, from the same inputs. -/

@[expose] public section

set_option maxRecDepth 16384

noncomputable section

namespace Cert.DEq

open Idealize.ShloMosaic Idealize.ShloMosaic.TcCoe Idealize.SL.Sem
open Cert.S
open Cert.DownIdeal.Res (outY outTok outChan outSgn outCF outSF outCR outSR)

theorem mk_eq {a0 b0 a1 b1 a2 b2 a3 b3 : (⟨2, ![9216, 10240]⟩ : Shape).Idx → EReal} {a4 b4 a5 b5 : (⟨2, ![9216, 128]⟩ : Shape).Idx → EReal}
    {a6 b6 : (⟨2, ![10240, 2560]⟩ : Shape).Idx → EReal} {a7 b7 : (⟨2, ![10240, 1280]⟩ : Shape).Idx → BitVec 8}
    {a8 b8 : (⟨2, ![80, 2560]⟩ : Shape).Idx → EReal} (h0 : a0 = b0) (h1 : a1 = b1) (h2 : a2 = b2) (h3 : a3 = b3) (h4 : a4 = b4)
    (h5 : a5 = b5) (h6 : a6 = b6) (h7 : a7 = b7) (h8 : a8 = b8) :
    Ins.mk a0 a1 a2 a3 a4 a5 a6 a7 a8 = Ins.mk b0 b1 b2 b3 b4 b5 b6 b7 b8 := by
  subst h0 h1 h2 h3 h4 h5 h6 h7 h8; rfl

variable (m : (ℓ : Loc Cert.DownIdeal.nD Cert.DownIdeal.τ Cert.DownIdeal.sig) → Buf (Elt Ideal) ℓ) (g : Dev Cert.DownIdeal.nD → PrngReg)
  (m' : (ℓ : Loc Cert.DownRefIdeal.nD Cert.DownRefIdeal.τ Cert.DownRefIdeal.sig) → Buf (Elt Ideal) ℓ) (g' : Dev Cert.DownRefIdeal.nD → PrngReg)

theorem results (hagree : ∀ c : Dev Cert.DownIdeal.nD,
    m' ((c.tc : Thread Cert.DownRefIdeal.nD Cert.DownRefIdeal.τ).loc Cert.DownRefIdeal.main_arg0) = m ((c.tc : Thread Cert.DownIdeal.nD Cert.DownIdeal.τ).loc Cert.DownIdeal.main_arg0) ∧
    m' ((c.tc : Thread Cert.DownRefIdeal.nD Cert.DownRefIdeal.τ).loc Cert.DownRefIdeal.main_arg1) = m ((c.tc : Thread Cert.DownIdeal.nD Cert.DownIdeal.τ).loc Cert.DownIdeal.main_arg1) ∧
    m' ((c.tc : Thread Cert.DownRefIdeal.nD Cert.DownRefIdeal.τ).loc Cert.DownRefIdeal.main_arg2) = m ((c.tc : Thread Cert.DownIdeal.nD Cert.DownIdeal.τ).loc Cert.DownIdeal.main_arg2) ∧
    m' ((c.tc : Thread Cert.DownRefIdeal.nD Cert.DownRefIdeal.τ).loc Cert.DownRefIdeal.main_arg3) = m ((c.tc : Thread Cert.DownIdeal.nD Cert.DownIdeal.τ).loc Cert.DownIdeal.main_arg3) ∧
    m' ((c.tc : Thread Cert.DownRefIdeal.nD Cert.DownRefIdeal.τ).loc Cert.DownRefIdeal.main_arg4) = m ((c.tc : Thread Cert.DownIdeal.nD Cert.DownIdeal.τ).loc Cert.DownIdeal.main_arg4) ∧
    m' ((c.tc : Thread Cert.DownRefIdeal.nD Cert.DownRefIdeal.τ).loc Cert.DownRefIdeal.main_arg5) = m ((c.tc : Thread Cert.DownIdeal.nD Cert.DownIdeal.τ).loc Cert.DownIdeal.main_arg5) ∧
    m' ((c.tc : Thread Cert.DownRefIdeal.nD Cert.DownRefIdeal.τ).loc Cert.DownRefIdeal.main_arg6) = m ((c.tc : Thread Cert.DownIdeal.nD Cert.DownIdeal.τ).loc Cert.DownIdeal.main_arg6) ∧
    m' ((c.tc : Thread Cert.DownRefIdeal.nD Cert.DownRefIdeal.τ).loc Cert.DownRefIdeal.main_arg7) = m ((c.tc : Thread Cert.DownIdeal.nD Cert.DownIdeal.τ).loc Cert.DownIdeal.main_arg7) ∧
    m' ((c.tc : Thread Cert.DownRefIdeal.nD Cert.DownRefIdeal.τ).loc Cert.DownRefIdeal.main_arg8) = m ((c.tc : Thread Cert.DownIdeal.nD Cert.DownIdeal.τ).loc Cert.DownIdeal.main_arg8)) :
    θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
    r.2.mem ((c.tc : Thread Cert.DownRefIdeal.nD Cert.DownRefIdeal.τ).loc Cert.DownRefIdeal.main_v124) = outY m c ∧
    r.2.mem ((c.tc : Thread Cert.DownRefIdeal.nD Cert.DownRefIdeal.τ).loc Cert.DownRefIdeal.main_v119) = outTok m c ∧
    r.2.mem ((c.tc : Thread Cert.DownRefIdeal.nD Cert.DownRefIdeal.τ).loc Cert.DownRefIdeal.main_v120) = outChan m c ∧
    r.2.mem ((c.tc : Thread Cert.DownRefIdeal.nD Cert.DownRefIdeal.τ).loc Cert.DownRefIdeal.main_v123) = outSgn m c ∧
    r.2.mem ((c.tc : Thread Cert.DownRefIdeal.nD Cert.DownRefIdeal.τ).loc Cert.DownRefIdeal.main_v127_0) = outCF m c ∧
    r.2.mem ((c.tc : Thread Cert.DownRefIdeal.nD Cert.DownRefIdeal.τ).loc Cert.DownRefIdeal.main_v125) = outSF m c ∧
    r.2.mem ((c.tc : Thread Cert.DownRefIdeal.nD Cert.DownRefIdeal.τ).loc Cert.DownRefIdeal.main_v127_1) = outCR m c ∧
    r.2.mem ((c.tc : Thread Cert.DownRefIdeal.nD Cert.DownRefIdeal.τ).loc Cert.DownRefIdeal.main_v126) = outSR m c ∧
    r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0) ∧
    r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1) ∧
    r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2) ∧
    r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3) ∧
    r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4) ∧
    r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5) ∧
    r.2.mem ((c.tc : Thread Cert.DownRefIdeal.nD Cert.DownRefIdeal.τ).loc Cert.DownRefIdeal.main_arg6) = m' ((c.tc : Thread Cert.DownRefIdeal.nD Cert.DownRefIdeal.τ).loc Cert.DownRefIdeal.main_arg6) ∧
    r.2.mem ((c.tc : Thread Cert.DownRefIdeal.nD Cert.DownRefIdeal.τ).loc Cert.DownRefIdeal.main_arg7) = m' ((c.tc : Thread Cert.DownRefIdeal.nD Cert.DownRefIdeal.τ).loc Cert.DownRefIdeal.main_arg7) ∧
    r.2.mem ((c.tc : Thread Cert.DownRefIdeal.nD Cert.DownRefIdeal.τ).loc Cert.DownRefIdeal.main_arg8) = m' ((c.tc : Thread Cert.DownRefIdeal.nD Cert.DownRefIdeal.τ).loc Cert.DownRefIdeal.main_arg8)) := by
  refine θ_run_mono (Cert.DownRefIdeal.RVal.results m' g') ?_
  intro r hr c
  have h := hr c
  obtain ⟨h0, h1, h2, h3, h4, h5, h6, h7, h8⟩ := hagree c
  have e : Cert.DownRefIdeal.RVal.ins m' c = Cert.DownIdeal.Blk.ins m c := mk_eq h0 h1 h2 h3 h4 h5 h6 h7 h8
  rw [e] at h
  exact h

end Cert.DEq
end
-- ==== Proof.XVal.lean ====
module

public import proofs.«01_k».proof.Proof.Gen.KernelIdeal.Frame
public import proofs.«01_k».proof.Proof.Gen.ReferenceIdeal.Frame
public import proofs.«01_k».proof.Proof.Math

@[expose] public section

set_option maxRecDepth 16384

noncomputable section

namespace Cert.KernelIdeal.XVal

open Idealize.ShloMosaic Idealize.ShloMosaic.TcCoe Idealize.SL.Sem
open Cert.KernelIdeal Cert.KernelIdeal.Gen
open Cert.M

theorem rowMax_at (X : Vec Ideal S512x2560 .bf16) (r : Fin 512) :
    Finset.fold max NEG (fun l => k0_pay1 (k0_pay7 X) (k0_pay8 X) (k0_pay9 X) (k0_pay10 X) (k0_pay11 X) (ix2 r l)) Finset.univ
      = rowMax fun k : Fin 2560 => X (ix2 r k) := by
  refine fold_max_lanes 20 NEG (fun k : Fin 2560 => FloatOps.absf (F := Ideal) (φ := .f32) (X (ix2 r k))) _ fun l c => ?_
  unfold_payloads
  pointwise
  simp only [max_le_iff]
  constructor
  · intro H j
    fin_vals j with hj
    all_goals simp only [hj, Nat.reduceMul, Nat.zero_mul, Nat.zero_add]; tauto
  · intro H
    have H' := fun j hj => H ⟨j, hj⟩
    refine ⟨⟨⟨⟨⟨?_, ?_⟩, ⟨?_, ?_⟩⟩, ⟨⟨?_, ?_⟩, ⟨?_, ?_⟩⟩⟩, ⟨⟨⟨?_, ?_⟩, ⟨?_, ?_⟩⟩, ⟨⟨?_, ?_⟩, ⟨?_, ?_⟩⟩⟩⟩, ⟨⟨?_, ?_⟩, ⟨?_, ?_⟩⟩⟩
    · simpa using H' 0 (by decide)
    · exact H' 1 (by decide)
    · exact H' 2 (by decide)
    · exact H' 3 (by decide)
    · exact H' 4 (by decide)
    · exact H' 5 (by decide)
    · exact H' 6 (by decide)
    · exact H' 7 (by decide)
    · exact H' 8 (by decide)
    · exact H' 9 (by decide)
    · exact H' 10 (by decide)
    · exact H' 11 (by decide)
    · exact H' 12 (by decide)
    · exact H' 13 (by decide)
    · exact H' 14 (by decide)
    · exact H' 15 (by decide)
    · exact H' 16 (by decide)
    · exact H' 17 (by decide)
    · exact H' 18 (by decide)
    · exact H' 19 (by decide)

theorem scale_at (X : Vec Ideal S512x2560 .bf16) (r : Fin 512) :
    k0_pay2 (k0_pay7 X) (k0_pay8 X) (k0_pay9 X) (k0_pay10 X) (k0_pay11 X) (ix2 r 0) = scaleOf (rowMax fun k : Fin 2560 => X (ix2 r k)) := by
  rw [← rowMax_at]
  unfold k0_pay2 scaleOf
  pointwise

theorem codes_at (X : Vec Ideal S512x2560 .bf16) (r : Fin 512) (l : Fin 2560) :
    k0_pay3 (k0_pay6 X) (k0_pay7 X) (k0_pay8 X) (k0_pay9 X) (k0_pay10 X) (k0_pay11 X) (ix2 r l)
      = FloatOps.fptosi (F := Ideal) (φ := .f32) 8 (codeOf (X (ix2 r l)) (scaleOf (rowMax fun k : Fin 2560 => X (ix2 r k)))) := by
  rw [← scale_at]
  unfold k0_pay3 k0_pay6 codeOf
  pointwise

theorem rep_at (X : Vec Ideal S512x2560 .bf16) (r : Fin 512) (l : Fin 128) :
    k0_pay4 (k0_pay7 X) (k0_pay8 X) (k0_pay9 X) (k0_pay10 X) (k0_pay11 X) (ix2 r l) = scaleOf (rowMax fun k : Fin 2560 => X (ix2 r k)) := by
  rw [← scale_at]
  unfold k0_pay4
  pointwise

theorem row_at (X : Vec Ideal S512x2560 .bf16) (r : Fin 512) :
    k0_pay5 (k0_pay7 X) (k0_pay8 X) (k0_pay9 X) (k0_pay10 X) (k0_pay11 X) (ix2 0 r) = scaleOf (rowMax fun k : Fin 2560 => X (ix2 r k)) := by
  rw [← rowMax_at]
  unfold k0_pay5 scaleOf
  pointwise

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, t.val] :=
  (by decide +kernel : ∀ t : Fin grid0.N, _)

abbrev XS (X : Vec Ideal S9216x2560 .bf16) (r : Fin 9216) : EReal := scaleOf (rowMax fun k : Fin 2560 => X (ix2 r k))

/-- The codes as a function of the whole input. -/
def xCodes (X : Vec Ideal S9216x2560 .bf16) : Vec Ideal S9216x2560 .i8 := fun i =>
  FloatOps.fptosi (F := Ideal) (φ := .f32) 8 (codeOf (X (ix2 (i 0) (i 1))) (XS X (i 0)))
def xRep (X : Vec Ideal S9216x2560 .bf16) : Vec Ideal S9216x128 .f32 := fun i => XS X (i 0)
def xRow (X : Vec Ideal S9216x2560 .bf16) : Vec Ideal S1x9216 .f32 := fun i => XS X (i 1)

theorem ld_eq (X : Vec Ideal S512x2560 .bf16) : View.ld X r0_0 = X :=
  View.ld_unit_zero (by funext a; fin_cases a <;> rfl) _ X
theorem pay12_eq (X : Vec Ideal S512x2560 .bf16) : k0_pay12 X = k0_pay7 X := congrArg k0_pay7 (ld_eq X)
theorem pay13_eq (X : Vec Ideal S512x2560 .bf16) : k0_pay13 X = k0_pay8 X := congrArg k0_pay8 (ld_eq X)
theorem pay14_eq (X : Vec Ideal S512x2560 .bf16) : k0_pay14 X = k0_pay9 X := congrArg k0_pay9 (ld_eq X)
theorem pay15_eq (X : Vec Ideal S512x2560 .bf16) : k0_pay15 X = k0_pay10 X := congrArg k0_pay10 (ld_eq X)
theorem pay16_eq (X : Vec Ideal S512x2560 .bf16) : k0_pay16 X = k0_pay11 X := congrArg k0_pay11 (ld_eq X)

theorem t_lt (t : Fin cfg0.N) : t.val < 18 := t.isLt

/-- The row of the array under row `a` of block `t`. -/
abbrev R (t : Fin cfg0.N) (a : Fin 512) : Fin 9216 := ⟨t.val * 512 + a.val, by have := t_lt t; have := a.isLt; omega⟩

theorem blk0 (c : Dev nD) (t : Fin cfg0.N) (a : Fin 512) (k : Fin 2560) :
    iblk m c 0 t (ix2 a k) = m ((c : Thread nD τ).loc main_arg0) (ix2 (R t a) k) := by
  blk_ext [iblk, V, idx t]

theorem blkrow (c : Dev nD) (t : Fin cfg0.N) (a : Fin 512) :
    (fun k : Fin 2560 => iblk m c 0 t (ix2 a k)) = fun k => m ((c : Thread nD τ).loc main_arg0) (ix2 (R t a) k) :=
  funext (blk0 m c t a)

theorem emb1 (t : Fin cfg0.N) (a : Fin 512) (b : Fin 2560) : ((cfg0.win 1).blk t).view.emb (ix2 a b) = ix2 (R t a) b := by
  blk_ext [idx t]
theorem emb2 (t : Fin cfg0.N) (a : Fin 512) (b : Fin 128) : ((cfg0.win 2).blk t).view.emb (ix2 a b) = ix2 (R t a) b := by
  blk_ext [idx t]
theorem emb3 (t : Fin cfg0.N) (b : Fin 512) : ((cfg0.win 3).blk t).view.emb (ix2 0 b) = ix2 0 (R t b) := by
  blk_ext [idx t]

theorem final1 (c : Dev nD) : (dats m 0 c).arrAt 1 (cfgs 0).N = xCodes (m ((c : Thread nD τ).loc main_arg0)) := by
  refine (dats m 0 c).arrAt_eq_of_covers 1 _ (by decide +kernel) fun t _ y => ?_
  blk_simp
  rw [after0_1]; frame_out
  obtain ⟨a, b, rfl⟩ : ∃ (a : Fin 512) (b : Fin 2560), y = ix2 a b := ⟨y 0, y 1, eq_ix2 y⟩
  rw [pay12_eq, pay13_eq, pay14_eq, pay15_eq, pay16_eq]
  refine (codes_at (iblk m c 0 t) a b).trans (Eq.trans ?_ (congrArg (xCodes _) (emb1 t a b)).symm)
  exact congrArg₂ (fun v s => FloatOps.fptosi (F := Ideal) (φ := .f32) 8 (codeOf v s)) (blk0 m c t a b)
    (congrArg (fun f => scaleOf (rowMax f)) (blkrow m c t a))

theorem final2 (c : Dev nD) : (dats m 0 c).arrAt 2 (cfgs 0).N = xRep (m ((c : Thread nD τ).loc main_arg0)) := by
  refine (dats m 0 c).arrAt_eq_of_covers 2 _ (by decide +kernel) fun t _ y => ?_
  blk_simp
  rw [after0_2]; frame_out
  obtain ⟨a, b, rfl⟩ : ∃ (a : Fin 512) (b : Fin 128), y = ix2 a b := ⟨y 0, y 1, eq_ix2 y⟩
  rw [pay12_eq, pay13_eq, pay14_eq, pay15_eq, pay16_eq]
  exact (rep_at (iblk m c 0 t) a b).trans ((congrArg (fun f => scaleOf (rowMax f)) (blkrow m c t a)).trans (congrArg (xRep _) (emb2 t a b)).symm)

theorem final3 (c : Dev nD) : (dats m 0 c).arrAt 3 (cfgs 0).N = xRow (m ((c : Thread nD τ).loc main_arg0)) := by
  refine (dats m 0 c).arrAt_eq_of_covers 3 _ (by decide +kernel) fun t _ y => ?_
  blk_simp
  rw [after0_3]; frame_out
  obtain ⟨a, b, rfl⟩ : ∃ (a : Fin 1) (b : Fin 512), y = ix2 a b := ⟨y 0, y 1, eq_ix2 y⟩
  obtain rfl : a = 0 := Subsingleton.elim _ _
  rw [pay12_eq, pay13_eq, pay14_eq, pay15_eq, pay16_eq]
  exact (row_at (iblk m c 0 t) b).trans ((congrArg (fun f => scaleOf (rowMax f)) (blkrow m c t b)).trans (congrArg (xRow _) (emb3 t b)).symm)

end Cert.KernelIdeal.XVal
end
-- ==== Proof.RVal.lean ====
module

public import proofs.«01_k».proof.Proof.Gen.ReferenceIdeal.Value
public import proofs.«01_k».proof.Proof.Math
public import Idealize.ShloMosaic.Lib.Claim
public import Idealize.ShloMosaic.Lib.StableHlo.ReadAt

@[expose] public section

set_option maxRecDepth 16384

noncomputable section

namespace Cert.ReferenceIdeal.RVal

open Idealize.ShloMosaic Idealize.ShloMosaic.TcCoe Idealize.SL.Sem
open Cert.ReferenceIdeal Cert.ReferenceIdeal.Gen
open Cert.M

variable (m : (ℓ : Loc nD τ sig) → Buf (Elt Ideal) ℓ)

/-- The row scales as the reference composes them. -/
def refScale (X : FVec Ideal S9216x2560 .bf16) : FVec Ideal S9216x1 .f32 :=
  have v0 : FVec Ideal S9216x2560 .f32 := extf .f32 X bitsLt_bf16_f32
  have v3 : FVec Ideal S9216x1 .f32 := broadcastInDim S9216x1 ![0] bcast_S9216_S9216x1_0
    (Host.reduce FloatOps.maximumf (Host.absf v0) (constant S_ .f32 0xFF800000#32) reducesTo_S9216x2560_S9216_d1 h_S_ : FVec Ideal S9216 .f32)
  select (cmpf .oeq v3 (broadcastInDim S9216x1 ![] bcast_S_S9216x1 (constant S_ .f32 0x00000000#32)))
    (broadcastInDim S9216x1 ![] bcast_S_S9216x1 (constant S_ .f32 0x3F800000#32))
    (Host.divf v3 (broadcastInDim S9216x1 ![] bcast_S_S9216x1 (constant S_ .f32 0x42FE0000#32)))

theorem refScale_at (X : FVec Ideal S9216x2560 .bf16) (r : Fin 9216) :
    refScale X (ix2 r 0) = scaleOf (rowMax fun k : Fin 2560 => X (ix2 r k)) :=
  (hostScale_at bcast_S9216_S9216x1_0 bcast_S_S9216x1 _ r).trans
    (congrArg scaleOf (hostRowMax_at reducesTo_S9216x2560_S9216_d1 (extf .f32 X bitsLt_bf16_f32 : FVec Ideal S9216x2560 .f32) h_S_ r))

/-- The codes, before the conversion to 8 bits, as the reference composes them. -/
def refCodes (X : FVec Ideal S9216x2560 .bf16) : FVec Ideal S9216x2560 .f32 :=
  minimumf (maximumf (Host.roundeven (Host.divf (extf .f32 X bitsLt_bf16_f32 : FVec Ideal S9216x2560 .f32)
      (broadcastInDim S9216x2560 ![0, 1] bcast_S9216x1_S9216x2560_0_1 (refScale X))))
      (broadcastInDim S9216x2560 ![] bcast_S_S9216x2560 (constant S_ .f32 0xC2FE0000#32)))
    (broadcastInDim S9216x2560 ![] bcast_S_S9216x2560 (constant S_ .f32 0x42FE0000#32))

theorem refCodes_at (X : FVec Ideal S9216x2560 .bf16) (r : Fin 9216) (l : Fin 2560) :
    refCodes X (ix2 r l) = codeOf (X (ix2 r l)) (scaleOf (rowMax fun k : Fin 2560 => X (ix2 r k))) := by
  rw [← refScale_at]
  exact hostCodes_at bcast_S9216x1_S9216x2560_0_1 bcast_S_S9216x2560 (extf .f32 X bitsLt_bf16_f32 : FVec Ideal S9216x2560 .f32) (refScale X) r l

theorem V_v16 (c : Dev nD) : V m c main_v16 = refCodes (m ((c : Thread nD τ).loc main_arg0)) := by
  unfold V refCodes refScale
  after_reads_simp

theorem idx : ∀ t : Fin grid0.N, win0_0.index t = ![0, 0] ∧ win0_1.index t = ![0, 0] :=
  (by decide +kernel : ∀ t : Fin grid0.N, _)

theorem emb_eq (t : Fin cfg0.N) (a : Fin 9216) (b : Fin 2560) :
    ((cfg0.win 0).blk t).view.emb (ix2 a b) = ix2 a b := by
  fin_vals t with ht
  blk_ext [idx t]

theorem emb_eq1 (t : Fin cfg0.N) (a : Fin 9216) (b : Fin 2560) :
    ((cfg0.win 1).blk t).view.emb (ix2 a b) = ix2 a b := by
  fin_vals t with ht
  blk_ext [idx t]

theorem read_at (t : Fin cfg0.N) (W : Vec Ideal S9216x2560 .f32) (a : Fin 9216) (b : Fin 2560) :
    ((cfg0.win 0).blk t).view.read (Elt Ideal) W (ix2 a b) = W (ix2 a b) := congrArg W (emb_eq t a b)

theorem iblk_at (c : Dev nD) (t : Fin cfg0.N) (a : Fin 9216) (b : Fin 2560) :
    iblk m c 0 t (ix2 a b) = V m c main_v16 (ix2 a b) := by
  unfold iblk
  generalize V m c = W
  exact read_at t (W main_v16) a b

theorem pay_at (X : Vec Ideal S9216x2560 .f32) (i : S9216x2560.Idx) :
    k0_pay1 X i = FloatOps.fptosi (F := Ideal) (φ := .f32) 8 (X i) := by
  rw [k0_pay1]
  pointwise

theorem final1 (c : Dev nD) : (dats m 0 c).arrAt 1 (cfgs 0).N = fun i => FloatOps.fptosi (F := Ideal) (φ := .f32) 8 (V m c main_v16 i) := by
  refine (dats m 0 c).arrAt_eq_of_covers 1 _ (by decide +kernel) fun t _ y => ?_
  have hb : ∀ i, iblk m c 0 t i = V m c main_v16 i := fun i => by rw [eq_ix2 i]; exact iblk_at m c t _ _
  generalize V m c main_v16 = W at hb ⊢
  blk_simp
  rw [after0_1]; frame_out
  obtain ⟨a, b, rfl⟩ : ∃ (a : Fin 9216) (b : Fin 2560), y = ix2 a b := ⟨y 0, y 1, eq_ix2 y⟩
  exact (pay_at (iblk m c 0 t) (ix2 a b)).trans ((congrArg (FloatOps.fptosi (F := Ideal) (φ := .f32) 8) (hb (ix2 a b))).trans
    (congrArg (fun i => FloatOps.fptosi (F := Ideal) (φ := .f32) 8 (W i)) (emb_eq1 t a b)).symm)

end Cert.ReferenceIdeal.RVal
end
-- ==== Proof.Eqs.lean ====
module

public import proofs.«01_k».proof.Proof.XVal
public import proofs.«01_k».proof.Proof.RVal

/-! The three results of the reference are the three results of the kernel, as functions of the input. -/

@[expose] public section

set_option maxRecDepth 16384

noncomputable section

namespace Cert.Eqs

open Idealize.ShloMosaic
open Cert.ReferenceIdeal Cert.ReferenceIdeal.Gen Cert.ReferenceIdeal.RVal
open Cert.KernelIdeal.XVal (xCodes xRep xRow)

theorem codes_eq (X : FVec Ideal S9216x2560 .bf16) :
    (fun i => FloatOps.fptosi (F := Ideal) (φ := .f32) 8 (refCodes X i)) = xCodes X := by
  funext i
  obtain ⟨a, b, rfl⟩ : ∃ (a : Fin 9216) (b : Fin 2560), i = ix2 a b := ⟨i 0, i 1, eq_ix2 i⟩
  exact congrArg (FloatOps.fptosi (F := Ideal) (φ := .f32) 8) (refCodes_at X a b)

theorem rep_eq (X : FVec Ideal S9216x2560 .bf16) :
    broadcastInDim S9216x128 ![0, 1] bcast_S9216x1_S9216x128_0_1 (refScale X) = xRep X := by
  funext i
  obtain ⟨a, b, rfl⟩ : ∃ (a : Fin 9216) (b : Fin 128), i = ix2 a b := ⟨i 0, i 1, eq_ix2 i⟩
  exact (Cert.M.bcCol_at bcast_S9216x1_S9216x128_0_1 _ a b).trans (refScale_at X a)

theorem row_eq (X : FVec Ideal S9216x2560 .bf16) :
    (fun i => shapeCast S1x9216 (refScale X) shapeCasts_S9216x1_S1x9216 i) = xRow X := by
  funext i
  obtain ⟨a, b, rfl⟩ : ∃ (a : Fin 1) (b : Fin 9216), i = ix2 a b := ⟨i 0, i 1, eq_ix2 i⟩
  obtain rfl : a = 0 := Subsingleton.elim _ _
  exact (Cert.M.colRow_at shapeCasts_S9216x1_S1x9216 _ b).trans (refScale_at X b)

end Cert.Eqs
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.DownRefIdeal.Value
public import proofs.«01_k».proof.Proof.Run.Body
public import proofs.«01_k».proof.Proof.DFrame
public import proofs.«01_k».proof.Proof.DEq
public import proofs.«01_k».proof.Proof.XVal
public import proofs.«01_k».proof.Proof.RVal
public import proofs.«01_k».proof.Proof.Eqs
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

theorem algebraic : Cert.algebraic_KernelIdeal_ReferenceIdeal := by
  pair_intro
  · run_from Cert.KernelIdeal.Gen.run_main m g
  · run_from Cert.ReferenceIdeal.Gen.run_main m' g'
    · rw [Cert.ReferenceIdeal.RVal.final1, Cert.ReferenceIdeal.RVal.V_v16, hagree c]
      exact (Cert.Eqs.codes_eq _).trans (Cert.KernelIdeal.XVal.final1 m c).symm
    · exact (Cert.Eqs.rep_eq _).trans (Cert.KernelIdeal.XVal.final2 m c).symm
    · exact (Cert.Eqs.row_eq _).trans (Cert.KernelIdeal.XVal.final3 m c).symm

theorem algebraicDown : Cert.algebraic_DownIdeal_DownRefIdeal := fun m g m' g' _ hagree =>
  ⟨_, _, _, _, _, _, _, _, Cert.DownIdeal.Res.results m g, Cert.DEq.results m m' g' hagree⟩

theorem claim : Cert.Claim := ⟨Cert.Kernel.Gen.facts, Cert.KernelIdeal.Gen.facts, Cert.ReferenceIdeal.Gen.facts,
  Cert.Down.Gen.facts, Cert.DownIdeal.Gen.facts, Cert.DownRefIdeal.Gen.facts,
  fun m g _ => Cert.Kernel.Gen.frame m g, fun m g _ => Cert.KernelIdeal.Gen.frame m g, fun m g _ => Cert.ReferenceIdeal.Gen.frame m g,
  Cert.DFrame.frame, fun m g _ => Cert.DownIdeal.Run.frame m g, fun m g _ => Cert.DownRefIdeal.Gen.frame m g,
  trivial, algebraic, trivial, algebraicDown⟩

end Cert.Proof

end
